-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![512, 256]⟩ ⟨2, ![512, 1024]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨4, ![2, 128, 16, 64]⟩ ⟨4, ![2, 512, 16, 64]⟩ 1 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 128, 16, 64]⟩ ⟨4, ![2, 512, 16, 64]⟩ 1 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![256, 512]⟩ ⟨2, ![1024, 512]⟩ 0 4 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v83)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v83) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x128x512 : Shape := ⟨3, ![2, 128, 512]⟩
abbrev S512x256 : Shape := ⟨2, ![512, 256]⟩
abbrev S2x128x16x64 : Shape := ⟨4, ![2, 128, 16, 64]⟩
abbrev S256x512 : Shape := ⟨2, ![256, 512]⟩
abbrev S_ : Shape := ⟨0, ![]⟩

class Facts : Prop where
  bcast_S_S2x128x512 : S_.BroadcastsInDim S2x128x512 (![] : Fin 0 → Fin S2x128x512.rank)
  reducesTo_S2x128x512_S_d0_1_2 : S2x128x512.ReducesTo [0, 1, 2] S_
  h_S_ : 0 < S_.numel
  bcast_S_S512x256 : S_.BroadcastsInDim S512x256 (![] : Fin 0 → Fin S512x256.rank)
  reducesTo_S512x256_S_d0_1 : S512x256.ReducesTo [0, 1] S_

variable [Facts]

def fn {F : FTy → Type} [FloatOps F] (main_arg0 : FVec F S2x128x512 .bf16) (main_arg1 : FVec F S512x256 .bf16) (main_arg2 : FVec F S2x128x16x64 .bf16) (main_arg3 : FVec F S2x128x16x64 .bf16) (main_arg4 : FVec F S256x512 .bf16) : IVec S_ 1 :=
  let main_v0 : FVec F S2x128x512 .bf16 := Host.absf main_arg0
  let main_cst : FVec F S_ .bf16 := constant S_ .bf16 0x7F80#16
  let main_v1 : FVec F S2x128x512 .bf16 := broadcastInDim S2x128x512 ![] bcast_S_S2x128x512 main_cst
  let main_v2 : IVec S2x128x512 1 := cmpf .olt main_v0 main_v1
  let main_c : IVec S_ 1 := constantI S_ 1 1#1
  let main_v3 : IVec S_ 1 := (fun x v => Host.reduce IntOp.andi x v reducesTo_S2x128x512_S_d0_1_2 h_S_) main_v2 main_c
  let main_v4 : FVec F S512x256 .bf16 := Host.absf main_arg1
  let main_cst_0 : FVec F S_ .bf16 := constant S_ .bf16 0x7F80#16
  let main_v5 : FVec F S512x256 .bf16 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  main_v8
-- ==== Pre_finite_ReferenceIdeal.lean ====
abbrev S2x128x512 : Shape := ⟨3, ![2, 128, 512]⟩
abbrev S512x1024 : Shape := ⟨2, ![512, 1024]⟩
abbrev S2x512x16x64 : Shape := ⟨4, ![2, 512, 16, 64]⟩
abbrev S1024x512 : Shape := ⟨2, ![1024, 512]⟩
abbrev S_ : Shape := ⟨0, ![]⟩

class Facts : Prop where
  bcast_S_S2x128x512 : S_.BroadcastsInDim S2x128x512 (![] : Fin 0 → Fin S2x128x512.rank)
  reducesTo_S2x128x512_S_d0_1_2 : S2x128x512.ReducesTo [0, 1, 2] S_
  h_S_ : 0 < S_.numel
  bcast_S_S512x1024 : S_.BroadcastsInDim S512x1024 (![] : Fin 0 → Fin S512x1024.rank)
  reducesTo_S512x1024_S_d0_1 : S512x1024.ReducesTo [0, 1] S_

variable [Facts]

def fn {F : FTy → Type} [FloatOps F] (main_arg0 : FVec F S2x128x512 .bf16) (main_arg1 : FVec F S512x1024 .bf16) (main_arg2 : FVec F S2x512x16x64 .bf16) (main_arg3 : FVec F S2x512x16x64 .bf16) (main_arg4 : FVec F S1024x512 .bf16) : IVec S_ 1 :=
  let main_v0 : FVec F S2x128x512 .bf16 := Host.absf main_arg0
  let main_cst : FVec F S_ .bf16 := constant S_ .bf16 0x7F80#16
  let main_v1 : FVec F S2x128x512 .bf16 := broadcastInDim S2x128x512 ![] bcast_S_S2x128x512 main_cst
  let main_v2 : IVec S2x128x512 1 := cmpf .olt main_v0 main_v1
  let main_c : IVec S_ 1 := constantI S_ 1 1#1
  let main_v3 : IVec S_ 1 := (fun x v => Host.reduce IntOp.andi x v reducesTo_S2x128x512_S_d0_1_2 h_S_) main_v2 main_c
  let main_v4 : FVec F S512x1024 .bf16 := Host.absf main_arg1
  let main_cst_0 : FVec F S_ .bf16 := constant S_ .bf16 0x7F80#16
  let main_v5 : FVec F S512x1024 .bf16 := broadcastInDim S512x1024 ![] bcast_S_S512x1024 main_cst_0
  let main_v6 : IVec S512x1024 1 := cmpf .olt main_v4 main_v5
  let main_c_1 : IVec S_ 1 := constantI S_ 1 1#1
  let main_v7 : IVec S_ 1 := (fun x v => Host.reduce IntOp.andi x v reducesTo_S512x1024_S_d0_1 h_S_) main_v6 main_c_1
  let main_v8 : IVec S_ 1 := andi main_v3 main_v7
  main_v8
-- ==== Kernel.lean ====
abbrev S2x128x512 : Shape := ⟨3, ![2, 128, 512]⟩
abbrev S512x256 : Shape := ⟨2, ![512, 256]⟩
abbrev S2x128x16x64 : Shape := ⟨4, ![2, 128, 16, 64]⟩
abbrev S256x512 : Shape := ⟨2, ![256, 512]⟩
abbrev S1x2x128x16x64 : Shape := ⟨5, ![1, 2, 128, 16, 64]⟩
abbrev S2x2x128x16x64 : Shape := ⟨5, ![2, 2, 128, 16, 64]⟩
abbrev S_ : Shape := ⟨0, ![]⟩
abbrev S2 : Shape := ⟨1, ![2]⟩
abbrev S2x1x1x1x1 : Shape := ⟨5, ![2, 1, 1, 1, 1]⟩
abbrev S2x16x2x128x64 : Shape := ⟨5, ![2, 16, 2, 128, 64]⟩
abbrev S2x1 : Shape := ⟨2, ![2, 1]⟩
abbrev S2x128 : Shape := ⟨2, ![2, 128]⟩
abbrev S4x4x2x128x64 : Shape := ⟨5, ![4, 4, 2, 128, 64]⟩
abbrev S4x2x128 : Shape := ⟨3, ![4, 2, 128]⟩
abbrev S4x2x128x128 : Shape := ⟨4, ![4, 2, 128, 128]⟩
abbrev S2x128x128 : Shape := ⟨3, ![2, 128, 128]⟩
abbrev S4 : Shape := ⟨1, ![4]⟩
abbrev S4x2 : Shape := ⟨2, ![4, 2]⟩
abbrev S1 : Shape := ⟨1, ![1]⟩
abbrev S1x4x2x128x64 : Shape := ⟨5, ![1, 4, 2, 128, 64]⟩
abbrev S4x2x128x64 : Shape := ⟨4, ![4, 2, 128, 64]⟩
abbrev S1x2x128 : Shape := ⟨3, ![1, 2, 128]⟩
abbrev S1x128x512 : Shape := ⟨3, ![1, 128, 512]⟩
abbrev S128x512 : Shape := ⟨2, ![128, 512]⟩
abbrev S128x256 : Shape := ⟨2, ![128, 256]⟩
abbrev S128x128 : Shape := ⟨2, ![128, 128]⟩
abbrev S1x1 : Shape := ⟨2, ![1, 1]⟩
abbrev S128x64 : Shape := ⟨2, ![128, 64]⟩
abbrev S1x1x1x128x64 : Shape := ⟨5, ![1, 1, 1, 128, 64]⟩
abbrev S128 : Shape := ⟨1, ![128]⟩
abbrev S128x1 : Shape := ⟨2, ![128, 1]⟩
abbrev S1x1x1 : Shape := ⟨3, ![1, 1, 1]⟩
abbrev S1x128x128 : Shape := ⟨3, ![1, 128, 128]⟩
abbrev S1x1x128x128 : Shape := ⟨4, ![1, 1, 128, 128]⟩
abbrev S1x2x128x128 : Shape := ⟨4, ![1, 2, 128, 128]⟩

abbrev nBuf : Space → Nat
  | .hbm => 34
  | .vmem => 14
  | .smem => 0
  | _ => 0

abbrev bufTy : (tb : Table) → Fin (tcTables nBuf tb) → BufTy
  | .hbm, ⟨0, _⟩ => ⟨S2x128x512, .bf16⟩
  | .hbm, ⟨1, _⟩ => ⟨S512x256, .bf16⟩
  | .hbm, ⟨2, _⟩ => ⟨S2x128x16x64, .bf16⟩
  | .hbm, ⟨3, _⟩ => ⟨S2x128x16x64, .bf16⟩
  | .hbm, ⟨4, _⟩ => ⟨S256x512, .bf16⟩
  | .hbm, ⟨5, _⟩ => ⟨S2x128x16x64, .f32⟩
  | .hbm, ⟨6, _⟩ => ⟨S2x128x16x64, .f32⟩
  | .hbm, ⟨7, _⟩ => ⟨S1x2x128x16x64, .f32⟩
  | .hbm, ⟨8, _⟩ => ⟨S1x2x128x16x64, .f32⟩
  | .hbm, ⟨9, _⟩ => ⟨S2x2x128x16x64, .f32⟩
  | .hbm, ⟨10, _⟩ => ⟨S2x2x128x16x64, .f32⟩
  | .hbm, ⟨11, _⟩ => ⟨S_, .f32⟩
  | .hbm, ⟨12, _⟩ => ⟨S2, .f32⟩
  | .hbm, ⟨13, _⟩ => ⟨S_, .f32⟩
  | .hbm, ⟨14, _⟩ => ⟨S2, .f32⟩
  | .hbm, ⟨15, _⟩ => ⟨S2, .f32⟩
  | .hbm, ⟨16, _⟩ => ⟨S2x1x1x1x1, .f32⟩
  | .hbm, ⟨17, _⟩ => ⟨S2x2x128x16x64, .f32⟩
  | .hbm, ⟨18, _⟩ => ⟨S2x2x128x16x64, .f32⟩
  | .hbm, ⟨19, _⟩ => ⟨S2x2x128x16x64, .f32⟩
  | .hbm, ⟨20, _⟩ => ⟨S_, .i32⟩
  | .hbm, ⟨21, _⟩ => ⟨S_, .i32⟩
  | .hbm, ⟨22, _⟩ => ⟨S_, .f32⟩
  | .hbm, ⟨23, _⟩ => ⟨S2x2x128x16x64, .f32⟩
  | .hbm, ⟨24, _⟩ => ⟨S2x2x128x16x64, .f32⟩
  | .hbm, ⟨25, _⟩ => ⟨S_, .f32⟩
  | .hbm, ⟨26, _⟩ => ⟨S2x2x128x16x64, .f32⟩
  | .hbm, ⟨27, _⟩ => ⟨S2x2x128x16x64, .f32⟩
  | .hbm, ⟨28, _⟩ => ⟨S2x16x2x128x64, .f32⟩
  | .hbm, ⟨29, _⟩ => ⟨S2x16x2x128x64, .i32⟩
  | .hbm, ⟨30, _⟩ => ⟨S2x16x2x128x64, .i8⟩
  | .hbm, ⟨31, _⟩ => ⟨S2x1, .f32⟩
  | .hbm, ⟨32, _⟩ => ⟨S2x128, .f32⟩
  | .hbm, ⟨33, _⟩ => ⟨S2x128x512, .f32⟩
  | .local _ .vmem, ⟨0, _⟩ => ⟨S2x128x512, .bf16⟩
  | .local _ .vmem, ⟨1, _⟩ => ⟨S512x256, .bf16⟩
  | .local _ .vmem, ⟨2, _⟩ => ⟨S2x16x2x128x64, .i8⟩
  | .local _ .vmem, ⟨3, _⟩ => ⟨S256x512, .bf16⟩
  | .local _ .vmem, ⟨4, _⟩ => ⟨S2x128, .f32⟩
  | .local _ .vmem, ⟨5, _⟩ => ⟨S2x128x512, .f32⟩
  | .local _ .vmem, ⟨6, _⟩ => ⟨S4x4x2x128x64, .i8⟩
  | .local _ .vmem, ⟨7, _⟩ => ⟨S4x4x2x128x64, .i8⟩
  | .local _ .vmem, ⟨8, _⟩ => ⟨S4x2x128, .f32⟩
  | .local _ .vmem, ⟨9, _⟩ => ⟨S2x128x512, .bf16⟩
  | .local _ .vmem, ⟨10, _⟩ => ⟨S4x2x128x128, .bf16⟩
  | .local _ .vmem, ⟨11, _⟩ => ⟨S2x128x128, .f32⟩
  | .local _ .vmem, ⟨12, _⟩ => ⟨S2x128x128, .bf16⟩
  | .local _ .vmem, ⟨13, _⟩ => ⟨S4x2x128x128, .bf16⟩
  | _, _ => ⟨S2x128x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 1 → Bool
  | ⟨0, _⟩ => false
  | _ => false

abbrev dmaSemScoped : Fin 62 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | _ => false

abbrev sig : RefSig :=
  (ofTc nBuf bufTy 1 62 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c : Ref sig .tc := ⟨.hbm, 20, rfl⟩
abbrev main_c_1 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_call1_v3 : Ref sig .tc := ⟨.hbm, 25, rfl⟩
abbrev main_call1_v4 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_scratch6 : Ref sig .tc := ⟨.vmem, 12, rfl⟩
abbrev cc0_scratch7 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let v5 : BitVec 32 := Scalar.remsi v4 c4_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_4 : BitVec 32 := 4#32
  let v9 : BitVec 32 := Scalar.remsi v8 c4_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v12 : BitVec 32 := Scalar.addi v2 c3_i32
  let c4_i32_8 : BitVec 32 := 4#32
  let v13 : BitVec 32 := Scalar.remsi v12 c4_i32_8
  let c1_i32_10 : BitVec 32 := 1#32
  let v14 : BitVec 32 := Scalar.muli v13 c1_i32_10
  let v15 : BitVec 32 := Scalar.addi c0_i32_11 v14
  v15.toNat
def k0_off1 (d0 : Dev nD) (c1_i32_13 : BitVec 32) : Fin 5 → Nat :=
  let c0_i32_16 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v16 : BitVec 32 := Scalar.addi v2 c1_i32_13
  let c4_i32_14 : BitVec 32 := 4#32
  let v17 : BitVec 32 := Scalar.remsi v16 c4_i32_14
  let c4_i32_15 : BitVec 32 := 4#32
  let v18 : BitVec 32 := Scalar.muli v17 c4_i32_15
  let c0_i32_26 : BitVec 32 := 0#32
  let c0_i32_27 : BitVec 32 := 0#32
  let c0_i32_28 : BitVec 32 := 0#32
  ![0, v18.toNat, 0, 0, 0]
def k0_dev4 (d0 : Dev nD) : Nat :=
  let c0_i32_21 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_13 : BitVec 32 := 1#32
  let v16 : BitVec 32 := Scalar.addi v2 c1_i32_13
  let c4_i32_14 : BitVec 32 := 4#32
  let v17 : BitVec 32 := Scalar.remsi v16 c4_i32_14
  let c1_i32_20 : BitVec 32 := 1#32
  let v19 : BitVec 32 := Scalar.muli v17 c1_i32_20
  let v20 : BitVec 32 := Scalar.addi c0_i32_21 v19
  v20.toNat
def k0_off2 (d0 : Dev nD) (c1_i32_13 : BitVec 32) : Fin 5 → Nat :=
  let c1_i32_30 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v16 : BitVec 32 := Scalar.addi v2 c1_i32_13
  let c4_i32_14 : BitVec 32 := 4#32
  let v17 : BitVec 32 := Scalar.remsi v16 c4_i32_14
  let c4_i32_29 : BitVec 32 := 4#32
  let v29 : BitVec 32 := Scalar.muli v17 c4_i32_29
  let c0_i32_40 : BitVec 32 := 0#32
  let c0_i32_41 : BitVec 32 := 0#32
  let c0_i32_42 : BitVec 32 := 0#32
  ![1, v29.toNat, 0, 0, 0]
def k0_dev5 (d0 : Dev nD) : Nat :=
  let c0_i32_35 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_13 : BitVec 32 := 1#32
  let v16 : BitVec 32 := Scalar.addi v2 c1_i32_13
  let c4_i32_14 : BitVec 32 := 4#32
  let v17 : BitVec 32 := Scalar.remsi v16 c4_i32_14
  let c1_i32_34 : BitVec 32 := 1#32
  let v30 : BitVec 32 := Scalar.muli v17 c1_i32_34
  let v31 : BitVec 32 := Scalar.addi c0_i32_35 v30
  v31.toNat
def k0_dev6 (d0 : Dev nD) : Nat :=
  let c0_i32_47 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_13 : BitVec 32 := 1#32
  let v16 : BitVec 32 := Scalar.addi v2 c1_i32_13
  let c4_i32_14 : BitVec 32 := 4#32
  let v17 : BitVec 32 := Scalar.remsi v16 c4_i32_14
  let c1_i32_46 : BitVec 32 := 1#32
  let v40 : BitVec 32 := Scalar.muli v17 c1_i32_46
  let v41 : BitVec 32 := Scalar.addi c0_i32_47 v40
  v41.toNat
def k0_dev7 (d0 : Dev nD) : Nat :=
  let c0_i32_58 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_50 : BitVec 32 := 2#32
  let v48 : BitVec 32 := Scalar.addi v2 c2_i32_50
  let c4_i32_51 : BitVec 32 := 4#32
  let v49 : BitVec 32 := Scalar.remsi v48 c4_i32_51
  let c1_i32_57 : BitVec 32 := 1#32
  let v51 : BitVec 32 := Scalar.muli v49 c1_i32_57
  let v52 : BitVec 32 := Scalar.addi c0_i32_58 v51
  v52.toNat
def k0_dev8 (d0 : Dev nD) : Nat :=
  let c0_i32_72 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_50 : BitVec 32 := 2#32
  let v48 : BitVec 32 := Scalar.addi v2 c2_i32_50
  let c4_i32_51 : BitVec 32 := 4#32
  let v49 : BitVec 32 := Scalar.remsi v48 c4_i32_51
  let c1_i32_71 : BitVec 32 := 1#32
  let v62 : BitVec 32 := Scalar.muli v49 c1_i32_71
  let v63 : BitVec 32 := Scalar.addi c0_i32_72 v62
  v63.toNat
def k0_dev9 (d0 : Dev nD) : Nat :=
  let c0_i32_84 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_50 : BitVec 32 := 2#32
  let v48 : BitVec 32 := Scalar.addi v2 c2_i32_50
  let c4_i32_51 : BitVec 32 := 4#32
  let v49 : BitVec 32 := Scalar.remsi v48 c4_i32_51
  let c1_i32_83 : BitVec 32 := 1#32
  let v72 : BitVec 32 := Scalar.muli v49 c1_i32_83
  let v73 : BitVec 32 := Scalar.addi c0_i32_84 v72
  v73.toNat
def k0_dev10 (d0 : Dev nD) : Nat :=
  let c0_i32_95 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_87 : BitVec 32 := 3#32
  let v80 : BitVec 32 := Scalar.addi v2 c3_i32_87
  let c4_i32_88 : BitVec 32 := 4#32
  let v81 : BitVec 32 := Scalar.remsi v80 c4_i32_88
  let c1_i32_94 : BitVec 32 := 1#32
  let v83 : BitVec 32 := Scalar.muli v81 c1_i32_94
  let v84 : BitVec 32 := Scalar.addi c0_i32_95 v83
  v84.toNat
def k0_dev11 (d0 : Dev nD) : Nat :=
  let c0_i32_109 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_87 : BitVec 32 := 3#32
  let v80 : BitVec 32 := Scalar.addi v2 c3_i32_87
  let c4_i32_88 : BitVec 32 := 4#32
  let v81 : BitVec 32 := Scalar.remsi v80 c4_i32_88
  let c1_i32_108 : BitVec 32 := 1#32
  let v94 : BitVec 32 := Scalar.muli v81 c1_i32_108
  let v95 : BitVec 32 := Scalar.addi c0_i32_109 v94
  v95.toNat
def k0_dev12 (d0 : Dev nD) : Nat :=
  let c0_i32_121 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_87 : BitVec 32 := 3#32
  let v80 : BitVec 32 := Scalar.addi v2 c3_i32_87
  let c4_i32_88 : BitVec 32 := 4#32
  let v81 : BitVec 32 := Scalar.remsi v80 c4_i32_88
  let c1_i32_120 : BitVec 32 := 1#32
  let v104 : BitVec 32 := Scalar.muli v81 c1_i32_120
  let v105 : BitVec 32 := Scalar.addi c0_i32_121 v104
  v105.toNat
def k0_off3 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_761 : BitVec 32 := 0#32
  ![v2.toNat, 0]
def k0_off4 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_760 : BitVec 32 := 0#32
  let c0_i32_766 : BitVec 32 := 0#32
  let c0_i32_767 : BitVec 32 := 0#32
  ![v2.toNat, 0, 0, 0]
def k0_off5 (d0 : Dev nD) (c1_i32_756 : BitVec 32) : Fin 3 → Nat :=
  let c0_i32_759 : BitVec 32 := 0#32
  let c0_i32_768 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v957 : BitVec 32 := Scalar.addi v2 c1_i32_756
  let c4_i32_757 : BitVec 32 := 4#32
  let v958 : BitVec 32 := Scalar.remsi v957 c4_i32_757
  let c128_i32_758 : BitVec 32 := 128#32
  let v959 : BitVec 32 := Scalar.muli v958 c128_i32_758
  ![0, 0, v959.toNat]
def k0_dev13 (d0 : Dev nD) : Nat :=
  let c0_i32_765 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_756 : BitVec 32 := 1#32
  let v957 : BitVec 32 := Scalar.addi v2 c1_i32_756
  let c4_i32_757 : BitVec 32 := 4#32
  let v958 : BitVec 32 := Scalar.remsi v957 c4_i32_757
  let c1_i32_764 : BitVec 32 := 1#32
  let v960 : BitVec 32 := Scalar.muli v958 c1_i32_764
  let v961 : BitVec 32 := Scalar.addi c0_i32_765 v960
  v961.toNat
def k0_dev14 (d0 : Dev nD) : Nat :=
  let c0_i32_778 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_769 : BitVec 32 := 2#32
  let v970 : BitVec 32 := Scalar.addi v2 c2_i32_769
  let c4_i32_770 : BitVec 32 := 4#32
  let v971 : BitVec 32 := Scalar.remsi v970 c4_i32_770
  let c1_i32_777 : BitVec 32 := 1#32
  let v973 : BitVec 32 := Scalar.muli v971 c1_i32_777
  let v974 : BitVec 32 := Scalar.addi c0_i32_778 v973
  v974.toNat
def k0_dev15 (d0 : Dev nD) : Nat :=
  let c0_i32_791 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_782 : BitVec 32 := 3#32
  let v983 : BitVec 32 := Scalar.addi v2 c3_i32_782
  let c4_i32_783 : BitVec 32 := 4#32
  let v984 : BitVec 32 := Scalar.remsi v983 c4_i32_783
  let c1_i32_790 : BitVec 32 := 1#32
  let v986 : BitVec 32 := Scalar.muli v984 c1_i32_790
  let v987 : BitVec 32 := Scalar.addi c0_i32_791 v986
  v987.toNat
def k0_off6 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_816 : BitVec 32 := 1#32
  ![v2.toNat, 1]
def k0_off7 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_815 : BitVec 32 := 1#32
  let c0_i32_821 : BitVec 32 := 0#32
  let c0_i32_822 : BitVec 32 := 0#32
  ![v2.toNat, 1, 0, 0]
def k0_off8 (d0 : Dev nD) (c1_i32_811 : BitVec 32) : Fin 3 → Nat :=
  let c1_i32_814 : BitVec 32 := 1#32
  let c0_i32_823 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1031 : BitVec 32 := Scalar.addi v2 c1_i32_811
  let c4_i32_812 : BitVec 32 := 4#32
  let v1032 : BitVec 32 := Scalar.remsi v1031 c4_i32_812
  let c128_i32_813 : BitVec 32 := 128#32
  let v1033 : BitVec 32 := Scalar.muli v1032 c128_i32_813
  ![1, 0, v1033.toNat]
def k0_dev16 (d0 : Dev nD) : Nat :=
  let c0_i32_820 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_811 : BitVec 32 := 1#32
  let v1031 : BitVec 32 := Scalar.addi v2 c1_i32_811
  let c4_i32_812 : BitVec 32 := 4#32
  let v1032 : BitVec 32 := Scalar.remsi v1031 c4_i32_812
  let c1_i32_819 : BitVec 32 := 1#32
  let v1034 : BitVec 32 := Scalar.muli v1032 c1_i32_819
  let v1035 : BitVec 32 := Scalar.addi c0_i32_820 v1034
  v1035.toNat
def k0_dev17 (d0 : Dev nD) : Nat :=
  let c0_i32_833 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_824 : BitVec 32 := 2#32
  let v1044 : BitVec 32 := Scalar.addi v2 c2_i32_824
  let c4_i32_825 : BitVec 32 := 4#32
  let v1045 : BitVec 32 := Scalar.remsi v1044 c4_i32_825
  let c1_i32_832 : BitVec 32 := 1#32
  let v1047 : BitVec 32 := Scalar.muli v1045 c1_i32_832
  let v1048 : BitVec 32 := Scalar.addi c0_i32_833 v1047
  v1048.toNat
def k0_dev18 (d0 : Dev nD) : Nat :=
  let c0_i32_846 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_837 : BitVec 32 := 3#32
  let v1057 : BitVec 32 := Scalar.addi v2 c3_i32_837
  let c4_i32_838 : BitVec 32 := 4#32
  let v1058 : BitVec 32 := Scalar.remsi v1057 c4_i32_838
  let c1_i32_845 : BitVec 32 := 1#32
  let v1060 : BitVec 32 := Scalar.muli v1058 c1_i32_845
  let v1061 : BitVec 32 := Scalar.addi c0_i32_846 v1060
  v1061.toNat
def k0_off9 (d0 : Dev nD) (c3_i32_850 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1070 : BitVec 32 := Scalar.addi v2 c3_i32_850
  let c4_i32_851 : BitVec 32 := 4#32
  let v1071 : BitVec 32 := Scalar.remsi v1070 c4_i32_851
  let c0_i32_854 : BitVec 32 := 0#32
  ![v1071.toNat, 0]
def k0_off10 (d0 : Dev nD) (c3_i32_850 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1070 : BitVec 32 := Scalar.addi v2 c3_i32_850
  let c4_i32_851 : BitVec 32 := 4#32
  let v1071 : BitVec 32 := Scalar.remsi v1070 c4_i32_851
  let c0_i32_853 : BitVec 32 := 0#32
  let c0_i32_859 : BitVec 32 := 0#32
  let c0_i32_860 : BitVec 32 := 0#32
  ![v1071.toNat, 0, 0, 0]
def k0_off11 (d0 : Dev nD) (c1_i32_892 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1102 : BitVec 32 := Scalar.addi v2 c1_i32_892
  let c4_i32_893 : BitVec 32 := 4#32
  let v1103 : BitVec 32 := Scalar.remsi v1102 c4_i32_893
  let v1104 : Index := Scalar.indexCast v1103
  let c0_894 : Index := 0#32
  let c0_895 : Index := 0#32
  let c0_896 : Index := 0#32
  ![v1104.toNat, 0, 0, 0]
def k0_dev19 (d0 : Dev nD) : Nat :=
  let c0_i32_926 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_918 : BitVec 32 := 1#32
  let v1139 : BitVec 32 := Scalar.addi v2 c1_i32_918
  let c4_i32_919 : BitVec 32 := 4#32
  let v1140 : BitVec 32 := Scalar.remsi v1139 c4_i32_919
  let c1_i32_925 : BitVec 32 := 1#32
  let v1141 : BitVec 32 := Scalar.muli v1140 c1_i32_925
  let v1142 : BitVec 32 := Scalar.addi c0_i32_926 v1141
  v1142.toNat
def k0_dev20 (d0 : Dev nD) : Nat :=
  let c0_i32_939 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_931 : BitVec 32 := 2#32
  let v1151 : BitVec 32 := Scalar.addi v2 c2_i32_931
  let c4_i32_932 : BitVec 32 := 4#32
  let v1152 : BitVec 32 := Scalar.remsi v1151 c4_i32_932
  let c1_i32_938 : BitVec 32 := 1#32
  let v1153 : BitVec 32 := Scalar.muli v1152 c1_i32_938
  let v1154 : BitVec 32 := Scalar.addi c0_i32_939 v1153
  v1154.toNat
def k0_dev21 (d0 : Dev nD) : Nat :=
  let c0_i32_952 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_944 : BitVec 32 := 3#32
  let v1163 : BitVec 32 := Scalar.addi v2 c3_i32_944
  let c4_i32_945 : BitVec 32 := 4#32
  let v1164 : BitVec 32 := Scalar.remsi v1163 c4_i32_945
  let c1_i32_951 : BitVec 32 := 1#32
  let v1165 : BitVec 32 := Scalar.muli v1164 c1_i32_951
  let v1166 : BitVec 32 := Scalar.addi c0_i32_952 v1165
  v1166.toNat
def k0_off12 (d0 : Dev nD) (c3_i32_957 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1175 : BitVec 32 := Scalar.addi v2 c3_i32_957
  let c4_i32_958 : BitVec 32 := 4#32
  let v1176 : BitVec 32 := Scalar.remsi v1175 c4_i32_958
  let c1_i32_961 : BitVec 32 := 1#32
  ![v1176.toNat, 1]
def k0_off13 (d0 : Dev nD) (c3_i32_957 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1175 : BitVec 32 := Scalar.addi v2 c3_i32_957
  let c4_i32_958 : BitVec 32 := 4#32
  let v1176 : BitVec 32 := Scalar.remsi v1175 c4_i32_958
  let c1_i32_960 : BitVec 32 := 1#32
  let c0_i32_966 : BitVec 32 := 0#32
  let c0_i32_967 : BitVec 32 := 0#32
  ![v1176.toNat, 1, 0, 0]
def k0_off14 (d0 : Dev nD) (c1_i32_999 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1207 : BitVec 32 := Scalar.addi v2 c1_i32_999
  let c4_i32_1000 : BitVec 32 := 4#32
  let v1208 : BitVec 32 := Scalar.remsi v1207 c4_i32_1000
  let v1209 : Index := Scalar.indexCast v1208
  let c1_1001 : Index := 1#32
  let c0_1002 : Index := 0#32
  let c0_1003 : Index := 0#32
  ![v1209.toNat, 1, 0, 0]
def k0_dev22 (d0 : Dev nD) : Nat :=
  let c0_i32_1033 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1025 : BitVec 32 := 1#32
  let v1244 : BitVec 32 := Scalar.addi v2 c1_i32_1025
  let c4_i32_1026 : BitVec 32 := 4#32
  let v1245 : BitVec 32 := Scalar.remsi v1244 c4_i32_1026
  let c1_i32_1032 : BitVec 32 := 1#32
  let v1246 : BitVec 32 := Scalar.muli v1245 c1_i32_1032
  let v1247 : BitVec 32 := Scalar.addi c0_i32_1033 v1246
  v1247.toNat
def k0_dev23 (d0 : Dev nD) : Nat :=
  let c0_i32_1046 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_1038 : BitVec 32 := 2#32
  let v1256 : BitVec 32 := Scalar.addi v2 c2_i32_1038
  let c4_i32_1039 : BitVec 32 := 4#32
  let v1257 : BitVec 32 := Scalar.remsi v1256 c4_i32_1039
  let c1_i32_1045 : BitVec 32 := 1#32
  let v1258 : BitVec 32 := Scalar.muli v1257 c1_i32_1045
  let v1259 : BitVec 32 := Scalar.addi c0_i32_1046 v1258
  v1259.toNat
def k0_dev24 (d0 : Dev nD) : Nat :=
  let c0_i32_1059 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_1051 : BitVec 32 := 3#32
  let v1268 : BitVec 32 := Scalar.addi v2 c3_i32_1051
  let c4_i32_1052 : BitVec 32 := 4#32
  let v1269 : BitVec 32 := Scalar.remsi v1268 c4_i32_1052
  let c1_i32_1058 : BitVec 32 := 1#32
  let v1270 : BitVec 32 := Scalar.muli v1269 c1_i32_1058
  let v1271 : BitVec 32 := Scalar.addi c0_i32_1059 v1270
  v1271.toNat
abbrev stage0_0 : Fin 1 → Memref sig .tc .vmem S2x128x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x16x2x128x64 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x128x512 : Shape := ⟨3, ![2, 128, 512]⟩
abbrev S512x1024 : Shape := ⟨2, ![512, 1024]⟩
abbrev S2x512x16x64 : Shape := ⟨4, ![2, 512, 16, 64]⟩
abbrev S1024x512 : Shape := ⟨2, ![1024, 512]⟩
abbrev S2x4x128x16x64 : Shape := ⟨5, ![2, 4, 128, 16, 64]⟩
abbrev S_ : Shape := ⟨0, ![]⟩
abbrev S4 : Shape := ⟨1, ![4]⟩
abbrev S1x4x1x1x1 : Shape := ⟨5, ![1, 4, 1, 1, 1]⟩
abbrev S2x128x1024 : Shape := ⟨3, ![2, 128, 1024]⟩
abbrev S2x128x16x64 : Shape := ⟨4, ![2, 128, 16, 64]⟩
abbrev S128 : Shape := ⟨1, ![128]⟩
abbrev S128x1 : Shape := ⟨2, ![128, 1]⟩
abbrev S512 : Shape := ⟨1, ![512]⟩
abbrev S1x512 : Shape := ⟨2, ![1, 512]⟩
abbrev S128x512 : Shape := ⟨2, ![128, 512]⟩
abbrev S2x16x128x512 : Shape := ⟨4, ![2, 16, 128, 512]⟩
abbrev S1x1x128x512 : Shape := ⟨4, ![1, 1, 128, 512]⟩
abbrev S2x16x128 : Shape := ⟨3, ![2, 16, 128]⟩
abbrev S2x16x128x1 : Shape := ⟨4, ![2, 16, 128, 1]⟩
abbrev S1x1x128x1 : Shape := ⟨4, ![1, 1, 128, 1]⟩
abbrev S2x16x64x128 : Shape := ⟨4, ![2, 16, 64, 128]⟩

abbrev nBuf : Space → Nat
  | .hbm => 126
  | .vmem => 0
  | .smem => 0
  | _ => 0

abbrev bufTy : (tb : Table) → Fin (tcTables nBuf tb) → BufTy
  | .hbm, ⟨0, _⟩ => ⟨S2x128x512, .bf16⟩
  | .hbm, ⟨1, _⟩ => ⟨S512x1024, .bf16⟩
  | .hbm, ⟨2, _⟩ => ⟨S2x512x16x64, .bf16⟩
  | .hbm, ⟨3, _⟩ => ⟨S2x512x16x64, .bf16⟩
  | .hbm, ⟨4, _⟩ => ⟨S1024x512, .bf16⟩
  | .hbm, ⟨5, _⟩ => ⟨S2x512x16x64, .f32⟩
  | .hbm, ⟨6, _⟩ => ⟨S2x4x128x16x64, .f32⟩
  | .hbm, ⟨7, _⟩ => ⟨S2x4x128x16x64, .f32⟩
  | .hbm, ⟨8, _⟩ => ⟨S_, .f32⟩
  | .hbm, ⟨9, _⟩ => ⟨S4, .f32⟩
  | .hbm, ⟨10, _⟩ => ⟨S_, .f32⟩
  | .hbm, ⟨11, _⟩ => ⟨S4, .f32⟩
  | .hbm, ⟨12, _⟩ => ⟨S4, .f32⟩
  | .hbm, ⟨13, _⟩ => ⟨S1x4x1x1x1, .f32⟩
  | .hbm, ⟨14, _⟩ => ⟨S2x4x128x16x64, .f32⟩
  | .hbm, ⟨15, _⟩ => ⟨S2x4x128x16x64, .f32⟩
  | .hbm, ⟨16, _⟩ => ⟨S2x4x128x16x64, .f32⟩
  | .hbm, ⟨17, _⟩ => ⟨S_, .i32⟩
  | .hbm, ⟨18, _⟩ => ⟨S_, .i32⟩
  | .hbm, ⟨19, _⟩ => ⟨S_, .f32⟩
  | .hbm, ⟨20, _⟩ => ⟨S2x4x128x16x64, .f32⟩
  | .hbm, ⟨21, _⟩ => ⟨S2x4x128x16x64, .f32⟩
  | .hbm, ⟨22, _⟩ => ⟨S_, .f32⟩
  | .hbm, ⟨23, _⟩ => ⟨S2x4x128x16x64, .f32⟩
  | .hbm, ⟨24, _⟩ => ⟨S2x4x128x16x64, .f32⟩
  | .hbm, ⟨25, _⟩ => ⟨S2x4x128x16x64, .i32⟩
  | .hbm, ⟨26, _⟩ => ⟨S2x4x128x16x64, .i8⟩
  | .hbm, ⟨27, _⟩ => ⟨S2x4x128x16x64, .i32⟩
  | .hbm, ⟨28, _⟩ => ⟨S2x4x128x16x64, .f32⟩
  | .hbm, ⟨29, _⟩ => ⟨S2x4x128x16x64, .f32⟩
  | .hbm, ⟨30, _⟩ => ⟨S2x4x128x16x64, .f32⟩
  | .hbm, ⟨31, _⟩ => ⟨S2x512x16x64, .f32⟩
  | .hbm, ⟨32, _⟩ => ⟨S2x512x16x64, .bf16⟩
  | .hbm, ⟨33, _⟩ => ⟨S2x512x16x64, .f32⟩
  | .hbm, ⟨34, _⟩ => ⟨S2x4x128x16x64, .f32⟩
  | .hbm, ⟨35, _⟩ => ⟨S2x4x128x16x64, .f32⟩
  | .hbm, ⟨36, _⟩ => ⟨S_, .f32⟩
  | .hbm, ⟨37, _⟩ => ⟨S4, .f32⟩
  | .hbm, ⟨38, _⟩ => ⟨S_, .f32⟩
  | .hbm, ⟨39, _⟩ => ⟨S4, .f32⟩
  | .hbm, ⟨40, _⟩ => ⟨S4, .f32⟩
  | .hbm, ⟨41, _⟩ => ⟨S1x4x1x1x1, .f32⟩
  | .hbm, ⟨42, _⟩ => ⟨S2x4x128x16x64, .f32⟩
  | .hbm, ⟨43, _⟩ => ⟨S2x4x128x16x64, .f32⟩
  | .hbm, ⟨44, _⟩ => ⟨S2x4x128x16x64, .f32⟩
  | .hbm, ⟨45, _⟩ => ⟨S_, .i32⟩
  | .hbm, ⟨46, _⟩ => ⟨S_, .i32⟩
  | .hbm, ⟨47, _⟩ => ⟨S_, .f32⟩
  | .hbm, ⟨48, _⟩ => ⟨S2x4x128x16x64, .f32⟩
  | .hbm, ⟨49, _⟩ => ⟨S2x4x128x16x64, .f32⟩
  | .hbm, ⟨50, _⟩ => ⟨S_, .f32⟩
  | .hbm, ⟨51, _⟩ => ⟨S2x4x128x16x64, .f32⟩
  | .hbm, ⟨52, _⟩ => ⟨S2x4x128x16x64, .f32⟩
  | .hbm, ⟨53, _⟩ => ⟨S2x4x128x16x64, .i32⟩
  | .hbm, ⟨54, _⟩ => ⟨S2x4x128x16x64, .i8⟩
  | .hbm, ⟨55, _⟩ => ⟨S2x4x128x16x64, .i32⟩
  | .hbm, ⟨56, _⟩ => ⟨S2x4x128x16x64, .f32⟩
  | .hbm, ⟨57, _⟩ => ⟨S2x4x128x16x64, .f32⟩
  | .hbm, ⟨58, _⟩ => ⟨S2x4x128x16x64, .f32⟩
  | .hbm, ⟨59, _⟩ => ⟨S2x512x16x64, .f32⟩
  | .hbm, ⟨60, _⟩ => ⟨S2x512x16x64, .bf16⟩
  | .hbm, ⟨61, _⟩ => ⟨S2x128x1024, .f32⟩
  | .hbm, ⟨62, _⟩ => ⟨S2x128x1024, .bf16⟩
  | .hbm, ⟨63, _⟩ => ⟨S2x128x16x64, .bf16⟩
  | .hbm, ⟨64, _⟩ => ⟨S128, .i32⟩
  | .hbm, ⟨65, _⟩ => ⟨S128x1, .i32⟩
  | .hbm, ⟨66, _⟩ => ⟨S512, .i32⟩
  | .hbm, ⟨67, _⟩ => ⟨S1x512, .i32⟩
  | .hbm, ⟨68, _⟩ => ⟨S128x512, .i32⟩
  | .hbm, ⟨69, _⟩ => ⟨S128x512, .i32⟩
  | .hbm, ⟨70, _⟩ => ⟨S128x512, .i32⟩
  | .hbm, ⟨71, _⟩ => ⟨S128x512, .i32⟩
  | .hbm, ⟨72, _⟩ => ⟨S_, .i32⟩
  | .hbm, ⟨73, _⟩ => ⟨S128x512, .i32⟩
  | .hbm, ⟨74, _⟩ => ⟨S128x512, .i1⟩
  | .hbm, ⟨75, _⟩ => ⟨S_, .i32⟩
  | .hbm, ⟨76, _⟩ => ⟨S1x512, .i32⟩
  | .hbm, ⟨77, _⟩ => ⟨S1x512, .i1⟩
  | .hbm, ⟨78, _⟩ => ⟨S_, .i32⟩
  | .hbm, ⟨79, _⟩ => ⟨S128x1, .i32⟩
  | .hbm, ⟨80, _⟩ => ⟨S128x1, .i1⟩
  | .hbm, ⟨81, _⟩ => ⟨S128x512, .i1⟩
  | .hbm, ⟨82, _⟩ => ⟨S128x512, .i1⟩
  | .hbm, ⟨83, _⟩ => ⟨S128x512, .i1⟩
  | .hbm, ⟨84, _⟩ => ⟨S128x512, .i1⟩
  | .hbm, ⟨85, _⟩ => ⟨S2x16x128x512, .f32⟩
  | .hbm, ⟨86, _⟩ => ⟨S_, .f32⟩
  | .hbm, ⟨87, _⟩ => ⟨S2x16x128x512, .f32⟩
  | .hbm, ⟨88, _⟩ => ⟨S2x16x128x512, .f32⟩
  | .hbm, ⟨89, _⟩ => ⟨S1x1x128x512, .i1⟩
  | .hbm, ⟨90, _⟩ => ⟨S_, .f32⟩
  | .hbm, ⟨91, _⟩ => ⟨S_, .f32⟩
  | .hbm, ⟨92, _⟩ => ⟨S2x16x128x512, .i1⟩
  | .hbm, ⟨93, _⟩ => ⟨S2x16x128x512, .f32⟩
  | .hbm, ⟨94, _⟩ => ⟨S2x16x128x512, .f32⟩
  | .hbm, ⟨95, _⟩ => ⟨S_, .f32⟩
  | .hbm, ⟨96, _⟩ => ⟨S2x16x128, .f32⟩
  | .hbm, ⟨97, _⟩ => ⟨S2x16x128x1, .f32⟩
  | .hbm, ⟨98, _⟩ => ⟨S2x16x128x512, .f32⟩
  | .hbm, ⟨99, _⟩ => ⟨S2x16x128x512, .f32⟩
  | .hbm, ⟨100, _⟩ => ⟨S2x16x128x512, .f32⟩
  | .hbm, ⟨101, _⟩ => ⟨S_, .i1⟩
  | .hbm, ⟨102, _⟩ => ⟨S128, .i1⟩
  | .hbm, ⟨103, _⟩ => ⟨S1x1x128x1, .i1⟩
  | .hbm, ⟨104, _⟩ => ⟨S_, .f32⟩
  | .hbm, ⟨105, _⟩ => ⟨S2x16x128, .f32⟩
  | .hbm, ⟨106, _⟩ => ⟨S2x16x128x1, .f32⟩
  | .hbm, ⟨107, _⟩ => ⟨S_, .f32⟩
  | .hbm, ⟨108, _⟩ => ⟨S_, .f32⟩
  | .hbm, ⟨109, _⟩ => ⟨S2x16x128x1, .i1⟩
  | .hbm, ⟨110, _⟩ => ⟨S2x16x128x1, .f32⟩
  | .hbm, ⟨111, _⟩ => ⟨S2x16x128x1, .f32⟩
  | .hbm, ⟨112, _⟩ => ⟨S2x16x128x512, .f32⟩
  | .hbm, ⟨113, _⟩ => ⟨S2x16x128x512, .f32⟩
  | .hbm, ⟨114, _⟩ => ⟨S1x1x128x1, .i1⟩
  | .hbm, ⟨115, _⟩ => ⟨S_, .f32⟩
  | .hbm, ⟨116, _⟩ => ⟨S_, .f32⟩
  | .hbm, ⟨117, _⟩ => ⟨S2x16x128x512, .i1⟩
  | .hbm, ⟨118, _⟩ => ⟨S2x16x128x512, .f32⟩
  | .hbm, ⟨119, _⟩ => ⟨S2x16x128x512, .f32⟩
  | .hbm, ⟨120, _⟩ => ⟨S2x512x16x64, .f32⟩
  | .hbm, ⟨121, _⟩ => ⟨S2x16x64x128, .f32⟩
  | .hbm, ⟨122, _⟩ => ⟨S2x128x16x64, .f32⟩
  | .hbm, ⟨123, _⟩ => ⟨S2x128x1024, .f32⟩
  | .hbm, ⟨124, _⟩ => ⟨S1024x512, .f32⟩
  | .hbm, ⟨125, _⟩ => ⟨S2x128x512, .f32⟩
  | _, _ => ⟨S2x128x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c : Ref sig .tc := ⟨.hbm, 17, rfl⟩
abbrev main_c_1 : Ref sig .tc := ⟨.hbm, 18, rfl⟩
abbrev main_call1_v0 : Ref sig .tc := ⟨.hbm, 19, rfl⟩
abbrev main_call1_v1 : Ref sig .tc := ⟨.hbm, 20, rfl⟩
abbrev main_call1_v2 : Ref sig .tc := ⟨.hbm, 21, rfl⟩
abbrev main_call1_v3 : Ref sig .tc := ⟨.hbm, 22, rfl⟩
abbrev main_call1_v4 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_2 : Ref sig .tc := ⟨.hbm, 36, rfl⟩
abbrev main_v22 : Ref sig .tc := ⟨.hbm, 37, rfl⟩
abbrev main_cst_3 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_c_4 : Ref sig .tc := ⟨.hbm, 45, rfl⟩
abbrev main_c_5 : Ref sig .tc := ⟨.hbm, 46, rfl⟩
abbrev main_call3_v0 : Ref sig .tc := ⟨.hbm, 47, rfl⟩
abbrev main_call3_v1 : Ref sig .tc := ⟨.hbm, 48, rfl⟩
abbrev main_call3_v2 : Ref sig .tc := ⟨.hbm, 49, rfl⟩
abbrev main_call3_v3 : Ref sig .tc := ⟨.hbm, 50, rfl⟩
abbrev main_call3_v4 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_c_6 : Ref sig .tc := ⟨.hbm, 72, rfl⟩
abbrev main_v49 : Ref sig .tc := ⟨.hbm, 73, rfl⟩
abbrev main_v50 : Ref sig .tc := ⟨.hbm, 74, rfl⟩
abbrev main_c_7 : Ref sig .tc := ⟨.hbm, 75, rfl⟩
abbrev main_v51 : Ref sig .tc := ⟨.hbm, 76, rfl⟩
abbrev main_v52 : Ref sig .tc := ⟨.hbm, 77, rfl⟩
abbrev main_c_8 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_9 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_cst_10 : Ref sig .tc := ⟨.hbm, 90, rfl⟩
abbrev main_call4_v0 : Ref sig .tc := ⟨.hbm, 91, rfl⟩
abbrev main_call4_v1 : Ref sig .tc := ⟨.hbm, 92, rfl⟩
abbrev main_call4_v2 : Ref sig .tc := ⟨.hbm, 93, rfl⟩
abbrev main_v63 : Ref sig .tc := ⟨.hbm, 94, rfl⟩
abbrev main_cst_11 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_c_12 : Ref sig .tc := ⟨.hbm, 101, rfl⟩
abbrev main_v69 : Ref sig .tc := ⟨.hbm, 102, rfl⟩
abbrev main_v70 : Ref sig .tc := ⟨.hbm, 103, rfl⟩
abbrev main_cst_13 : Ref sig .tc := ⟨.hbm, 104, rfl⟩
abbrev main_v71 : Ref sig .tc := ⟨.hbm, 105, rfl⟩
abbrev main_v72 : Ref sig .tc := ⟨.hbm, 106, rfl⟩
abbrev main_cst_14 : Ref sig .tc := ⟨.hbm, 107, rfl⟩
abbrev main_call5_v0 : Ref sig .tc := ⟨.hbm, 108, rfl⟩
abbrev main_call5_v1 : Ref sig .tc := ⟨.hbm, 109, rfl⟩
abbrev main_call5_v2 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_cst_15 : Ref sig .tc := ⟨.hbm, 115, rfl⟩
abbrev main_call6_v0 : Ref sig .tc := ⟨.hbm, 116, rfl⟩
abbrev main_call6_v1 : Ref sig .tc := ⟨.hbm, 117, rfl⟩
abbrev main_call6_v2 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩

abbrev nD : Nat := 1
abbrev τ : Topo := Topo.v7x

variable {F : FTy → Type} [FloatOps F]
-- ==== Proof.Geo.lean ====
/- The buffers of the kernel, cut into the pieces the protocol hands around, and what a copy of one piece leaves in
   another: pure facts about index sets and contents, no resources yet. -/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Regions
public import Idealize.ShloMosaic.Lib.Pipeline.RegionTalk
public import Idealize.ShloMosaic.Lib.Pipeline.Kit
public import Idealize.ShloMosaic.Lib.Pipeline.ValueKit
public import Idealize.ShloMosaic.Lib.Tactic
public import Idealize.ShloMosaic.Lib.Ring

@[expose] public section

noncomputable section

namespace Cert.KernelIdeal.Mesh

open Cert.KernelIdeal Cert.KernelIdeal.Gen
open Idealize.ShloMosaic Idealize.ShloMosaic.TcCoe

/-- The device `s` places after `c` around the mesh. -/
def pe (c : Dev nD) (s : ℕ) : Dev nD := ⟨(c.val + s) % 4, Nat.mod_lt _ (by decide)⟩

/-! ## Slabs: the elements of a buffer with one value of a key -/

/-- The indices whose key is `k`. -/
def slab {ι κ : Type} [Fintype ι] [DecidableEq κ] (key : ι → κ) (k : κ) : Finset ι := Finset.univ.filter fun i => key i = k

/-- An index lies in a slab when its key is the slab's. -/
theorem mem_slab {ι κ : Type} [Fintype ι] [DecidableEq κ] {key : ι → κ} {k : κ} {i : ι} : i ∈ slab key k ↔ key i = k := by
  simp [slab]

/-- Slabs of different keys are disjoint. -/
theorem slab_disj {ι κ : Type} [Fintype ι] [DecidableEq ι] [DecidableEq κ] (key : ι → κ) (k k' : κ) (h : k ≠ k') :
    Disjoint (slab key k) (slab key k') :=
  Finset.disjoint_left.mpr fun i hi hi' => h ((mem_slab.mp hi).symm.trans (mem_slab.mp hi'))

/-- The slabs cover the whole buffer. -/
theorem slab_cover {ι κ : Type} [Fintype ι] [DecidableEq ι] [Fintype κ] [DecidableEq κ] (key : ι → κ) :
    Finset.univ.biUnion (slab key) = Finset.univ := by
  ext i; simp [mem_slab]

/-! ## The buffers -/

abbrev xM : Memref sig .tc .vmem S2x128x512 .bf16 := Memref.whole cc0_stg0_0
abbrev wqM : Memref sig .tc .vmem S512x256 .bf16 := Memref.whole cc0_stg1_0
abbrev kvM : Memref sig .tc .vmem S2x16x2x128x64 .i8 := Memref.whole cc0_stg2_0
abbrev woM : Memref sig .tc .vmem S256x512 .bf16 := Memref.whole cc0_stg3_0
abbrev scM : Memref sig .tc .vmem S2x128 .f32 := Memref.whole cc0_stg4_0
abbrev outM : Memref sig .tc .vmem S2x128x512 .f32 := Memref.whole cc0_stg5_0
abbrev kgM : Memref sig .tc .vmem S4x4x2x128x64 .i8 := Memref.whole cc0_scratch0
abbrev vgM : Memref sig .tc .vmem S4x4x2x128x64 .i8 := Memref.whole cc0_scratch1
abbrev sgM : Memref sig .tc .vmem S4x2x128 .f32 := Memref.whole cc0_scratch2
abbrev pbM : Memref sig .tc .vmem S2x128x512 .bf16 := Memref.whole cc0_scratch3
abbrev rsM : Memref sig .tc .vmem S4x2x128x128 .bf16 := Memref.whole cc0_scratch4
abbrev rdM : Memref sig .tc .vmem S2x128x128 .f32 := Memref.whole cc0_scratch5
abbrev asM : Memref sig .tc .vmem S2x128x128 .bf16 := Memref.whole cc0_scratch6
abbrev agM : Memref sig .tc .vmem S4x2x128x128 .bf16 := Memref.whole cc0_scratch7

/-! ## Their pieces -/

/-- Slot `t` of a gathered codes buffer. -/
abbrev kKey (i : S4x4x2x128x64.Idx) : Fin 4 := i 0
/-- Slot `t` of the gathered scales. -/
abbrev sKey (i : S4x2x128.Idx) : Fin 4 := i 0
/-- Row `r` and head group `g` of the device's own codes. -/
abbrev vKey (i : S2x16x2x128x64.Idx) : Fin 2 × Fin 4 :=
  (i 0, ⟨(i 1).val / 4, by have h : (i 1).val < 16 := (i 1).isLt; omega⟩)
/-- Batch `b` and column block `g` of the partial product. -/
abbrev pKey (i : S2x128x512.Idx) : Fin 2 × Fin 4 :=
  (i 0, ⟨(i 2).val / 128, by have h : (i 2).val < 512 := (i 2).isLt; omega⟩)
/-- Source device `o` and batch `b` of a landing buffer. -/
abbrev rKey (i : S4x2x128x128.Idx) : Fin 4 × Fin 2 := (i 0, i 1)
/-- Batch `b` of the reduced block. -/
abbrev aKey (i : S2x128x128.Idx) : Fin 2 := i 0

section Sets

variable {off : Fin 5 → ℕ} {off4 : Fin 4 → ℕ} {off3 : Fin 3 → ℕ}

/-- Slot `t` of the gathered key codes is the slab of the indices starting with `t`. -/
theorem set_kg (t : Fin 4) (h) (hu) (sq) (e : off = ![t.val, 0, 0, 0, 0]) :
    ((kgM.slice (Rect.unit (s := S4x4x2x128x64) off S1x4x2x128x64.size h) hu).squeeze S4x2x128x64 sq).view.set = slab kKey t := by
  subst e
  rw [Memref.set_view_squeeze]; ext i
  refine (ValueKit.mem_set_slice_whole_iff cc0_scratch0 _ i Rect.mem_set_unit).trans ?_
  rw [mem_slab]
  have h1 : (i 1).val < 4 := (i 1).isLt
  have h2 : (i 2).val < 2 := (i 2).isLt
  have h3 : (i 3).val < 128 := (i 3).isLt
  have h4 : (i 4).val < 64 := (i 4).isLt
  constructor
  · intro hi
    have a0 : t.val ≤ (i 0).val ∧ (i 0).val < t.val + 1 := hi 0
    exact Fin.ext (show (i 0).val = t.val by omega)
  · intro hi a
    have h0 : (i 0).val = t.val := congrArg Fin.val hi
    match a with
    | ⟨0, _⟩ => show t.val ≤ (i 0).val ∧ (i 0).val < t.val + 1; omega
    | ⟨1, _⟩ => show 0 ≤ (i 1).val ∧ (i 1).val < 0 + 4; omega
    | ⟨2, _⟩ => show 0 ≤ (i 2).val ∧ (i 2).val < 0 + 2; omega
    | ⟨3, _⟩ => show 0 ≤ (i 3).val ∧ (i 3).val < 0 + 128; omega
    | ⟨4, _⟩ => show 0 ≤ (i 4).val ∧ (i 4).val < 0 + 64; omega

/-- Slot `t` of the gathered value codes. -/
theorem set_vg (t : Fin 4) (h) (hu) (sq) (e : off = ![t.val, 0, 0, 0, 0]) :
    ((vgM.slice (Rect.unit (s := S4x4x2x128x64) off S1x4x2x128x64.size h) hu).squeeze S4x2x128x64 sq).view.set = slab kKey t :=
  set_kg t h hu sq e

/-- Slot `t` of the gathered scales. -/
theorem set_sg (t : Fin 4) (h) (hu) (sq) (e : off3 = ![t.val, 0, 0]) :
    ((sgM.slice (Rect.unit (s := S4x2x128) off3 S1x2x128.size h) hu).squeeze S2x128 sq).view.set = slab sKey t := by
  subst e
  rw [Memref.set_view_squeeze]; ext i
  refine (ValueKit.mem_set_slice_whole_iff cc0_scratch2 _ i Rect.mem_set_unit).trans ?_
  rw [mem_slab]
  have h1 : (i 1).val < 2 := (i 1).isLt
  have h2 : (i 2).val < 128 := (i 2).isLt
  constructor
  · intro hi
    have a0 : t.val ≤ (i 0).val ∧ (i 0).val < t.val + 1 := hi 0
    exact Fin.ext (show (i 0).val = t.val by omega)
  · intro hi a
    have h0 : (i 0).val = t.val := congrArg Fin.val hi
    match a with
    | ⟨0, _⟩ => show t.val ≤ (i 0).val ∧ (i 0).val < t.val + 1; omega
    | ⟨1, _⟩ => show 0 ≤ (i 1).val ∧ (i 1).val < 0 + 2; omega
    | ⟨2, _⟩ => show 0 ≤ (i 2).val ∧ (i 2).val < 0 + 128; omega

/-- Row `r`, heads `4g..4g+3` of the device's own codes. -/
theorem set_kv (r : Fin 2) (g : Fin 4) (h) (hu) (sq) (e : off = ![r.val, 4 * g.val, 0, 0, 0]) :
    ((kvM.slice (Rect.unit (s := S2x16x2x128x64) off S1x4x2x128x64.size h) hu).squeeze S4x2x128x64 sq).view.set = slab vKey (r, g) := by
  subst e
  rw [Memref.set_view_squeeze]; ext i
  refine (ValueKit.mem_set_slice_whole_iff cc0_stg2_0 _ i Rect.mem_set_unit).trans ?_
  rw [mem_slab]
  have h1 : (i 1).val < 16 := (i 1).isLt
  have h2 : (i 2).val < 2 := (i 2).isLt
  have h3 : (i 3).val < 128 := (i 3).isLt
  have h4 : (i 4).val < 64 := (i 4).isLt
  constructor
  · intro hi
    have a0 : r.val ≤ (i 0).val ∧ (i 0).val < r.val + 1 := hi 0
    have a1 : 4 * g.val ≤ (i 1).val ∧ (i 1).val < 4 * g.val + 4 := hi 1
    exact Prod.ext (Fin.ext (show (i 0).val = r.val by omega)) (Fin.ext (show (i 1).val / 4 = g.val by omega))
  · intro hi a
    have h0 : (i 0).val = r.val := congrArg (fun p => Fin.val (Prod.fst p)) hi
    have h1' : (i 1).val / 4 = g.val := congrArg (fun p => Fin.val (Prod.snd p)) hi
    match a with
    | ⟨0, _⟩ => show r.val ≤ (i 0).val ∧ (i 0).val < r.val + 1; omega
    | ⟨1, _⟩ => show 4 * g.val ≤ (i 1).val ∧ (i 1).val < 4 * g.val + 4; omega
    | ⟨2, _⟩ => show 0 ≤ (i 2).val ∧ (i 2).val < 0 + 2; omega
    | ⟨3, _⟩ => show 0 ≤ (i 3).val ∧ (i 3).val < 0 + 128; omega
    | ⟨4, _⟩ => show 0 ≤ (i 4).val ∧ (i 4).val < 0 + 64; omega

/-- Batch `b`, columns `128g..128g+127` of the partial product. -/
theorem set_pb (b : Fin 2) (g : Fin 4) (h) (hu) (sq) (e : off3 = ![b.val, 0, 128 * g.val]) :
    ((pbM.slice (Rect.unit (s := S2x128x512) off3 S1x128x128.size h) hu).squeeze S128x128 sq).view.set = slab pKey (b, g) := by
  subst e
  rw [Memref.set_view_squeeze]; ext i
  refine (ValueKit.mem_set_slice_whole_iff cc0_scratch3 _ i Rect.mem_set_unit).trans ?_
  rw [mem_slab]
  have h1 : (i 1).val < 128 := (i 1).isLt
  have h2 : (i 2).val < 512 := (i 2).isLt
  constructor
  · intro hi
    have a0 : b.val ≤ (i 0).val ∧ (i 0).val < b.val + 1 := hi 0
    have a2 : 128 * g.val ≤ (i 2).val ∧ (i 2).val < 128 * g.val + 128 := hi 2
    exact Prod.ext (Fin.ext (show (i 0).val = b.val by omega)) (Fin.ext (show (i 2).val / 128 = g.val by omega))
  · intro hi a
    have h0 : (i 0).val = b.val := congrArg (fun p => Fin.val (Prod.fst p)) hi
    have h2' : (i 2).val / 128 = g.val := congrArg (fun p => Fin.val (Prod.snd p)) hi
    match a with
    | ⟨0, _⟩ => show b.val ≤ (i 0).val ∧ (i 0).val < b.val + 1; omega
    | ⟨1, _⟩ => show 0 ≤ (i 1).val ∧ (i 1).val < 0 + 128; omega
    | ⟨2, _⟩ => show 128 * g.val ≤ (i 2).val ∧ (i 2).val < 128 * g.val + 128; omega

/-- The landing place of device `o`, batch `b`. -/
theorem set_rs (o : Fin 4) (b : Fin 2) (h) (hu) (sq) (e : off4 = ![o.val, b.val, 0, 0]) :
    ((rsM.slice (Rect.unit (s := S4x2x128x128) off4 S1x1x128x128.size h) hu).squeeze S128x128 sq).view.set = slab rKey (o, b) := by
  subst e
  rw [Memref.set_view_squeeze]; ext i
  refine (ValueKit.mem_set_slice_whole_iff cc0_scratch4 _ i Rect.mem_set_unit).trans ?_
  rw [mem_slab]
  have h2 : (i 2).val < 128 := (i 2).isLt
  have h3 : (i 3).val < 128 := (i 3).isLt
  constructor
  · intro hi
    have a0 : o.val ≤ (i 0).val ∧ (i 0).val < o.val + 1 := hi 0
    have a1 : b.val ≤ (i 1).val ∧ (i 1).val < b.val + 1 := hi 1
    exact Prod.ext (Fin.ext (show (i 0).val = o.val by omega)) (Fin.ext (show (i 1).val = b.val by omega))
  · intro hi a
    have h0 : (i 0).val = o.val := congrArg (fun p => Fin.val (Prod.fst p)) hi
    have h1' : (i 1).val = b.val := congrArg (fun p => Fin.val (Prod.snd p)) hi
    match a with
    | ⟨0, _⟩ => show o.val ≤ (i 0).val ∧ (i 0).val < o.val + 1; omega
    | ⟨1, _⟩ => show b.val ≤ (i 1).val ∧ (i 1).val < b.val + 1; omega
    | ⟨2, _⟩ => show 0 ≤ (i 2).val ∧ (i 2).val < 0 + 128; omega
    | ⟨3, _⟩ => show 0 ≤ (i 3).val ∧ (i 3).val < 0 + 128; omega

/-- The view of a slot of the all-gather's buffer is the slab of its sender and batch entry. -/
theorem set_ag (o : Fin 4) (b : Fin 2) (h) (hu) (sq) (e : off4 = ![o.val, b.val, 0, 0]) :
    ((agM.slice (Rect.unit (s := S4x2x128x128) off4 S1x1x128x128.size h) hu).squeeze S128x128 sq).view.set = slab rKey (o, b) :=
  set_rs o b h hu sq e

/-- Batch `b` of the reduced block. -/
theorem set_as (b : Fin 2) (h) (hu) (sq) (e : off3 = ![b.val, 0, 0]) :
    ((asM.slice (Rect.unit (s := S2x128x128) off3 S1x128x128.size h) hu).squeeze S128x128 sq).view.set = slab aKey b := by
  subst e
  rw [Memref.set_view_squeeze]; ext i
  refine (ValueKit.mem_set_slice_whole_iff cc0_scratch6 _ i Rect.mem_set_unit).trans ?_
  rw [mem_slab]
  have h1 : (i 1).val < 128 := (i 1).isLt
  have h2 : (i 2).val < 128 := (i 2).isLt
  constructor
  · intro hi
    have a0 : b.val ≤ (i 0).val ∧ (i 0).val < b.val + 1 := hi 0
    exact Fin.ext (show (i 0).val = b.val by omega)
  · intro hi a
    have h0 : (i 0).val = b.val := congrArg Fin.val hi
    match a with
    | ⟨0, _⟩ => show b.val ≤ (i 0).val ∧ (i 0).val < b.val + 1; omega
    | ⟨1, _⟩ => show 0 ≤ (i 1).val ∧ (i 1).val < 0 + 128; omega
    | ⟨2, _⟩ => show 0 ≤ (i 2).val ∧ (i 2).val < 0 + 128; omega

end Sets

/-! ## What a copy between two squeezed pieces leaves -/

section Copy

variable {κ κ' : Kind} {sp sp' : Space} {s s' s'' : Shape} {e : EltTy} {Val : EltTy → Type}

/-- A copy between two pieces of shapes `s` and `s'`, both squeezed to `s''`, leaves at the place of `y` in the target what the
    source holds at the place of `x`, whenever `x` and `y` are at the same row-major position. -/
theorem copy_at (D : Memref sig κ sp s e) (S : Memref sig κ' sp' s' e) (hD : s.Squeezes s'') (hS : s'.Squeezes s'')
    (fd : D.view.ty.Contents Val) (fs : S.view.ty.Contents Val) (y : s.Idx) (x : s'.Idx)
    (hxy : (s'.rowMajor x : ℕ) = s.rowMajor y) :
    (D.squeeze s'' hD).view.write Val fd ((S.squeeze s'' hS).view.read Val fs) Finset.univ (D.view.emb y)
      = _root_.cast (congrArg Val D.view.elt_eq.symm) (S.view.read Val fs x) := by
  have hj : D.view.emb y = (D.squeeze s'' hD).view.emb ((Shape.reshapeEquiv hD.numel_eq).symm y) := by
    show D.view.emb y = D.view.emb (Shape.reshapeEquiv hD.numel_eq ((Shape.reshapeEquiv hD.numel_eq).symm y))
    rw [Equiv.apply_symm_apply]
  rw [hj]
  refine (View.write_emb_of_mem (v := (D.squeeze s'' hD).view) fd _ (Finset.mem_univ _)).trans ?_
  congr 1
  show S.view.read Val fs (Shape.reshapeEquiv hS.numel_eq ((Shape.reshapeEquiv hD.numel_eq).symm y)) = _
  congr 1
  refine Shape.reshapeEquiv_eq_of_rowMajor hS.numel_eq (hxy.trans ?_)
  rw [← Shape.rowMajor_reshapeEquiv hD.numel_eq, Equiv.apply_symm_apply]

end Copy

end Cert.KernelIdeal.Mesh
-- ==== Proof.Vals.lean ====
/- What every buffer of the kernel holds, and every value its body computes, as functions of the five windows' blocks of all
   four devices: pure definitions, in the vocabulary of the printed payloads. -/
module

public import proofs.«01_k».proof.Proof.Geo
public import Idealize.ShloMosaic.Lib.Pointwise.Index

@[expose] public section

noncomputable section

namespace Cert.KernelIdeal.Mesh

open Cert.KernelIdeal Cert.KernelIdeal.Gen
open Idealize.ShloMosaic Idealize.ShloMosaic.TcCoe

variable {F : FTy → Type} [FloatOps F]

/-- The five blocks one device's body is entered with: activations, query weights, its own key and value codes, output weights,
    its own two scales. -/
structure Inp (F : FTy → Type) where
  x : S2x128x512.Idx → F .bf16
  wq : S512x256.Idx → F .bf16
  kv : S2x16x2x128x64.Idx → BitVec 8
  wo : S256x512.Idx → F .bf16
  sc : S2x128.Idx → F .f32

/-- Element `j` of group `p` of four, among sixteen. -/
def head (p h : Fin 4) : Fin 16 := ⟨4 * p.val + h.val, by omega⟩
/-- Column `j` of block `p`, among 512 columns. -/
def col (p : Fin 4) (j : Fin 128) : Fin 512 := ⟨128 * p.val + j.val, by omega⟩
/-- The block and the place in it of a column. -/
def cblk (n : Fin 512) : Fin 4 := ⟨n.val / 128, by omega⟩
def cofs (n : Fin 512) : Fin 128 := ⟨n.val % 128, by omega⟩

/-- The device's place on the mesh as the body computes it. -/
def wd (c : Dev nD) : BitVec 32 := Scalar.remsi (Scalar.divsi (Dev.word c) 1#32) 4#32

variable (I : Dev nD → Inp F)

/-- The gathered key codes of device `c`: in slot `t`, the four heads of `c` among the codes of the device `t` places before. -/
def KG (c : Dev nD) : S4x4x2x128x64.Idx → BitVec 8 :=
  fun i => (I (pe c (4 - (i 0).val))).kv (ix5 0 (head c (i 1)) (i 2) (i 3) (i 4))
/-- The gathered value codes. -/
def VG (c : Dev nD) : S4x4x2x128x64.Idx → BitVec 8 :=
  fun i => (I (pe c (4 - (i 0).val))).kv (ix5 1 (head c (i 1)) (i 2) (i 3) (i 4))
/-- The gathered scales. -/
def SG (c : Dev nD) : S4x2x128.Idx → F .f32 := fun i => (I (pe c (4 - (i 0).val))).sc (ix2 (i 1) (i 2))

/-! ## What the loads read -/

/-- One head's key codes of batch `b` in slot `t`. -/
def ldK (c : Dev nD) (t h : Fin 4) (b : Fin 2) : Vec F S1x1x1x128x64 .i8 := fun i => KG I c (ix5 t h b (i 3) (i 4))
def ldV (c : Dev nD) (t h : Fin 4) (b : Fin 2) : Vec F S1x1x1x128x64 .i8 := fun i => VG I c (ix5 t h b (i 3) (i 4))
def ldX (c : Dev nD) (b : Fin 2) : Vec F S1x128x512 .bf16 := fun i => (I c).x (ix3 b (i 1) (i 2))
def ldW (c : Dev nD) : Vec F S512x256 .bf16 := (I c).wq
def ldO (c : Dev nD) : Vec F S256x512 .bf16 := (I c).wo
/-- The device's own scale `r`, and the scale in slot `t`. -/
def ldC (c : Dev nD) (r : Fin 2) : Vec F S1x1 .f32 := fun _ => (I c).sc (ix2 r 0)
def ldG (c : Dev nD) (t : Fin 4) (r : Fin 2) : Vec F S1x1x1 .f32 := fun _ => SG I c (ix3 t r 0)

/-! ## The attention of one device's four heads -/

/-- The queries of batch `b`. -/
def qv (c : Dev nD) (b : Fin 2) : FVec F S128x256 .bf16 := k0_pay10 (ldW I c) (ldX I c b)

/-- The columns of head `h` lie within the query's 256 columns. -/
theorem slices_h (h : Fin 4) : S128x256.Slices ![0, 64 * h.val] S128x64 := by
  match h with
  | 0 => exact slices_S128x256_o0_0_S128x64
  | 1 => exact slices_S128x256_o0_64_S128x64
  | 2 => exact slices_S128x256_o0_128_S128x64
  | 3 => exact slices_S128x256_o0_192_S128x64

/-- The queries of head `h`. -/
def qh (c : Dev nD) (b : Fin 2) (h : Fin 4) : FVec F S128x64 .bf16 :=
  extractStridedSlice S128x64 ![0, 64 * h.val] (qv I c b) (slices_h h)

/-- The place on the mesh of the device whose keys are in slot `t`, as the body computes it. -/
def sw (c : Dev nD) : Fin 4 → BitVec 32
  | ⟨0, _⟩ => wd c
  | ⟨1, _⟩ => Scalar.remsi (Scalar.addi (wd c) 3#32) 4#32
  | ⟨2, _⟩ => Scalar.remsi (Scalar.addi (wd c) 2#32) 4#32
  | ⟨3, _⟩ => Scalar.remsi (Scalar.addi (wd c) 1#32) 4#32

/-- Which keys of slot `t` are seen. -/
def mk (c : Dev nD) (t : Fin 4) : IVec S128x128 1 := k0_pay13 (sw c t)

/-- The key scale of slot `t` with the score factor, and its value scale. -/
def sk (c : Dev nD) : Fin 4 → F .f32
  | ⟨0, _⟩ => k0_pay14 (ldC I c 0)
  | ⟨n + 1, h⟩ => k0_pay42 (ldG I c ⟨n + 1, h⟩ 0)
def sv (c : Dev nD) : Fin 4 → F .f32
  | ⟨0, _⟩ => k0_pay31 (ldC I c 1)
  | ⟨n + 1, h⟩ => k0_pay63 (ldG I c ⟨n + 1, h⟩ 1)

/-- The unnormalised weights of head `h` on the keys of slot `t`. -/
def ef (c : Dev nD) (t : Fin 4) (b : Fin 2) (h : Fin 4) : FVec F S128x128 .f32 :=
  select (mk c t)
    (exp (mulf (matmul dot_S128x64_S128x64_S128x128_1_1_0_0_n_n none (qh I c b h)
      (sitofp .bf16 (shapeCast S128x64 (ldK I c t h b) shapeCasts_S1x1x1x128x64_S128x64)) (constant S128x128 .f32 0x00000000#32))
      (broadcast S128x128 (sk I c t))))
    (broadcast S128x128 (Scalar.ofBits .f32 0x00000000#32))

/-- The sum of each row of weights. -/
def rsum (e : FVec F S128x128 .f32) : FVec F S128x1 .f32 :=
  shapeCast S128x1 (multiReduction .add [1] S128 e 0x00000000#32 reduces_S128x128_S128 (.inl rfl) rfl) shapeCasts_S128_S128x1

/-- The denominators after slot `t`. -/
def dn (c : Dev nD) (b : Fin 2) (h : Fin 4) : ℕ → FVec F S128x1 .f32
  | 0 => rsum (ef I c 0 b h)
  | t + 1 => addf (dn c b h t) (rsum (ef I c (Fin.ofNat 4 (t + 1)) b h))

/-- Slot `t`'s weighted values. -/
def pv (c : Dev nD) (t : Fin 4) (b : Fin 2) (h : Fin 4) : FVec F S128x64 .f32 :=
  matmul dot_S128x128_S128x64_S128x64_1_0_0_1_n_n none
    (truncf .bf16 (mulf (ef I c t b h) (broadcast S128x128 (sv I c t))) bitsLt_bf16_f32)
    (sitofp .bf16 (shapeCast S128x64 (ldV I c t h b) shapeCasts_S1x1x1x128x64_S128x64)) (constant S128x64 .f32 0x00000000#32)

/-- The weighted values summed up to slot `t`. -/
def cx (c : Dev nD) (b : Fin 2) (h : Fin 4) : ℕ → FVec F S128x64 .f32
  | 0 => pv I c 0 b h
  | t + 1 => addf (cx c b h t) (pv I c (Fin.ofNat 4 (t + 1)) b h)

/-- The device's partial output of batch `b`: its four heads through its rows of the output weights. -/
def po (c : Dev nD) (b : Fin 2) : FVec F S128x512 .f32 :=
  k0_pay139 (dn I c b 0 3) (dn I c b 1 3) (dn I c b 2 3) (dn I c b 3 3) (cx I c b 0 3) (cx I c b 1 3) (cx I c b 2 3) (cx I c b 3 3) (ldO I c)

/-! ## The exchange of partial outputs -/

/-- The partial output as sent. -/
def PB (c : Dev nD) : S2x128x512.Idx → F .bf16 := fun i => truncf .bf16 (po I c (i 0)) bitsLt_bf16_f32 (ix2 (i 1) (i 2))
/-- The own column block of it, kept unrounded. -/
def RD (c : Dev nD) : S2x128x128.Idx → F .f32 := fun i => po I c (i 0) (ix2 (i 1) (col c (i 2)))
/-- What device `o` sent for batch `b`. -/
def RS (c : Dev nD) : S4x2x128x128.Idx → F .bf16 := fun i => PB I (i 0) (ix3 (i 1) (i 2) (col c (i 3)))

def ldD (c : Dev nD) (b : Fin 2) : Vec F S1x128x128 .f32 := fun i => RD I c (ix3 b (i 1) (i 2))
def ldR (c : Dev nD) (o : Fin 4) (b : Fin 2) : Vec F S1x1x128x128 .bf16 := fun i => RS I c (ix4 o b (i 2) (i 3))

/-- The device's column block of the output, summed over the devices. -/
def ro (c : Dev nD) (b : Fin 2) : FVec F S128x128 .f32 :=
  k0_pay152 (ldD I c b) (ldR I c (pe c 1) b) (ldR I c (pe c 2) b) (ldR I c (pe c 3) b)

/-- The block as sent, what has landed of the others' blocks, and the whole result. -/
def AS (c : Dev nD) : S2x128x128.Idx → F .bf16 := fun i => truncf .bf16 (ro I c (i 0)) bitsLt_bf16_f32 (ix2 (i 1) (i 2))
def AG (_c : Dev nD) : S4x2x128x128.Idx → F .bf16 := fun i => AS I (i 0) (ix3 (i 1) (i 2) (i 3))
def ldA (c : Dev nD) (o : Fin 4) : Vec F S1x2x128x128 .bf16 := fun i => AG I c (ix4 o (i 1) (i 2) (i 3))
def OUT (c : Dev nD) : S2x128x512.Idx → F .f32 := fun i =>
  if cblk (i 2) = c then ro I c (i 0) (ix2 (i 1) (cofs (i 2)))
  else k0_pay165 (ldA I c (cblk (i 2))) (ix3 (i 0) (i 1) (cofs (i 2)))

end Cert.KernelIdeal.Mesh
-- ==== Proof.Cells.lean ====
/- The semaphore protocol: which cell is waited on by whom, what each signal and each copy hands over, what every device owes
   at the start, and in which order of levels the waits may happen. -/
module

public import proofs.«01_k».proof.Proof.Vals
public import Idealize.ShloMosaic.Lib.Rounds
public import Idealize.ShloMosaic.Lib.StableHlo
public import Idealize.ShloMosaic.Lib.Pipeline.Launch

@[expose] public section

noncomputable section

namespace Cert.KernelIdeal.Mesh

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The protocol's ghost state: up to three duties in a round of a cell. -/
abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-- Going `s` places on and then `t` is going `s + t` places on. -/
theorem pe_pe (c : Dev nD) (s t : ℕ) : pe (pe c s) t = pe c (s + t) := by
  apply Fin.ext; show ((c.val + s) % 4 + t) % 4 = (c.val + (s + t)) % 4; omega
/-- Four places on is the device itself. -/
theorem pe_four (c : Dev nD) : pe c 4 = c := by revert c; decide

/-! ## The cells -/

/-- The kernel's own copy semaphores: for each distance `t` the sends of key codes, value codes and scales and their receipts;
    for each distance and batch the send of a partial block and of a finished block; for each source and batch their receipts. -/
inductive CK
  | ks (t : Fin 4) | vs (t : Fin 4) | ss (t : Fin 4) | kr (t : Fin 4) | vr (t : Fin 4) | sr (t : Fin 4)
  | rs (t : Fin 4) (b : Fin 2) | rr (o : Fin 4) (b : Fin 2) | gs (t : Fin 4) (b : Fin 2) | gr (o : Fin 4) (b : Fin 2)
deriving DecidableEq

def CK.enc : CK → Fin 56
  | .ks t => ⟨t.val, by omega⟩
  | .vs t => ⟨4 + t.val, by omega⟩
  | .ss t => ⟨8 + t.val, by omega⟩
  | .kr t => ⟨12 + t.val, by omega⟩
  | .vr t => ⟨16 + t.val, by omega⟩
  | .sr t => ⟨20 + t.val, by omega⟩
  | .rs t b => ⟨24 + 2 * t.val + b.val, by omega⟩
  | .rr t b => ⟨32 + 2 * t.val + b.val, by omega⟩
  | .gs t b => ⟨40 + 2 * t.val + b.val, by omega⟩
  | .gr t b => ⟨48 + 2 * t.val + b.val, by omega⟩

def dec (n : ℕ) : CK :=
  match n / 4 with
  | 0 => .ks (Fin.ofNat 4 n)
  | 1 => .vs (Fin.ofNat 4 n)
  | 2 => .ss (Fin.ofNat 4 n)
  | 3 => .kr (Fin.ofNat 4 n)
  | 4 => .vr (Fin.ofNat 4 n)
  | 5 => .sr (Fin.ofNat 4 n)
  | _ => match n / 8 with
    | 3 => .rs (Fin.ofNat 4 (n / 2)) (Fin.ofNat 2 n)
    | 4 => .rr (Fin.ofNat 4 (n / 2)) (Fin.ofNat 2 n)
    | 5 => .gs (Fin.ofNat 4 (n / 2)) (Fin.ofNat 2 n)
    | _ => .gr (Fin.ofNat 4 (n / 2)) (Fin.ofNat 2 n)

/-- Decoding a cell's number gives the cell back. -/
theorem dec_enc (k : CK) : dec k.enc.val = k := by
  cases k
  case ks t => revert t; decide
  case vs t => revert t; decide
  case ss t => revert t; decide
  case kr t => revert t; decide
  case vr t => revert t; decide
  case sr t => revert t; decide
  case rs t b => revert t b; decide
  case rr t b => revert t b; decide
  case gs t b => revert t b; decide
  case gr t b => revert t b; decide

/-- Numbering a decoded cell gives the number back. -/
theorem enc_dec (n : Fin 56) : (dec n.val).enc = n := by revert n; decide

/-- The semaphore of a copy cell, and the barrier's. -/
def csem (k : CK) : DmaSem sig := ⟨6 + k.enc.val, by have := k.enc.isLt; show 6 + k.enc.val < 62; omega⟩
abbrev barS : Sem sig := ⟨0, by decide⟩

abbrev barCell (c : Dev nD) : GSem nD τ sig := ((c : Thread nD τ), .reg barS)
abbrev cell (c : Dev nD) (k : CK) : GSem nD τ sig := ((c : Thread nD τ), .dma (csem k))

/-- What a semaphore is to the protocol: the barrier's, a copy cell, or none of its. -/
inductive SK
  | bar | ck (k : CK) | no

def kind : SemLoc sig → SK
  | .reg _ => .bar
  | .dma s => if s.val < 6 then .no else .ck (dec (s.val - 6))

/-- The semaphore of a copy cell is recognised as that cell's. -/
theorem kind_csem (k : CK) : kind (.dma (csem k)) = .ck k := by
  have h : ¬ (6 + k.enc.val < 6) := by omega
  show (if 6 + k.enc.val < 6 then SK.no else .ck (dec (6 + k.enc.val - 6))) = _
  rw [if_neg h, Nat.add_sub_cancel_left, dec_enc]

/-- Whether a copy cell of device `c` is used: a distance is not zero, a source is another device. -/
def act (c : Dev nD) : CK → Bool
  | .ks t | .vs t | .ss t | .kr t | .vr t | .sr t | .rs t _ | .gs t _ => t ≠ 0
  | .rr o _ | .gr o _ => o ≠ c

/-- The credit of a copy. -/
def amt : CK → ℕ
  | .ks _ | .vs _ | .kr _ | .vr _ => 4096
  | .ss _ | .sr _ => 32
  | _ => 1024

/-- Every copy credits a positive amount. -/
theorem amt_pos (k : CK) : 0 < amt k := by cases k <;> simp [amt]

/-- The pieces in which a whole buffer is lent to three copies while the fourth stays. -/
def sh : Fin 4 → PosShare TreeShare
  | 0 => fullShare.left.left
  | 1 => fullShare.left.right
  | 2 => fullShare.right.left
  | 3 => fullShare.right.right

/-! ## Payloads -/

variable (I : Dev nD → Inp F)

abbrev kvP (c : Dev nD) (r : Fin 2) (g : Fin 4) : sProp 𝕄 := kvM.view.loc (c : Thread nD τ) ↦[slab vKey (r, g)]{fullShare} (I c).kv
abbrev scP (c : Dev nD) (t : Fin 4) : sProp 𝕄 := scM.view.loc (c : Thread nD τ) ↦{sh t} (I c).sc
abbrev kgP (c : Dev nD) (t : Fin 4) (f : S4x4x2x128x64.Idx → BitVec 8) : sProp 𝕄 := kgM.view.loc (c : Thread nD τ) ↦[slab kKey t]{fullShare} f
abbrev vgP (c : Dev nD) (t : Fin 4) (f : S4x4x2x128x64.Idx → BitVec 8) : sProp 𝕄 := vgM.view.loc (c : Thread nD τ) ↦[slab kKey t]{fullShare} f
abbrev sgP (c : Dev nD) (t : Fin 4) (f : S4x2x128.Idx → F .f32) : sProp 𝕄 := sgM.view.loc (c : Thread nD τ) ↦[slab sKey t]{fullShare} f
abbrev pbP (c : Dev nD) (b : Fin 2) (g : Fin 4) (f : S2x128x512.Idx → F .bf16) : sProp 𝕄 := pbM.view.loc (c : Thread nD τ) ↦[slab pKey (b, g)]{fullShare} f
abbrev rsP (c : Dev nD) (o : Fin 4) (b : Fin 2) (f : S4x2x128x128.Idx → F .bf16) : sProp 𝕄 := rsM.view.loc (c : Thread nD τ) ↦[slab rKey (o, b)]{fullShare} f
abbrev agP (c : Dev nD) (o : Fin 4) (b : Fin 2) (f : S4x2x128x128.Idx → F .bf16) : sProp 𝕄 := agM.view.loc (c : Thread nD τ) ↦[slab rKey (o, b)]{fullShare} f
abbrev asP (c : Dev nD) (b : Fin 2) (q : PosShare TreeShare) (f : S2x128x128.Idx → F .bf16) : sProp 𝕄 := asM.view.loc (c : Thread nD τ) ↦[slab aKey b]{q} f

/-- What a landing on copy cell `k` of device `c` hands over: a sent piece comes back, a received one arrives with its contents. -/
def ckPay (c : Dev nD) : CK → sProp 𝕄
  | .ks t => kvP I c 0 (pe c t.val)
  | .vs t => kvP I c 1 (pe c t.val)
  | .ss t => scP I c t
  | .kr t => kgP c t (KG I c)
  | .vr t => vgP c t (VG I c)
  | .sr t => sgP c t (SG I c)
  | .rs t b => pbP c b (pe c t.val) (PB I c)
  | .rr o b => rsP c o b (RS I c)
  | .gs t b => asP c b (sh t) (AS I c)
  | .gr o b => agP c o b (AG I c)

/-- The place where a copy on a receipt cell lands, at contents not chosen. -/
def space (c : Dev nD) : CK → sProp 𝕄
  | .kr t => iprop(∃ f, kgP c t f)
  | .vr t => iprop(∃ f, vgP c t f)
  | .sr t => iprop(∃ f, sgP c t f)
  | .rr o b => iprop(∃ f, rsP c o b f)
  | .gr o b => iprop(∃ f, agP c o b f)
  | _ => iprop(emp)

/-- What a device needs in order to copy onto cell `k` of device `c`: the place, the duty, and that the cell is open. -/
def land (c : Dev nD) (k : CK) : sProp 𝕄 :=
  iprop(space c k ∗ dutyTok ER (cell c k) 0 0 ∗ reached ER (cell c k) 0)

/-- What device `e`'s signal hands to device `c`, `t` places before it: every place on `e` that `c` copies to. -/
def gift (e c : Dev nD) (t : Fin 4) : sProp 𝕄 :=
  iprop(land e (.kr t) ∗ land e (.vr t) ∗ land e (.sr t) ∗ land e (.rr c 0) ∗ land e (.rr c 1) ∗ land e (.gr c 0) ∗ land e (.gr c 1))

/-- The barrier's duty `d` on device `c` is paid by the device `d + 1` places after. -/
def barPay (c : Dev nD) (d : Fin 3) : sProp 𝕄 := gift (pe c (d.val + 1)) c d.succ

instance storable_space (c : Dev nD) (k : CK) : BI.Storable (upEmb : UEmb _ 𝕄) (space (F := F) c k) := by
  cases k <;> (unfold space; infer_instance)
instance storable_land (c : Dev nD) (k : CK) : BI.Storable (upEmb : UEmb _ 𝕄) (land (F := F) c k) := by
  unfold land; infer_instance
instance storable_barPay (c : Dev nD) (d : Fin 3) : BI.Storable (upEmb : UEmb _ 𝕄) (barPay (F := F) c d) := by
  unfold barPay gift; infer_instance
instance storable_ckPay (c : Dev nD) (k : CK) : BI.Storable (upEmb : UEmb _ 𝕄) (ckPay I c k) := by
  cases k <;> (unfold ckPay; infer_instance)

/-! ## The schedule -/

/-- One round: three units on every barrier cell, one copy on every copy cell in use. -/
def Rd : Rounds.Schedule (GSem nD τ sig) (Fin 3) 𝕄 where
  duties g r := if r = 0 ∧ g.1.2 = .tc then
      (match kind g.2 with | .bar => Finset.univ | .ck k => if act g.1.1 k then {0} else ∅ | .no => ∅) else ∅
  unitless _ := False
  amount g _ _ := match kind g.2 with | .ck k => amt k | _ => 1
  payload g _ d := match kind g.2 with | .bar => barPay g.1.1 d | .ck k => ckPay I g.1.1 k | .no => iprop(emp)
  amount_pos g _ _ _ := by
    cases kind g.2 with
    | bar => exact Nat.one_pos
    | ck k => exact amt_pos k
    | no => exact Nat.one_pos

instance Rd_storable (g : GSem nD τ sig) (r : ℕ) (d : Fin 3) : BI.Storable (upEmb : UEmb _ 𝕄) ((Rd I).payload g r d) := by
  show BI.Storable upEmb (match kind g.2 with | .bar => barPay g.1.1 d | .ck k => ckPay I g.1.1 k | .no => iprop(emp))
  split <;> infer_instance

section Sched

variable (c : Dev nD) (k : CK)

/-- In its one round the barrier has all three duties, one for each peer. -/
theorem duties_bar : (Rd I).duties (barCell c) 0 = Finset.univ := by
  dsimp only [Rd]; rw [if_pos ⟨rfl, rfl⟩]; rfl
/-- A copy cell that is used has one duty in its one round. -/
theorem duties_cell (h : act c k = true) : (Rd I).duties (cell c k) 0 = {0} := by
  dsimp only [Rd]; rw [if_pos ⟨rfl, rfl⟩, kind_csem]; exact if_pos h
/-- A copy cell that is not used has no duty in any round. -/
theorem duties_idle (h : act c k = false) (r : ℕ) : (Rd I).duties (cell c k) r = ∅ := by
  dsimp only [Rd]; split
  · rw [kind_csem]; exact if_neg (by rw [h]; decide)
  · rfl
/-- After the first round no cell has a duty. -/
theorem duties_later (g : GSem nD τ sig) : ∀ r, 1 ≤ r → (Rd I).duties g r = ∅ :=
  fun r hr => by dsimp only [Rd]; rw [if_neg (fun h => by omega)]

/-- Each duty of the barrier is worth one unit. -/
theorem amount_bar (d : Fin 3) : (Rd I).amount (barCell c) 0 d = 1 := rfl
/-- The duty of a copy cell is worth the amount of its copy. -/
theorem amount_cell (d : Fin 3) : (Rd I).amount (cell c k) 0 d = amt k := by dsimp only [Rd]; rw [kind_csem]

/-- What a duty of the barrier hands over. -/
theorem payload_bar (d : Fin 3) : (Rd I).payload (barCell c) 0 d = barPay c d := rfl
/-- What the duty of a copy cell hands over. -/
theorem payload_cell (d : Fin 3) : (Rd I).payload (cell c k) 0 d = ckPay I c k := by dsimp only [Rd]; rw [kind_csem]

/-- The barrier expects three units. -/
theorem expect_bar : (Rd I).expect (barCell c) 0 = 3 := by
  unfold Schedule.expect Schedule.amountOf; rw [duties_bar]; rfl
/-- A copy cell that is used expects the amount of its copy. -/
theorem expect_cell (h : act c k = true) : (Rd I).expect (cell c k) 0 = amt k := by
  unfold Schedule.expect Schedule.amountOf; rw [duties_cell I c k h, Finset.sum_singleton, amount_cell]

/-- Waiting on the barrier yields what its three duties hand over. -/
theorem rest_bar : bigSep ((Rd I).duties (barCell c) 0 \ ∅) (fun d => (Rd I).payload (barCell c) 0 d)
    = iprop(barPay c 0 ∗ barPay c 1 ∗ barPay c 2) := by
  rw [Finset.sdiff_empty, duties_bar, bigSep_univ_eq_bigSepL [0, 1, 2] (by decide) (by decide)]
  rfl
/-- Waiting on a copy cell yields what its copy hands over. -/
theorem rest_cell (h : act c k = true) : bigSep ((Rd I).duties (cell c k) 0 \ ∅) (fun d => (Rd I).payload (cell c k) 0 d) = ckPay I c k := by
  rw [Finset.sdiff_empty, duties_cell I c k h, bigSep_singleton, payload_cell]

end Sched

/-! ## What is owed -/

/-- The units a device owes: a barrier signal to the device `t` places after it, a copy onto one of that device's cells. -/
inductive It
  | bar (t : Fin 4) | k (t : Fin 4) | v (t : Fin 4) | u (t : Fin 4) | r (t : Fin 4) (b : Fin 2) | g (t : Fin 4) (b : Fin 2)
deriving DecidableEq

def It.cell (c : Dev nD) : It → GSem nD τ sig
  | .bar s => barCell (pe c s.val)
  | .k s => Mesh.cell (pe c s.val) (.kr s)
  | .v s => Mesh.cell (pe c s.val) (.vr s)
  | .u s => Mesh.cell (pe c s.val) (.sr s)
  | .r s b => Mesh.cell (pe c s.val) (.rr c b)
  | .g s b => Mesh.cell (pe c s.val) (.gr c b)
def It.amt : It → ℕ
  | .bar _ => 1
  | .k _ => 4096
  | .v _ => 4096
  | .u _ => 32
  | .r _ _ => 1024
  | .g _ _ => 1024
def It.lev : It → ℕ
  | .bar _ => 1
  | .k _ => 2
  | .v _ => 2
  | .u _ => 2
  | .r _ _ => 3
  | .g _ _ => 4

/-- What device `c` owes when the units of a list are still to come, the next one first. -/
def owedL (c : Dev nD) : List It → CellTallies nD τ sig Unit
  | [] => 0
  | x :: l => owedL c l + tallyAt (x.cell c) () x.amt

/-- The finished blocks' copies of batch `b`; the partial blocks'; the codes' and scales'; the signals: in program order. -/
abbrev lG1 : List It := [.g 1 1, .g 2 1, .g 3 1]
abbrev lG0 : List It := .g 1 0 :: .g 2 0 :: .g 3 0 :: lG1
abbrev lR1 : List It := .r 1 1 :: .r 2 1 :: .r 3 1 :: lG0
abbrev lR0 : List It := .r 1 0 :: .r 2 0 :: .r 3 0 :: lR1
abbrev lQ : List It := .k 1 :: .v 1 :: .u 1 :: .k 2 :: .v 2 :: .u 2 :: .k 3 :: .v 3 :: .u 3 :: lR0
abbrev lB : List It := .bar 1 :: .bar 2 :: .bar 3 :: lQ

def L (g : GSem nD τ sig) : Finset Unit := if g.1.2 = .tc then {()} else ∅

/-- The order of the waits: the barrier, then the codes and scales, then the partial blocks, then the finished ones. -/
def lv (g : GSem nD τ sig) (_ : Unit) : ℕ :=
  match kind g.2 with
  | .bar => 1
  | .ck (.kr _) => 2
  | .ck (.vr _) => 2
  | .ck (.sr _) => 2
  | .ck (.rr _ _) => 3
  | .ck (.gr _ _) => 4
  | _ => 0

/-- A cell of another core than the tensor core has no level. -/
theorem L_of_ne (g : GSem nD τ sig) (h : g.1.2 ≠ .tc) : L g = ∅ := if_neg h
/-- Every cell of a tensor core has a level. -/
theorem L_tc (c : Dev nD) (sm : SemLoc sig) : L ((c : Thread nD τ), sm) = {()} := if_pos rfl

/-- The level of the cell of a debt is the level of the debt. -/
theorem lv_it (c : Dev nD) (x : It) : lv (x.cell c) () = x.lev := by
  cases x <;> (unfold lv It.cell; first | rfl | (simp only [kind_csem]; rfl))
/-- The cell of a debt has a level. -/
theorem L_it (c : Dev nD) (x : It) : L (x.cell c) = {()} := by
  cases x <;> exact L_tc _ _

/-- A cell on which something is owed is the cell of one of the listed debts. -/
theorem owed_pos (c : Dev nD) (l : List It) (g : GSem nD τ sig) (u : Unit) (h : 0 < owedL c l g u) : ∃ x ∈ l, g = x.cell c := by
  induction l with
  | nil => exact absurd h (Nat.lt_irrefl 0)
  | cons x l ih =>
    by_cases hx : g = x.cell c
    · exact ⟨x, List.mem_cons_self, hx⟩
    · have h' : 0 < owedL c l g u + tallyAt (x.cell c) () x.amt g u := h
      rw [tallyAt_apply, if_neg (fun e => hx e.1), Nat.add_zero] at h'
      obtain ⟨y, hy, e⟩ := ih h'
      exact ⟨y, List.mem_cons_of_mem _ hy, e⟩

/-- A cell may be waited on while everything still owed is of a higher level. -/
theorem mayWait (c : Dev nD) (sm : SemLoc sig) (l : List It) (n : ℕ) (hn : lv ((c : Thread nD τ), sm) () ≤ n) (h : ∀ x ∈ l, n < x.lev) :
    (levAts L lv : sProp 𝕄) ⊢ MayWait (c : Thread nD τ) sm () (owedL c l) :=
  MayOwe.of_cut (L := L) (lev := lv) n
    (fun p hp => by rw [Finset.mem_singleton.mp hp, L_tc]; exact Finset.mem_singleton_self _)
    (fun g u hg => by obtain ⟨x, _, rfl⟩ := owed_pos c l g u hg; rw [L_it]; exact Finset.mem_singleton_self _)
    (fun p hp => by rw [Finset.mem_singleton.mp hp]; exact hn)
    (fun g u hg => by obtain ⟨x, hx, rfl⟩ := owed_pos c l g u hg; rw [show u = () from rfl, lv_it]; exact h x hx)

end Cert.KernelIdeal.Mesh
-- ==== Proof.Steps.lean ====
/- One step of the body at a time, over any rest of the program: a signal, a wait, a copy, a load of a known piece. -/
module

public import proofs.«01_k».proof.Proof.Cells

@[expose] public section

noncomputable section

namespace Cert.KernelIdeal.Mesh

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Dev nD → Inp F)

/-! ## The records every device may consult -/

def barEmb : Dev nD ↪ GSem nD τ sig := ⟨fun c => barCell c, fun _ _ h => congrArg (fun g : GSem nD τ sig => g.1.1) h⟩

/-- Different copy cells have different semaphores. -/
theorem csem_inj {k k' : CK} (h : csem k = csem k') : k = k' := by
  have h' : 6 + k.enc.val = 6 + k'.enc.val := congrArg Fin.val h
  rw [← dec_enc k, ← dec_enc k', show k.enc.val = k'.enc.val by omega]

def scEmb : Dev nD × CK ↪ GSem nD τ sig :=
  ⟨fun p => cell p.1 p.2, fun _ _ h => Prod.ext (congrArg (fun g : GSem nD τ sig => g.1.1) h)
    (csem_inj (SemLoc.dma.inj (congrArg (fun g : GSem nD τ sig => g.2) h)))⟩

deriving instance Fintype for CK

abbrev barCells : Finset (GSem nD τ sig) := Finset.univ.map barEmb
abbrev scCells : Finset (GSem nD τ sig) := Finset.univ.map scEmb

/-- A device's barrier is among the scheduled cells. -/
theorem bar_mem (c : Dev nD) : barCell c ∈ (barCells ∪ scCells : Finset (GSem nD τ sig)) :=
  Finset.mem_union_left _ (Finset.mem_map_of_mem barEmb (Finset.mem_univ c))
/-- A copy cell is among the scheduled cells. -/
theorem cell_mem (c : Dev nD) (k : CK) : cell c k ∈ (barCells ∪ scCells : Finset (GSem nD τ sig)) :=
  Finset.mem_union_right _ (Finset.mem_map_of_mem scEmb (Finset.mem_univ (c, k)))

/-- Every cell's invariant under one map of names, and that round 0 of every barrier cell is reached. -/
def records (K : GSem nD τ sig → ℕ) : sProp 𝕄 :=
  iprop((bigSep (barCells ∪ scCells) fun g => cellInv ER (Rd I) (K g) g) ∗ bigSep barCells fun g => reached ER g 0)

instance records_persistent (K : GSem nD τ sig → ℕ) : BI.Persistent (records I K) := by unfold records; infer_instance

/-- With that the own copy cells are open, and the levels. -/
def Rec (K : GSem nD τ sig → ℕ) (c : Dev nD) : sProp 𝕄 :=
  iprop(records I K ∗ (bigSep Finset.univ fun k : CK => reached ER (cell c k) 0) ∗ levAts L lv)

instance Rec_persistent (K : GSem nD τ sig → ℕ) (c : Dev nD) : BI.Persistent (Rec I K c) := by unfold Rec; infer_instance

/-- The records hold the invariant of every scheduled cell. -/
theorem inv_of (K : GSem nD τ sig → ℕ) {g : GSem nD τ sig} (hg : g ∈ (barCells ∪ scCells : Finset (GSem nD τ sig))) :
    records I K ⊢ cellInv ER (Rd I) (K g) g := by
  unfold records; exact sep_elim_left.trans (bigSep_elim hg)
/-- So does a device's copy of the records. -/
theorem Rec_inv (K : GSem nD τ sig → ℕ) (c : Dev nD) {g : GSem nD τ sig} (hg : g ∈ (barCells ∪ scCells : Finset (GSem nD τ sig))) :
    Rec I K c ⊢ cellInv ER (Rd I) (K g) g := by
  unfold Rec; exact sep_elim_left.trans (inv_of I K hg)
/-- Every barrier has reached its first round. -/
theorem Rec_bar (K : GSem nD τ sig → ℕ) (c d : Dev nD) : Rec I K c ⊢ reached ER (barCell d) 0 := by
  unfold Rec records; exact (sep_elim_left.trans sep_elim_right).trans (bigSep_elim (Finset.mem_map_of_mem barEmb (Finset.mem_univ d)))
/-- The device's copy cells have reached their first round. -/
theorem Rec_open (K : GSem nD τ sig → ℕ) (c : Dev nD) (k : CK) : Rec I K c ⊢ reached ER (cell c k) 0 := by
  unfold Rec; exact (sep_elim_right.trans sep_elim_left).trans (bigSep_elim (Finset.mem_univ k))
/-- The records hold the levels of all cells. -/
theorem Rec_lev (K : GSem nD τ sig → ℕ) (c : Dev nD) : Rec I K c ⊢ levAts L lv := by
  unfold Rec; exact sep_elim_right.trans sep_elim_right

/-! ## Steps -/

abbrev 𝒱₀ : Variants := Variants.none

/-- What device `c` still owes, whatever it has waited on so far. -/
def ow (c : Dev nD) (l : List It) : sProp 𝕄 := iprop(∃ W, owes (c : Thread nD τ) (owedL c l) W)

/-- The position of an own copy cell before its wait. -/
abbrev atc (c : Dev nD) (k : CK) : sProp 𝕄 := atPos ER (cell c k) 0 ∅ 0
abbrev crd (c : Dev nD) (k : CK) : sProp 𝕄 := cred (tallyAt (cell c k) () (amt k))
abbrev tok (c : Dev nD) (k : CK) : sProp 𝕄 := dutyTok ER (cell c k) 0 0

abbrev TProg (F : FTy → Type) (α : Type) : Type 1 := Prog (TpuEff nD τ sig (Elt F) Λ₀ .tc) α

section

variable {α : Type} {Q : α → sProp (MT nD τ sig Unit (Elt F) ℕ UU ℕ)} (K : GSem nD τ sig → ℕ) (c : Dev nD)

/-- A signal to the device `t` places after: it hands over every place on this device that that one copies to. -/
theorem step_signal {d : Dev nD} {sem : Sem sig} {kont : PUnit → TProg F α} (t t' : Fin 4) (l : List It) (hd : d = pe c t.val)
    (hs : sem = barS) (ht : t.val + t'.val = 4) :
    iprop(Rec I K c ∗ dutyTok ER (barCell (pe c t.val)) 0 (t'.pred (by rintro rfl; have := t.isLt; simp at ht; omega)) ∗ gift c (pe c t.val) t' ∗ ow c (.bar t :: l)
      ∗ (ow c l -∗ wp frame (wpE (defs₀ (F := F)) 𝒱₀ c none) Set.univ (kont ⟨⟩) Q))
      ⊢ wp frame (wpE (defs₀ (F := F)) 𝒱₀ c none) Set.univ (.op (.semSignal (Dev.tc d) sem 1) kont) Q := by
  subst hd hs
  unfold ow
  iintro ⟨#HR, Htok, Hg, ⟨%W, HO⟩, Hk⟩
  iapply (Rounds.wp_signal 𝒱₀ ER (Rd I) (c : Thread nD τ) none (dst := (pe c t.val : Thread nD τ)) (sem := barS) (r := 0)
      (d := t'.pred (by rintro rfl; have := t.isLt; simp at ht; omega)) (κ := K (barCell (pe c t.val)))
      (by rw [duties_bar]; exact Finset.mem_univ _) (amount_bar I (pe c t.val) _) () (owedL c l) rfl)
    $$ [HO Htok Hg]
  · isplitr; · iapply (Rec_inv I K c (bar_mem _)); iexact HR
    isplitl [HO]; · iexact HO
    isplitl [Htok]; · iexact Htok
    isplitl [Hg]
    · rw [payload_bar]; unfold barPay
      rw [pe_pe, show (t'.pred (by rintro rfl; have := t.isLt; simp at ht; omega) : Fin 3).val + 1 = t'.val from by
        rw [Fin.val_pred]; have := t.isLt; omega, ht, pe_four, Fin.succ_pred]
      iexact Hg
    · iapply (Rec_bar I K c (pe c t.val)); iexact HR
  iintro HO
  iapply Hk
  iexists W; iexact HO

/-- The wait for the three signals. -/
theorem step_barrier {sem : Sem sig} {kont : PUnit → TProg F α} (l : List It) (hs : sem = barS) (hl : ∀ x ∈ l, 1 < x.lev) :
    iprop(Rec I K c ∗ cred (tallyAt (barCell c) () 3) ∗ atPos ER (barCell c) 0 ∅ 0 ∗ ow c l
      ∗ ((semVal (barCell c) 0 ∗ barPay c 0 ∗ barPay c 1 ∗ barPay c 2 ∗ ow c l) -∗ wp frame (wpE (defs₀ (F := F)) 𝒱₀ c none) Set.univ (kont ⟨⟩) Q))
      ⊢ wp frame (wpE (defs₀ (F := F)) 𝒱₀ c none) Set.univ (.op (.semWait sem 3) kont) Q := by
  subst hs
  unfold ow
  iintro ⟨#HR, Hc, Hat, ⟨%W, HO⟩, Hk⟩
  iapply (Rounds.wp_wait_rest_token 𝒱₀ ER (Rd I) (c : Thread nD τ) none (κ := K (barCell c))
      (wpE_semWait_eq 𝒱₀ (c : Thread nD τ) none Set.univ) (Set.mem_univ _) () (O := owedL c l) (W := W) (R := 0) (m := 0) (T := ∅)
      ((Nat.zero_add 3).trans (expect_bar I c).symm)) $$ [Hc HO Hat]
  · isplitr; · iapply (Rec_inv I K c (bar_mem _)); iexact HR
    isplitl [Hc]; · iexact Hc
    isplitl [HO]; · iexact HO
    isplitr; · iapply (mayWait c (.reg barS) l 1 (le_refl _) hl); iapply (Rec_lev I K c); iexact HR
    iexact Hat
  iintro ⟨HO, Hat, -, Hpay⟩
  ihave Hp := (Entails.of_eq (rest_bar I c)) $$ Hpay
  icases Hp with ⟨H0, H1, H2⟩
  imod (Rounds.cell_close ER (Rd I) (Set.mem_univ (K (barCell c))) id (duties_later I (barCell c))) $$ [Hat] with Hv
  · isplitr; · iapply (Rec_inv I K c (bar_mem _)); iexact HR
    iexact Hat
  iapply Hk
  isplitl [Hv]; · iexact Hv
  isplitl [H0]; · iexact H0
  isplitl [H1]; · iexact H1
  isplitl [H2]; · iexact H2
  iexists _; iexact HO

/-- The wait for a copy on an own cell: what the copy hands over comes, and the cell is closed with its counter at zero. -/
theorem step_wait {sp sp' : Space} {s s' : Shape} {e e' : EltTy} {src : Memref sig .tc sp s e} {dst : Memref sig .tc sp' s' e'} {sem : DmaSem sig}
    {h₁ : src.view.WordExact} {h₂ : dst.view.WordExact} {kont : PUnit → TProg F α} (k : CK) (l : List It) (n : ℕ)
    (hs : sem = csem k) (ha : act c k = true) (hN : dst.view.dmaCredit = amt k)
    (hn : lv (cell c k) () ≤ n) (hl : ∀ x ∈ l, n < x.lev) :
    iprop(Rec I K c ∗ crd c k ∗ atc c k ∗ ow c l ∗ ((semVal (cell c k) 0 ∗ ckPay I c k ∗ ow c l) -∗ wp frame (wpE (defs₀ (F := F)) 𝒱₀ c none) Set.univ (kont ⟨⟩) Q))
      ⊢ wp frame (wpE (defs₀ (F := F)) 𝒱₀ c none) Set.univ (.op (.waitDma2 sem src dst h₁ h₂) kont) Q := by
  subst hs
  unfold ow
  iintro ⟨#HR, Hc, Hat, ⟨%W, HO⟩, Hk⟩
  iapply (Rounds.wp_wait_rest_token 𝒱₀ ER (Rd I) (c : Thread nD τ) none (κ := K (cell c k))
      (wpE_waitDma2_eq 𝒱₀ (c : Thread nD τ) none Set.univ) (Set.mem_univ _) () (O := owedL c l) (W := W) (R := 0) (m := 0) (T := ∅)
      ((Nat.zero_add _).trans (hN.trans (expect_cell I c k ha).symm))) $$ [Hc HO Hat]
  · isplitr; · iapply (Rec_inv I K c (cell_mem c k)); iexact HR
    isplitl [Hc]; · rw [hN]; iexact Hc
    isplitl [HO]; · iexact HO
    isplitr; · iapply (mayWait c (.dma (csem k)) l n hn hl); iapply (Rec_lev I K c); iexact HR
    iexact Hat
  iintro ⟨HO, Hat, -, Hpay⟩
  ihave Hp := (Entails.of_eq (rest_cell I c k ha)) $$ Hpay
  imod (Rounds.cell_close ER (Rd I) (Set.mem_univ (K (cell c k))) id (duties_later I (cell c k))) $$ [Hat] with Hv
  · isplitr; · iapply (Rec_inv I K c (cell_mem c k)); iexact HR
    iexact Hat
  iapply Hk
  isplitl [Hv]; · iexact Hv
  isplitl [Hp]; · iexact Hp
  iexists _; iexact HO

/-- A copy onto cell `k'` of device `d`, announced on the own cell `k`. -/
theorem step_send {sp sp' : Space} {s : Shape} {e : EltTy} {d d' : Dev nD} {src : Memref sig .tc sp s e} {dst : Memref sig .tc sp' s e}
    {hsc : dst.view.ref.isScScratch = false} {sS sR : DmaSem sig}
    {h₁ : src.view.WordExact} {h₂ : dst.view.WordExact} {h₃ : DmaTarget.Typed sp (.dma sR) (.remote (d' : Thread nD τ) dst (.dma sS) hsc)}
    {kont : PUnit → TProg F α} (k k' : CK) (x : It) (l : List It) (q : PosShare TreeShare)
    (fs : Buf (Elt F) (src.view.loc (c : Thread nD τ))) (hd : d' = d) (hS : sS = csem k) (hR : sR = csem k')
    (ha : act c k = true) (ha' : act d k' = true) (hx : x.cell c = cell d k') (hxa : x.amt = amt k') (hkk : amt k = amt k')
    (hN : dst.view.dmaCredit = amt k')
    (hp₁ : (src.view.loc (c : Thread nD τ) ↦[src.view.set]{q} fs) ⊢ ckPay I c k)
    (hsp : space (F := F) d k' ⊢ iprop(∃ fd, dst.view.loc (d : Thread nD τ) ↦[dst.view.set]{fullShare} fd))
    (hp₂ : ∀ fd, (dst.view.loc (d : Thread nD τ) ↦[dst.view.set]{fullShare} (dst.view.write (Elt F) fd (src.view.read (Elt F) fs) Finset.univ))
      ⊢ ckPay I d k') :
    iprop(Rec I K c ∗ (src.view.loc (c : Thread nD τ) ↦[src.view.set]{q} fs) ∗ land d k' ∗ tok c k ∗ ow c (x :: l)
      ∗ ((crd c k ∗ ow c l) -∗ wp frame (wpE (defs₀ (F := F)) 𝒱₀ c none) Set.univ (kont ⟨⟩) Q))
      ⊢ wp frame (wpE (defs₀ (F := F)) 𝒱₀ c none) Set.univ (.op (.enqueueDma src (.remote (d' : Thread nD τ) dst (.dma sS) hsc) (.dma sR) h₁ h₂ h₃) kont) Q := by
  subst hd hS hR
  unfold ow land
  iintro ⟨#HR, Hs, ⟨Hsp, Htk', #Hr'⟩, Htk, ⟨%W, HO⟩, Hk⟩
  ihave Hd := hsp $$ Hsp
  icases Hd with ⟨%fd, Hd⟩
  iapply (Rounds.wp_send_pointsTo 𝒱₀ ER (Rd I) (c : Thread nD τ) none (c' := (d' : Thread nD τ)) (src := src) (dst := dst)
      (sS := .dma (csem k)) (sem := .dma (csem k')) (q := q) (fs := fs) (κ₁ := K (cell c k)) (κ₂ := K (cell d' k'))
      (r₁ := 0) (r₂ := 0) (d₁ := 0) (d₂ := 0) (fd := fd)
      (by rw [duties_cell I c k ha]; exact Finset.mem_singleton_self _) (by rw [duties_cell I d' k' ha']; exact Finset.mem_singleton_self _)
      () () (amt k') hN ((amount_cell I c k 0).trans hkk) (amount_cell I d' k' 0) (owedL c l)
      (by show owedL c l + tallyAt (x.cell c) () x.amt = _; rw [hx, hxa]) (W := W)
      (by rw [payload_cell]; exact hp₁)
      (by rw [payload_cell]; exact hp₂ fd)) $$ [Hs Hd HO Htk Htk']
  · isplitr; · iapply (Rec_inv I K c (cell_mem c k)); iexact HR
    isplitr; · iapply (Rec_inv I K c (cell_mem d' k')); iexact HR
    isplitl [Hs]; · iexact Hs
    isplitl [Hd]; · iexact Hd
    isplitl [HO]; · iexact HO
    isplitl [Htk]; · iexact Htk
    isplitr; · iapply (Rec_open I K c k); iexact HR
    isplitl [Htk']; · iexact Htk'
    iexact Hr'
  iintro ⟨Hc, HO⟩
  iapply Hk
  isplitl [Hc]; · unfold crd; rw [hkk]; iexact Hc
  iexists W; iexact HO

end

end Cert.KernelIdeal.Mesh
-- ==== Proof.Moves.lean ====
/- The steps that read a buffer: each comes back with the value the pure definitions name. -/
module

public import proofs.«01_k».proof.Proof.Steps

@[expose] public section

noncomputable section

namespace Cert.KernelIdeal.Mesh

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Dev nD → Inp F)

/-! ## What a load through a rectangle of a whole buffer reads -/

/-- The elements a load of slot `t` touches are the slot's. -/
theorem on_kg {off size : Fin 5 → ℕ} (t : Fin 4) (h) (e : off 0 = t.val) (e' : size 0 = 1) :
    kgM.view.setOn (Rect.unit (s := S4x4x2x128x64) off size h).toLoadRect.set ⊆ slab kKey t := by
  intro i hi
  have hi' := Rect.mem_set_unit.mp ((View.mem_setOn (v := kgM.view) (x := i)).mp hi)
  have h0 := hi' 0
  rw [e, e'] at h0
  exact mem_slab.mpr (Fin.ext (show (i 0).val = t.val by omega))

/-- A read in slot `t` of the gathered scales touches that slot only. -/
theorem on_sg {off size : Fin 3 → ℕ} (t : Fin 4) (h) (e : off 0 = t.val) (e' : size 0 = 1) :
    sgM.view.setOn (Rect.unit (s := S4x2x128) off size h).toLoadRect.set ⊆ slab sKey t := by
  intro i hi
  have hi' := Rect.mem_set_unit.mp ((View.mem_setOn (v := sgM.view) (x := i)).mp hi)
  have h0 := hi' 0
  rw [e, e'] at h0
  exact mem_slab.mpr (Fin.ext (show (i 0).val = t.val by omega))

/-- Reading one head and batch entry of a gathered slot of codes, entry by entry. -/
theorem rd_head {off : Fin 5 → ℕ} (t h : Fin 4) (b : Fin 2) (hin) (e : off = ![t.val, h.val, b.val, 0, 0])
    (f : S4x4x2x128x64.Idx → BitVec 8) :
    kgM.view.readAt (Elt F) (Rect.unit (s := S4x4x2x128x64) off S1x1x1x128x64.size hin).toLoadRect f
      = fun i => f (ix5 t h b (i 3) (i 4)) := by
  subst e
  funext i
  show f ((Rect.unit (s := S4x4x2x128x64) ![t.val, h.val, b.val, 0, 0] S1x1x1x128x64.size hin).emb i) = _
  congr 1
  have h0 : (i 0).val < 1 := (i 0).isLt
  have h1 : (i 1).val < 1 := (i 1).isLt
  have h2 : (i 2).val < 1 := (i 2).isLt
  funext a; apply Fin.ext
  rw [ValueKit.rect_emb_unit_val]
  match a with
  | ⟨0, _⟩ => show t.val + (i 0).val = t.val; omega
  | ⟨1, _⟩ => show h.val + (i 1).val = h.val; omega
  | ⟨2, _⟩ => show b.val + (i 2).val = b.val; omega
  | ⟨3, _⟩ => exact Nat.zero_add _
  | ⟨4, _⟩ => exact Nat.zero_add _

/-- Reading one scale of a gathered slot. -/
theorem rd_scale {off : Fin 3 → ℕ} (t : Fin 4) (r : Fin 2) (hin) (e : off = ![t.val, r.val, 0]) (f : S4x2x128.Idx → F .f32) :
    sgM.view.readAt (Elt F) (Rect.unit (s := S4x2x128) off S1x1x1.size hin).toLoadRect f = fun _ => f (ix3 t r 0) := by
  subst e
  funext i
  show f ((Rect.unit (s := S4x2x128) ![t.val, r.val, 0] S1x1x1.size hin).emb i) = _
  congr 1
  have h0 : (i 0).val < 1 := (i 0).isLt
  have h1 : (i 1).val < 1 := (i 1).isLt
  have h2 : (i 2).val < 1 := (i 2).isLt
  funext a; apply Fin.ext
  rw [ValueKit.rect_emb_unit_val]
  match a with
  | ⟨0, _⟩ => show t.val + (i 0).val = t.val; omega
  | ⟨1, _⟩ => show r.val + (i 1).val = r.val; omega
  | ⟨2, _⟩ => show 0 + (i 2).val = 0; omega

/-- Reading one of the device's own scales. -/
theorem rd_own {off : Fin 2 → ℕ} (r : Fin 2) (hin) (e : off = ![r.val, 0]) (f : S2x128.Idx → F .f32) :
    scM.view.readAt (Elt F) (Rect.unit (s := S2x128) off S1x1.size hin).toLoadRect f = fun _ => f (ix2 r 0) := by
  subst e
  funext i
  show f ((Rect.unit (s := S2x128) ![r.val, 0] S1x1.size hin).emb i) = _
  congr 1
  have h0 : (i 0).val < 1 := (i 0).isLt
  have h1 : (i 1).val < 1 := (i 1).isLt
  funext a; apply Fin.ext
  rw [ValueKit.rect_emb_unit_val]
  match a with
  | ⟨0, _⟩ => show r.val + (i 0).val = r.val; omega
  | ⟨1, _⟩ => show 0 + (i 1).val = 0; omega

/-- Reading one batch entry of the activations, entry by entry. -/
theorem rd_x {off : Fin 3 → ℕ} (b : Fin 2) (hin) (e : off = ![b.val, 0, 0]) (f : S2x128x512.Idx → F .bf16) :
    xM.view.readAt (Elt F) (Rect.unit (s := S2x128x512) off S1x128x512.size hin).toLoadRect f = fun i => f (ix3 b (i 1) (i 2)) := by
  subst e
  funext i
  show f ((Rect.unit (s := S2x128x512) ![b.val, 0, 0] S1x128x512.size hin).emb i) = _
  congr 1
  have h0 : (i 0).val < 1 := (i 0).isLt
  funext a; apply Fin.ext
  rw [ValueKit.rect_emb_unit_val]
  match a with
  | ⟨0, _⟩ => show b.val + (i 0).val = b.val; omega
  | ⟨1, _⟩ => exact Nat.zero_add _
  | ⟨2, _⟩ => exact Nat.zero_add _

section

variable {α : Type} {Q : α → sProp (MT nD τ sig Unit (Elt F) ℕ UU ℕ)} (K : GSem nD τ sig → ℕ) (c : Dev nD)

/-- A load of elements held, by what it reads. -/
theorem step_load {s : Shape} {e : EltTy} {M : Memref sig .tc .vmem s e} {r : LoadRect s} {hl : M.view.LoadsAt r}
    {kont : (r.shape.Idx → Elt F e) → TProg F α} {S : Finset (Idx (M.view.loc (c : Thread nD τ)))} {q : PosShare TreeShare}
    {f : Buf (Elt F) (M.view.loc (c : Thread nD τ))} (val : r.shape.Idx → Elt F e)
    (hS : M.view.setOn r.set ⊆ S) (hv : M.view.readAt (Elt F) r f = val) :
    (M.view.loc (c : Thread nD τ) ↦[S]{q} f)
      ⊢ iprop(((M.view.loc (c : Thread nD τ) ↦[S]{q} f) -∗ wp frame (wpE (defs₀ (F := F)) 𝒱₀ c none) Set.univ (kont val) Q)
        -∗ wp frame (wpE (defs₀ (F := F)) 𝒱₀ c none) Set.univ (.op (.load M r hl) kont) Q) := by
  subst hv
  exact wp_load 𝒱₀ (c : Thread nD τ) none Set.univ hS

/-- Key codes of slot `t`, head `h`, batch `b`. -/
theorem stepK {off : Fin 5 → ℕ} (t h : Fin 4) (b : Fin 2) {hin} {hl} {kont : (S1x1x1x128x64.Idx → Elt F .i8) → TProg F α}
    (e : off = ![t.val, h.val, b.val, 0, 0] := by rfl) :
    kgP c t (KG I c) ⊢ iprop((kgP c t (KG I c) -∗ wp frame (wpE (defs₀ (F := F)) 𝒱₀ c none) Set.univ (kont (ldK I c t h b)) Q)
      -∗ wp frame (wpE (defs₀ (F := F)) 𝒱₀ c none) Set.univ
        (.op (.load kgM (Rect.unit (s := S4x4x2x128x64) off S1x1x1x128x64.size hin).toLoadRect hl) kont) Q) :=
  step_load c (M := kgM) _ (on_kg t hin (by rw [e]; rfl) rfl) (rd_head t h b hin e _)

/-- Value codes of slot `t`, head `h`, batch `b`. -/
theorem stepV {off : Fin 5 → ℕ} (t h : Fin 4) (b : Fin 2) {hin} {hl} {kont : (S1x1x1x128x64.Idx → Elt F .i8) → TProg F α}
    (e : off = ![t.val, h.val, b.val, 0, 0] := by rfl) :
    vgP c t (VG I c) ⊢ iprop((vgP c t (VG I c) -∗ wp frame (wpE (defs₀ (F := F)) 𝒱₀ c none) Set.univ (kont (ldV I c t h b)) Q)
      -∗ wp frame (wpE (defs₀ (F := F)) 𝒱₀ c none) Set.univ
        (.op (.load vgM (Rect.unit (s := S4x4x2x128x64) off S1x1x1x128x64.size hin).toLoadRect hl) kont) Q) :=
  step_load c (M := vgM) _ (on_kg t hin (by rw [e]; rfl) rfl) (rd_head t h b hin e _)

/-- The gathered scale `r` of slot `t`. -/
theorem stepG {off : Fin 3 → ℕ} (t : Fin 4) (r : Fin 2) {hin} {hl} {kont : (S1x1x1.Idx → Elt F .f32) → TProg F α}
    (e : off = ![t.val, r.val, 0] := by rfl) :
    sgP c t (SG I c) ⊢ iprop((sgP c t (SG I c) -∗ wp frame (wpE (defs₀ (F := F)) 𝒱₀ c none) Set.univ (kont (ldG I c t r)) Q)
      -∗ wp frame (wpE (defs₀ (F := F)) 𝒱₀ c none) Set.univ
        (.op (.load sgM (Rect.unit (s := S4x2x128) off S1x1x1.size hin).toLoadRect hl) kont) Q) :=
  step_load c (M := sgM) _ (on_sg t hin (by rw [e]; rfl) rfl) (rd_scale t r hin e _)

/-- The device's own scale `r`. -/
theorem stepC {off : Fin 2 → ℕ} (r : Fin 2) {hin} {hl} {kont : (S1x1.Idx → Elt F .f32) → TProg F α}
    (e : off = ![r.val, 0] := by rfl) :
    scP I c 0 ⊢ iprop((scP I c 0 -∗ wp frame (wpE (defs₀ (F := F)) 𝒱₀ c none) Set.univ (kont (ldC I c r)) Q)
      -∗ wp frame (wpE (defs₀ (F := F)) 𝒱₀ c none) Set.univ
        (.op (.load scM (Rect.unit (s := S2x128) off S1x1.size hin).toLoadRect hl) kont) Q) :=
  step_load c (M := scM) _ (Finset.subset_univ _) (rd_own r hin e _)

abbrev xP : sProp (MT nD τ sig Unit (Elt F) ℕ UU ℕ) := xM.view.loc (c : Thread nD τ) ↦{fullShare} (I c).x
abbrev wqP : sProp (MT nD τ sig Unit (Elt F) ℕ UU ℕ) := wqM.view.loc (c : Thread nD τ) ↦{fullShare} (I c).wq
abbrev woP : sProp (MT nD τ sig Unit (Elt F) ℕ UU ℕ) := woM.view.loc (c : Thread nD τ) ↦{fullShare} (I c).wo

/-- The body's load of one batch entry of the activations. -/
theorem stepX {off : Fin 3 → ℕ} (b : Fin 2) {hin} {hl} {kont : (S1x128x512.Idx → Elt F .bf16) → TProg F α}
    (e : off = ![b.val, 0, 0] := by rfl) :
    xP I c ⊢ iprop((xP I c -∗ wp frame (wpE (defs₀ (F := F)) 𝒱₀ c none) Set.univ (kont (ldX I c b)) Q)
      -∗ wp frame (wpE (defs₀ (F := F)) 𝒱₀ c none) Set.univ
        (.op (.load xM (Rect.unit (s := S2x128x512) off S1x128x512.size hin).toLoadRect hl) kont) Q) :=
  step_load c (M := xM) _ (Finset.subset_univ _) (rd_x b hin e _)

/-- The body's load of the query weights. -/
theorem stepW {off : Fin 2 → ℕ} {hin} {hl} {kont : (S512x256.Idx → Elt F .bf16) → TProg F α} (e : off = fun _ => 0) :
    wqP I c ⊢ iprop((wqP I c -∗ wp frame (wpE (defs₀ (F := F)) 𝒱₀ c none) Set.univ (kont (ldW I c)) Q)
      -∗ wp frame (wpE (defs₀ (F := F)) 𝒱₀ c none) Set.univ
        (.op (.load wqM (Rect.unit (s := S512x256) off S512x256.size hin).toLoadRect hl) kont) Q) :=
  step_load c (M := wqM) _ (Finset.subset_univ _) (Memref.readAt_unit_zero (Elt F) cc0_stg1_0 e hin _)

/-- The body's load of the output weights. -/
theorem stepO {off : Fin 2 → ℕ} {hin} {hl} {kont : (S256x512.Idx → Elt F .bf16) → TProg F α} (e : off = fun _ => 0) :
    woP I c ⊢ iprop((woP I c -∗ wp frame (wpE (defs₀ (F := F)) 𝒱₀ c none) Set.univ (kont (ldO I c)) Q)
      -∗ wp frame (wpE (defs₀ (F := F)) 𝒱₀ c none) Set.univ
        (.op (.load woM (Rect.unit (s := S256x512) off S256x512.size hin).toLoadRect hl) kont) Q) :=
  step_load c (M := woM) _ (Finset.subset_univ _) (Memref.readAt_unit_zero (Elt F) cc0_stg3_0 e hin _)

end

end Cert.KernelIdeal.Mesh
-- ==== Proof.Sends.lean ====
/- The copies the body starts, one lemma for each of the five kinds: what it takes, and what the landing leaves. -/
module

public import proofs.«01_k».proof.Proof.Moves

@[expose] public section

noncomputable section

namespace Cert.KernelIdeal.Mesh

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Dev nD → Inp F)

/-! ## What the landings leave -/

/-- Going `t` places on and then the other `4 - t` leads back. -/
theorem pe_back (c : Dev nD) (t : Fin 4) : pe (pe c t.val) (4 - t.val) = c := by
  rw [pe_pe, show t.val + (4 - t.val) = 4 by omega, pe_four]

/-- The copy of row `r` of the codes of `c` for the device `t` after it, at an element of slot `t`. -/
theorem landed_codes (c : Dev nD) (t : Fin 4) (r : Fin 2) {off off' : Fin 5 → ℕ} (h) (hu) (sq) (h') (hu') (sq')
    (e : off = ![r.val, 4 * (pe c t.val).val, 0, 0, 0]) (e' : off' = ![t.val, 0, 0, 0, 0])
    (fd : S4x4x2x128x64.Idx → BitVec 8) (i : S4x4x2x128x64.Idx) (hi : i 0 = t) :
    ((kgM.slice (Rect.unit (s := S4x4x2x128x64) off' S1x4x2x128x64.size h') hu').squeeze S4x2x128x64 sq').view.write (Elt F) fd
      (((kvM.slice (Rect.unit (s := S2x16x2x128x64) off S1x4x2x128x64.size h) hu).squeeze S4x2x128x64 sq).view.read (Elt F) (I c).kv)
      Finset.univ i = (I c).kv (ix5 r (head (pe c t.val) (i 1)) (i 2) (i 3) (i 4)) := by
  subst e e'
  have key := copy_at (Val := Elt F) (kgM.slice (Rect.unit (s := S4x4x2x128x64) ![t.val, 0, 0, 0, 0] S1x4x2x128x64.size h') hu')
    (kvM.slice (Rect.unit (s := S2x16x2x128x64) ![r.val, 4 * (pe c t.val).val, 0, 0, 0] S1x4x2x128x64.size h) hu) sq' sq fd (I c).kv
    (ix5 0 (i 1) (i 2) (i 3) (i 4)) (ix5 0 (i 1) (i 2) (i 3) (i 4)) rfl
  have hy : (kgM.slice (Rect.unit (s := S4x4x2x128x64) ![t.val, 0, 0, 0, 0] S1x4x2x128x64.size h') hu').view.emb
      (ix5 0 (i 1) (i 2) (i 3) (i 4)) = i := by
    funext a; apply Fin.ext
    refine (ValueKit.view_emb_slice_whole_unit_val _ _ _ _ _ _).trans ?_
    match a with
    | ⟨0, _⟩ => exact (congrArg Fin.val hi).symm
    | ⟨1, _⟩ => exact Nat.zero_add _
    | ⟨2, _⟩ => exact Nat.zero_add _
    | ⟨3, _⟩ => exact Nat.zero_add _
    | ⟨4, _⟩ => exact Nat.zero_add _
  rw [hy] at key
  refine key.trans ?_
  show (I c).kv ((kvM.slice (Rect.unit (s := S2x16x2x128x64) ![r.val, 4 * (pe c t.val).val, 0, 0, 0] S1x4x2x128x64.size h) hu).view.emb
    (ix5 0 (i 1) (i 2) (i 3) (i 4))) = _
  congr 1
  funext a; apply Fin.ext
  refine (ValueKit.view_emb_slice_whole_unit_val _ _ _ _ _ _).trans ?_
  match a with
  | ⟨0, _⟩ => exact Nat.add_zero _
  | ⟨1, _⟩ => rfl
  | ⟨2, _⟩ => exact Nat.zero_add _
  | ⟨3, _⟩ => exact Nat.zero_add _
  | ⟨4, _⟩ => exact Nat.zero_add _

/-- The copy of the scales of `c`, at an element of slot `t`. -/
theorem landed_scales (c : Dev nD) (t : Fin 4) {off' : Fin 3 → ℕ} (h') (hu') (sq') (e' : off' = ![t.val, 0, 0])
    (fd : S4x2x128.Idx → F .f32) (i : S4x2x128.Idx) (hi : i 0 = t) :
    ((sgM.slice (Rect.unit (s := S4x2x128) off' S1x2x128.size h') hu').squeeze S2x128 sq').view.write (Elt F) fd
      (scM.view.read (Elt F) (I c).sc) Finset.univ i = (I c).sc (ix2 (i 1) (i 2)) := by
  subst e'
  have hr : (S1x2x128.rowMajor (ix3 0 (i 1) (i 2)) : ℕ) = S2x128.rowMajor (ix2 (i 1) (i 2)) := by
    rw [Shape.rowMajor_val_two, Shape.rowMajor_val_three]
    show (0 * 2 + (i 1).val) * 128 + (i 2).val = (i 1).val * 128 + (i 2).val
    rw [Nat.zero_mul, Nat.zero_add]
  have hy : ((sgM.slice (Rect.unit (s := S4x2x128) ![t.val, 0, 0] S1x2x128.size h') hu').squeeze S2x128 sq').view.emb
      (ix2 (i 1) (i 2)) = i := by
    show (sgM.slice (Rect.unit (s := S4x2x128) ![t.val, 0, 0] S1x2x128.size h') hu').view.emb
      (Shape.reshapeEquiv sq'.numel_eq (ix2 (i 1) (i 2))) = i
    rw [show Shape.reshapeEquiv sq'.numel_eq (ix2 (i 1) (i 2)) = ix3 0 (i 1) (i 2) from
      Shape.reshapeEquiv_eq_of_rowMajor sq'.numel_eq hr]
    funext a; apply Fin.ext
    refine (ValueKit.view_emb_slice_whole_unit_val _ _ _ _ _ _).trans ?_
    match a with
    | ⟨0, _⟩ => exact (congrArg Fin.val hi).symm
    | ⟨1, _⟩ => exact Nat.zero_add _
    | ⟨2, _⟩ => exact Nat.zero_add _
  have key := View.write_emb_of_mem (Val := Elt F)
    (v := ((sgM.slice (Rect.unit (s := S4x2x128) ![t.val, 0, 0] S1x2x128.size h') hu').squeeze S2x128 sq').view) fd
    (scM.view.read (Elt F) (I c).sc) (M := Finset.univ) (x := ix2 (i 1) (i 2)) (Finset.mem_univ _)
  rw [hy] at key
  exact key

/-- The copy of a partial block of `c` for the device `t` after it, at an element of its landing place. -/
theorem landed_part (c : Dev nD) (t : Fin 4) (b : Fin 2) {off : Fin 3 → ℕ} {off' : Fin 4 → ℕ} (h) (hu) (sq) (h') (hu') (sq')
    (e : off = ![b.val, 0, 128 * (pe c t.val).val]) (e' : off' = ![c.val, b.val, 0, 0])
    (fs : S2x128x512.Idx → F .bf16) (fd : S4x2x128x128.Idx → F .bf16) (i : S4x2x128x128.Idx) (hi : (i 0, i 1) = (c, b)) :
    ((rsM.slice (Rect.unit (s := S4x2x128x128) off' S1x1x128x128.size h') hu').squeeze S128x128 sq').view.write (Elt F) fd
      (((pbM.slice (Rect.unit (s := S2x128x512) off S1x128x128.size h) hu).squeeze S128x128 sq).view.read (Elt F) fs)
      Finset.univ i = fs (ix3 b (i 2) (col (pe c t.val) (i 3))) := by
  subst e e'
  have key := copy_at (Val := Elt F) (rsM.slice (Rect.unit (s := S4x2x128x128) ![c.val, b.val, 0, 0] S1x1x128x128.size h') hu')
    (pbM.slice (Rect.unit (s := S2x128x512) ![b.val, 0, 128 * (pe c t.val).val] S1x128x128.size h) hu) sq' sq fd fs
    (ix4 0 0 (i 2) (i 3)) (ix3 0 (i 2) (i 3)) (by
      rw [Shape.rowMajor_val_three, Shape.rowMajor_val_four]
      show (0 * 128 + (i 2).val) * 128 + (i 3).val = ((0 * 1 + 0) * 128 + (i 2).val) * 128 + (i 3).val
      simp only [Nat.zero_mul, Nat.zero_add])
  have hy : (rsM.slice (Rect.unit (s := S4x2x128x128) ![c.val, b.val, 0, 0] S1x1x128x128.size h') hu').view.emb
      (ix4 0 0 (i 2) (i 3)) = i := by
    funext a; apply Fin.ext
    refine (ValueKit.view_emb_slice_whole_unit_val _ _ _ _ _ _).trans ?_
    match a with
    | ⟨0, _⟩ => exact (congrArg (fun p => Fin.val (Prod.fst p)) hi).symm
    | ⟨1, _⟩ => exact (congrArg (fun p => Fin.val (Prod.snd p)) hi).symm
    | ⟨2, _⟩ => exact Nat.zero_add _
    | ⟨3, _⟩ => exact Nat.zero_add _
  rw [hy] at key
  refine key.trans ?_
  show fs ((pbM.slice (Rect.unit (s := S2x128x512) ![b.val, 0, 128 * (pe c t.val).val] S1x128x128.size h) hu).view.emb
    (ix3 0 (i 2) (i 3))) = _
  congr 1
  funext a; apply Fin.ext
  refine (ValueKit.view_emb_slice_whole_unit_val _ _ _ _ _ _).trans ?_
  match a with
  | ⟨0, _⟩ => exact Nat.add_zero _
  | ⟨1, _⟩ => exact Nat.zero_add _
  | ⟨2, _⟩ => rfl

/-- The copy of a finished block of `c`, at an element of its landing place. -/
theorem landed_done (c : Dev nD) (b : Fin 2) {off : Fin 3 → ℕ} {off' : Fin 4 → ℕ} (h) (hu) (sq) (h') (hu') (sq')
    (e : off = ![b.val, 0, 0]) (e' : off' = ![c.val, b.val, 0, 0])
    (fs : S2x128x128.Idx → F .bf16) (fd : S4x2x128x128.Idx → F .bf16) (i : S4x2x128x128.Idx) (hi : (i 0, i 1) = (c, b)) :
    ((agM.slice (Rect.unit (s := S4x2x128x128) off' S1x1x128x128.size h') hu').squeeze S128x128 sq').view.write (Elt F) fd
      (((asM.slice (Rect.unit (s := S2x128x128) off S1x128x128.size h) hu).squeeze S128x128 sq).view.read (Elt F) fs)
      Finset.univ i = fs (ix3 b (i 2) (i 3)) := by
  subst e e'
  have key := copy_at (Val := Elt F) (agM.slice (Rect.unit (s := S4x2x128x128) ![c.val, b.val, 0, 0] S1x1x128x128.size h') hu')
    (asM.slice (Rect.unit (s := S2x128x128) ![b.val, 0, 0] S1x128x128.size h) hu) sq' sq fd fs
    (ix4 0 0 (i 2) (i 3)) (ix3 0 (i 2) (i 3)) (by
      rw [Shape.rowMajor_val_three, Shape.rowMajor_val_four]
      show (0 * 128 + (i 2).val) * 128 + (i 3).val = ((0 * 1 + 0) * 128 + (i 2).val) * 128 + (i 3).val
      simp only [Nat.zero_mul, Nat.zero_add])
  have hy : (agM.slice (Rect.unit (s := S4x2x128x128) ![c.val, b.val, 0, 0] S1x1x128x128.size h') hu').view.emb
      (ix4 0 0 (i 2) (i 3)) = i := by
    funext a; apply Fin.ext
    refine (ValueKit.view_emb_slice_whole_unit_val _ _ _ _ _ _).trans ?_
    match a with
    | ⟨0, _⟩ => exact (congrArg (fun p => Fin.val (Prod.fst p)) hi).symm
    | ⟨1, _⟩ => exact (congrArg (fun p => Fin.val (Prod.snd p)) hi).symm
    | ⟨2, _⟩ => exact Nat.zero_add _
    | ⟨3, _⟩ => exact Nat.zero_add _
  rw [hy] at key
  refine key.trans ?_
  show fs ((asM.slice (Rect.unit (s := S2x128x128) ![b.val, 0, 0] S1x128x128.size h) hu).view.emb (ix3 0 (i 2) (i 3))) = _
  congr 1
  funext a; apply Fin.ext
  refine (ValueKit.view_emb_slice_whole_unit_val _ _ _ _ _ _).trans ?_
  match a with
  | ⟨0, _⟩ => exact Nat.add_zero _
  | ⟨1, _⟩ => exact Nat.zero_add _
  | ⟨2, _⟩ => exact Nat.zero_add _

/-- A device at a distance other than 0 is another device. -/
theorem pe_ne (c : Dev nD) (t : Fin 4) (ht : t ≠ 0) : decide (c ≠ pe c t.val) = true := by
  revert c t; decide

section

variable {α : Type} {Q : α → sProp (MT nD τ sig Unit (Elt F) ℕ UU ℕ)} (K : GSem nD τ sig → ℕ) (c : Dev nD)

/-- The copy of the key codes for the device `t` after. -/
theorem sendK {off off' : Fin 5 → ℕ} {d' : Dev nD} {sS sR : DmaSem sig} {h} {hu} {sq} {h'} {hu'} {sq'} {hsc} {h₁} {h₂} {h₃}
    {kont : PUnit → TProg F α} (t : Fin 4) (l : List It) (ht : t ≠ 0)
    (e : off = ![0, 4 * (pe c t.val).val, 0, 0, 0]) (e' : off' = ![t.val, 0, 0, 0, 0])
    (hd : d' = pe c t.val) (hS : sS = csem (.ks t)) (hR : sR = csem (.kr t)) :
    iprop(Rec I K c ∗ kvP I c 0 (pe c t.val) ∗ land (pe c t.val) (.kr t) ∗ tok c (.ks t) ∗ ow c (.k t :: l)
      ∗ ((crd c (.ks t) ∗ ow c l) -∗ wp frame (wpE (defs₀ (F := F)) 𝒱₀ c none) Set.univ (kont ⟨⟩) Q))
      ⊢ wp frame (wpE (defs₀ (F := F)) 𝒱₀ c none) Set.univ (.op (.enqueueDma
        ((kvM.slice (Rect.unit (s := S2x16x2x128x64) off S1x4x2x128x64.size h) hu).squeeze S4x2x128x64 sq)
        (.remote (d' : Thread nD τ) ((kgM.slice (Rect.unit (s := S4x4x2x128x64) off' S1x4x2x128x64.size h') hu').squeeze S4x2x128x64 sq')
          (.dma sS) hsc) (.dma sR) h₁ h₂ h₃) kont) Q := by
  have hs := set_kv (0 : Fin 2) (pe c t.val) h hu sq e
  have hs' := set_kg t h' hu' sq' e'
  have key := step_send (Q := Q) I K c (src := (kvM.slice (Rect.unit (s := S2x16x2x128x64) off S1x4x2x128x64.size h) hu).squeeze S4x2x128x64 sq)
    (dst := (kgM.slice (Rect.unit (s := S4x4x2x128x64) off' S1x4x2x128x64.size h') hu').squeeze S4x2x128x64 sq')
    (hsc := hsc) (h₁ := h₁) (h₂ := h₂) (h₃ := h₃) (kont := kont)
    (.ks t) (.kr t) (.k t) l fullShare (I c).kv hd hS hR (decide_eq_true ht) (decide_eq_true ht) rfl rfl rfl rfl
    (by rw [hs]; exact BI.Entails.refl _)
    (by rw [hs']; exact BI.Entails.refl _)
    (fun fd => by
      rw [hs']
      refine Entails.of_eq (pointsTo_congr fun i hi => ?_)
      refine (landed_codes I c t 0 h hu sq h' hu' sq' e e' fd i (mem_slab.mp hi)).trans ?_
      show _ = (I (pe (pe c t.val) (4 - (i 0).val))).kv _
      rw [show i 0 = t from mem_slab.mp hi, pe_back])
  rw [hs] at key
  exact key

/-- The copy of the value codes for the device `t` after. -/
theorem sendV {off off' : Fin 5 → ℕ} {d' : Dev nD} {sS sR : DmaSem sig} {h} {hu} {sq} {h'} {hu'} {sq'} {hsc} {h₁} {h₂} {h₃}
    {kont : PUnit → TProg F α} (t : Fin 4) (l : List It) (ht : t ≠ 0)
    (e : off = ![1, 4 * (pe c t.val).val, 0, 0, 0]) (e' : off' = ![t.val, 0, 0, 0, 0])
    (hd : d' = pe c t.val) (hS : sS = csem (.vs t)) (hR : sR = csem (.vr t)) :
    iprop(Rec I K c ∗ kvP I c 1 (pe c t.val) ∗ land (pe c t.val) (.vr t) ∗ tok c (.vs t) ∗ ow c (.v t :: l)
      ∗ ((crd c (.vs t) ∗ ow c l) -∗ wp frame (wpE (defs₀ (F := F)) 𝒱₀ c none) Set.univ (kont ⟨⟩) Q))
      ⊢ wp frame (wpE (defs₀ (F := F)) 𝒱₀ c none) Set.univ (.op (.enqueueDma
        ((kvM.slice (Rect.unit (s := S2x16x2x128x64) off S1x4x2x128x64.size h) hu).squeeze S4x2x128x64 sq)
        (.remote (d' : Thread nD τ) ((vgM.slice (Rect.unit (s := S4x4x2x128x64) off' S1x4x2x128x64.size h') hu').squeeze S4x2x128x64 sq')
          (.dma sS) hsc) (.dma sR) h₁ h₂ h₃) kont) Q := by
  have hs := set_kv (1 : Fin 2) (pe c t.val) h hu sq e
  have hs' := set_vg t h' hu' sq' e'
  have key := step_send (Q := Q) I K c (src := (kvM.slice (Rect.unit (s := S2x16x2x128x64) off S1x4x2x128x64.size h) hu).squeeze S4x2x128x64 sq)
    (dst := (vgM.slice (Rect.unit (s := S4x4x2x128x64) off' S1x4x2x128x64.size h') hu').squeeze S4x2x128x64 sq')
    (hsc := hsc) (h₁ := h₁) (h₂ := h₂) (h₃ := h₃) (kont := kont)
    (.vs t) (.vr t) (.v t) l fullShare (I c).kv hd hS hR (decide_eq_true ht) (decide_eq_true ht) rfl rfl rfl rfl
    (by rw [hs]; exact BI.Entails.refl _)
    (by rw [hs']; exact BI.Entails.refl _)
    (fun fd => by
      rw [hs']
      refine Entails.of_eq (pointsTo_congr fun i hi => ?_)
      refine (landed_codes I c t 1 h hu sq h' hu' sq' e e' fd i (mem_slab.mp hi)).trans ?_
      show _ = (I (pe (pe c t.val) (4 - (i 0).val))).kv _
      rw [show i 0 = t from mem_slab.mp hi, pe_back])
  rw [hs] at key
  exact key

/-- The copy of the scales for the device `t` after. -/
theorem sendU {off' : Fin 3 → ℕ} {d' : Dev nD} {sS sR : DmaSem sig} {h'} {hu'} {sq'} {hsc} {h₁} {h₂} {h₃}
    {kont : PUnit → TProg F α} (t : Fin 4) (l : List It) (ht : t ≠ 0) (e' : off' = ![t.val, 0, 0])
    (hd : d' = pe c t.val) (hS : sS = csem (.ss t)) (hR : sR = csem (.sr t)) :
    iprop(Rec I K c ∗ scP I c t ∗ land (pe c t.val) (.sr t) ∗ tok c (.ss t) ∗ ow c (.u t :: l)
      ∗ ((crd c (.ss t) ∗ ow c l) -∗ wp frame (wpE (defs₀ (F := F)) 𝒱₀ c none) Set.univ (kont ⟨⟩) Q))
      ⊢ wp frame (wpE (defs₀ (F := F)) 𝒱₀ c none) Set.univ (.op (.enqueueDma scM
        (.remote (d' : Thread nD τ) ((sgM.slice (Rect.unit (s := S4x2x128) off' S1x2x128.size h') hu').squeeze S2x128 sq')
          (.dma sS) hsc) (.dma sR) h₁ h₂ h₃) kont) Q := by
  have hs : scM.view.set = Finset.univ := View.set_whole cc0_stg4_0
  have hs' := set_sg t h' hu' sq' e'
  have key := step_send (Q := Q) I K c (src := scM)
    (dst := (sgM.slice (Rect.unit (s := S4x2x128) off' S1x2x128.size h') hu').squeeze S2x128 sq')
    (hsc := hsc) (h₁ := h₁) (h₂ := h₂) (h₃ := h₃) (kont := kont)
    (.ss t) (.sr t) (.u t) l (sh t) (I c).sc hd hS hR (decide_eq_true ht) (decide_eq_true ht) rfl rfl rfl rfl
    (by rw [hs]; exact BI.Entails.refl _)
    (by rw [hs']; exact BI.Entails.refl _)
    (fun fd => by
      rw [hs']
      refine Entails.of_eq (pointsTo_congr fun i hi => ?_)
      refine (landed_scales I c t h' hu' sq' e' fd i (mem_slab.mp hi)).trans ?_
      show _ = (I (pe (pe c t.val) (4 - (i 0).val))).sc _
      rw [show i 0 = t from mem_slab.mp hi, pe_back])
  rw [hs] at key
  exact key

/-- The copy of a partial block for the device `t` after. -/
theorem sendR {off : Fin 3 → ℕ} {off' : Fin 4 → ℕ} {d' : Dev nD} {sS sR : DmaSem sig} {h} {hu} {sq} {h'} {hu'} {sq'} {hsc} {h₁} {h₂} {h₃}
    {kont : PUnit → TProg F α} (t : Fin 4) (b : Fin 2) (l : List It) (ht : t ≠ 0)
    (e : off = ![b.val, 0, 128 * (pe c t.val).val]) (e' : off' = ![c.val, b.val, 0, 0])
    (hd : d' = pe c t.val) (hS : sS = csem (.rs t b)) (hR : sR = csem (.rr c b)) :
    iprop(Rec I K c ∗ pbP c b (pe c t.val) (PB I c) ∗ land (pe c t.val) (.rr c b) ∗ tok c (.rs t b) ∗ ow c (.r t b :: l)
      ∗ ((crd c (.rs t b) ∗ ow c l) -∗ wp frame (wpE (defs₀ (F := F)) 𝒱₀ c none) Set.univ (kont ⟨⟩) Q))
      ⊢ wp frame (wpE (defs₀ (F := F)) 𝒱₀ c none) Set.univ (.op (.enqueueDma
        ((pbM.slice (Rect.unit (s := S2x128x512) off S1x128x128.size h) hu).squeeze S128x128 sq)
        (.remote (d' : Thread nD τ) ((rsM.slice (Rect.unit (s := S4x2x128x128) off' S1x1x128x128.size h') hu').squeeze S128x128 sq')
          (.dma sS) hsc) (.dma sR) h₁ h₂ h₃) kont) Q := by
  have hs := set_pb b (pe c t.val) h hu sq e
  have hs' := set_rs c b h' hu' sq' e'
  have key := step_send (Q := Q) I K c (src := (pbM.slice (Rect.unit (s := S2x128x512) off S1x128x128.size h) hu).squeeze S128x128 sq)
    (dst := (rsM.slice (Rect.unit (s := S4x2x128x128) off' S1x1x128x128.size h') hu').squeeze S128x128 sq')
    (hsc := hsc) (h₁ := h₁) (h₂ := h₂) (h₃ := h₃) (kont := kont)
    (.rs t b) (.rr c b) (.r t b) l fullShare (PB I c) hd hS hR (decide_eq_true ht) (pe_ne c t ht) rfl rfl rfl rfl
    (by rw [hs]; exact BI.Entails.refl _)
    (by rw [hs']; exact BI.Entails.refl _)
    (fun fd => by
      rw [hs']
      refine Entails.of_eq (pointsTo_congr fun i hi => ?_)
      have hk : (i 0, i 1) = (c, b) := (mem_slab (key := rKey)).mp hi
      refine (landed_part c t b h hu sq h' hu' sq' e e' (PB I c) fd i hk).trans ?_
      show _ = PB I (i 0) (ix3 (i 1) (i 2) (col (pe c t.val) (i 3)))
      rw [show i 0 = c from congrArg Prod.fst hk, show i 1 = b from congrArg Prod.snd hk])
  rw [hs] at key
  exact key

/-- The copy of a finished block for the device `t` after. -/
theorem sendA {off : Fin 3 → ℕ} {off' : Fin 4 → ℕ} {d' : Dev nD} {sS sR : DmaSem sig} {h} {hu} {sq} {h'} {hu'} {sq'} {hsc} {h₁} {h₂} {h₃}
    {kont : PUnit → TProg F α} (t : Fin 4) (b : Fin 2) (l : List It) (ht : t ≠ 0)
    (e : off = ![b.val, 0, 0]) (e' : off' = ![c.val, b.val, 0, 0])
    (hd : d' = pe c t.val) (hS : sS = csem (.gs t b)) (hR : sR = csem (.gr c b)) :
    iprop(Rec I K c ∗ asP c b (sh t) (AS I c) ∗ land (pe c t.val) (.gr c b) ∗ tok c (.gs t b) ∗ ow c (.g t b :: l)
      ∗ ((crd c (.gs t b) ∗ ow c l) -∗ wp frame (wpE (defs₀ (F := F)) 𝒱₀ c none) Set.univ (kont ⟨⟩) Q))
      ⊢ wp frame (wpE (defs₀ (F := F)) 𝒱₀ c none) Set.univ (.op (.enqueueDma
        ((asM.slice (Rect.unit (s := S2x128x128) off S1x128x128.size h) hu).squeeze S128x128 sq)
        (.remote (d' : Thread nD τ) ((agM.slice (Rect.unit (s := S4x2x128x128) off' S1x1x128x128.size h') hu').squeeze S128x128 sq')
          (.dma sS) hsc) (.dma sR) h₁ h₂ h₃) kont) Q := by
  have hs := set_as b h hu sq e
  have hs' := set_ag c b h' hu' sq' e'
  have key := step_send (Q := Q) I K c (src := (asM.slice (Rect.unit (s := S2x128x128) off S1x128x128.size h) hu).squeeze S128x128 sq)
    (dst := (agM.slice (Rect.unit (s := S4x2x128x128) off' S1x1x128x128.size h') hu').squeeze S128x128 sq')
    (hsc := hsc) (h₁ := h₁) (h₂ := h₂) (h₃ := h₃) (kont := kont)
    (.gs t b) (.gr c b) (.g t b) l (sh t) (AS I c) hd hS hR (decide_eq_true ht) (pe_ne c t ht) rfl rfl rfl rfl
    (by rw [hs]; exact BI.Entails.refl _)
    (by rw [hs']; exact BI.Entails.refl _)
    (fun fd => by
      rw [hs']
      refine Entails.of_eq (pointsTo_congr fun i hi => ?_)
      have hk : (i 0, i 1) = (c, b) := (mem_slab (key := rKey)).mp hi
      refine (landed_done c b h hu sq h' hu' sq' e e' (AS I c) fd i hk).trans ?_
      show _ = AS I (i 0) (ix3 (i 1) (i 2) (i 3))
      rw [show i 0 = c from congrArg Prod.fst hk, show i 1 = b from congrArg Prod.snd hk])
  rw [hs] at key
  exact key

end

end Cert.KernelIdeal.Mesh
-- ==== Proof.PartA.lean ====
/- The first five printed parts of the body: the signals, the copies of codes and scales, the device's own codes. -/
module

public import proofs.«01_k».proof.Proof.Sends

@[expose] public section

noncomputable section

namespace Cert.KernelIdeal.Mesh

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (I : Dev nD → Inp F)

/-- A part of the body on the kernel's own buffers and semaphores. -/
abbrev ap {β : Type 1} (f : (a0 : Memref sig .tc .vmem S2x128x512 .bf16) → a0.IsWhole → (a1 : Memref sig .tc .vmem S512x256 .bf16) → a1.IsWhole →
    (a2 : Memref sig .tc .vmem S2x16x2x128x64 .i8) → a2.IsWhole → (a3 : Memref sig .tc .vmem S256x512 .bf16) → a3.IsWhole →
    (a4 : Memref sig .tc .vmem S2x128 .f32) → a4.IsWhole → (a5 : Memref sig .tc .vmem S2x128x512 .f32) → a5.IsWhole →
    (a6 : Memref sig .tc .vmem S4x4x2x128x64 .i8) → a6.IsWhole → (a7 : Memref sig .tc .vmem S4x4x2x128x64 .i8) → a7.IsWhole →
    (a8 : Memref sig .tc .vmem S4x2x128 .f32) → a8.IsWhole → (a9 : Memref sig .tc .vmem S2x128x512 .bf16) → a9.IsWhole →
    (a10 : Memref sig .tc .vmem S4x2x128x128 .bf16) → a10.IsWhole → (a11 : Memref sig .tc .vmem S2x128x128 .f32) → a11.IsWhole →
    (a12 : Memref sig .tc .vmem S2x128x128 .bf16) → a12.IsWhole → (a13 : Memref sig .tc .vmem S4x2x128x128 .bf16) → a13.IsWhole →
    DmaSems sig S4 → DmaSems sig S4 → DmaSems sig S4 → DmaSems sig S4 → DmaSems sig S4 → DmaSems sig S4 →
    DmaSems sig S4x2 → DmaSems sig S4x2 → DmaSems sig S4x2 → DmaSems sig S4x2 → β) : β :=
  f xM (Memref.isWhole_whole _) wqM (Memref.isWhole_whole _) kvM (Memref.isWhole_whole _) woM (Memref.isWhole_whole _)
    scM (Memref.isWhole_whole _) outM (Memref.isWhole_whole _) kgM (Memref.isWhole_whole _) vgM (Memref.isWhole_whole _)
    sgM (Memref.isWhole_whole _) pbM (Memref.isWhole_whole _) rsM (Memref.isWhole_whole _) rdM (Memref.isWhole_whole _)
    asM (Memref.isWhole_whole _) agM (Memref.isWhole_whole _) cc0_scratch8 cc0_scratch9 cc0_scratch10 cc0_scratch11 cc0_scratch12
    cc0_scratch13 cc0_scratch14 cc0_scratch15 cc0_scratch16 cc0_scratch17

/-- The receipt semaphore of source `o` and batch `b`. -/
theorem sem_rr (o : Fin 4) (b : Fin 2) {off : Fin 2 → ℕ} (h) (sq) (e : off = ![o.val, b.val]) :
    ((cc0_scratch15.slice (Rect.unit (s := S4x2) off S1x1.size h)).squeeze S_ sq).sem = csem (.rr o b) := by
  subst e; revert o b; decide

section

variable {α : Type} {Q : α → sProp (MT nD τ sig Unit (Elt F) ℕ UU ℕ)} (K : GSem nD τ sig → ℕ) (c : Dev nD)

/-- The three signals, each with the places its receiver copies to, and the wait for the three others. -/
theorem part1 {kont : _ → TProg F α} :
    iprop(Rec I K c ∗ (dutyTok ER (barCell (pe c 1)) 0 2 ∗ dutyTok ER (barCell (pe c 2)) 0 1 ∗ dutyTok ER (barCell (pe c 3)) 0 0)
      ∗ (gift c (pe c 1) 3 ∗ gift c (pe c 2) 2 ∗ gift c (pe c 3) 1)
      ∗ cred (tallyAt (barCell c) () 3) ∗ atPos ER (barCell c) 0 ∅ 0 ∗ ow c lB
      ∗ ((semVal (barCell c) 0 ∗ barPay c 0 ∗ barPay c 1 ∗ barPay c 2 ∗ ow c lQ)
        -∗ wp frame (wpE (defs₀ (F := F)) 𝒱₀ c none) Set.univ (kont ⟨c, wd c, Scalar.remsi (Scalar.addi (wd c) 1#32) 4#32⟩) Q))
      ⊢ wp frame (wpE (defs₀ (F := F)) 𝒱₀ c none) Set.univ (ap (k0_part1 (F := F)) >>= kont) Q := by
  unfold ap
  rw [k0_part1_eq_skeleton]
  unfold k0_part1_skel
  simp only [semSignalWord, semWaitWord, Prog.lift, Prog.bind_op, Prog.bind_ret, Prog.pure_eq_ret, wp_deviceId]
  iintro ⟨#HR, ⟨Ht1, Ht2, Ht3⟩, ⟨Hg1, Hg2, Hg3⟩, Hc, Hat, HO, Hk⟩
  iapply (step_signal I K c 1 3 _ (Fin.ext (k0_dev1_eq c)) rfl rfl)
  isplitr; · iexact HR
  isplitl [Ht1]; · iexact Ht1
  isplitl [Hg1]; · iexact Hg1
  isplitl [HO]; · iexact HO
  iintro HO
  iapply (step_signal I K c 2 2 _ (Fin.ext (k0_dev2_eq c)) rfl rfl)
  isplitr; · iexact HR
  isplitl [Ht2]; · iexact Ht2
  isplitl [Hg2]; · iexact Hg2
  isplitl [HO]; · iexact HO
  iintro HO
  iapply (step_signal I K c 3 1 _ (Fin.ext (k0_dev3_eq c)) rfl rfl)
  isplitr; · iexact HR
  isplitl [Ht3]; · iexact Ht3
  isplitl [Hg3]; · iexact Hg3
  isplitl [HO]; · iexact HO
  iintro HO
  iapply (step_barrier I K c lQ rfl (by decide))
  isplitr; · iexact HR
  isplitl [Hc]; · iexact Hc
  isplitl [Hat]; · iexact Hat
  isplitl [HO]; · iexact HO
  iexact Hk

/-- The copies of codes and scales to the next device. -/
theorem part2 {kont : _ → TProg F α} (v17 : BitVec 32) :
    iprop(Rec I K c ∗ (kvP I c 0 (pe c 1) ∗ kvP I c 1 (pe c 1) ∗ scP I c 1) ∗ (land (pe c 1) (.kr 1) ∗ land (pe c 1) (.vr 1) ∗ land (pe c 1) (.sr 1))
      ∗ (tok c (.ks 1) ∗ tok c (.vs 1) ∗ tok c (.ss 1)) ∗ ow c lQ
      ∗ ((crd c (.ks 1) ∗ crd c (.vs 1) ∗ crd c (.ss 1) ∗ ow c (lQ.drop 3))
        -∗ wp frame (wpE (defs₀ (F := F)) 𝒱₀ c none) Set.univ (kont (Scalar.remsi (Scalar.addi (wd c) 2#32) 4#32)) Q))
      ⊢ wp frame (wpE (defs₀ (F := F)) 𝒱₀ c none) Set.univ (ap (k0_part2 (F := F)) c (wd c) v17 >>= kont) Q := by
  unfold ap
  rw [k0_part2_eq_skeleton]
  unfold k0_part2_skel
  simp only [Prog.lift, Prog.bind_op, Prog.bind_ret, Prog.pure_eq_ret]
  iintro ⟨#HR, ⟨Hk, Hv, Hu⟩, ⟨Lk, Lv, Lu⟩, ⟨Tk, Tv, Tu⟩, HO, Hkont⟩
  iapply (sendK I K c 1 _ (by decide) (k0_off1_eq c 0) rfl (Fin.ext (k0_dev4_eq c)) (by decide) (by decide))
  isplitr; · iexact HR
  isplitl [Hk]; · iexact Hk
  isplitl [Lk]; · iexact Lk
  isplitl [Tk]; · iexact Tk
  isplitl [HO]; · iexact HO
  iintro ⟨Ck, HO⟩
  iapply (sendV I K c 1 _ (by decide) (k0_off2_eq c 0) rfl (Fin.ext (k0_dev5_eq c)) (by decide) (by decide))
  isplitr; · iexact HR
  isplitl [Hv]; · iexact Hv
  isplitl [Lv]; · iexact Lv
  isplitl [Tv]; · iexact Tv
  isplitl [HO]; · iexact HO
  iintro ⟨Cv, HO⟩
  iapply (sendU I K c 1 _ (by decide) rfl (Fin.ext (k0_dev6_eq c)) (by decide) (by decide))
  isplitr; · iexact HR
  isplitl [Hu]; · iexact Hu
  isplitl [Lu]; · iexact Lu
  isplitl [Tu]; · iexact Tu
  isplitl [HO]; · iexact HO
  iintro ⟨Cu, HO⟩
  iapply Hkont
  isplitl [Ck]; · iexact Ck
  isplitl [Cv]; · iexact Cv
  isplitl [Cu]; · iexact Cu
  iexact HO

/-- The copies of codes to the device two places after. -/
theorem part3 {kont : _ → TProg F α} (v49 : BitVec 32) :
    iprop(Rec I K c ∗ (kvP I c 0 (pe c 2) ∗ kvP I c 1 (pe c 2)) ∗ (land (pe c 2) (.kr 2) ∗ land (pe c 2) (.vr 2))
      ∗ (tok c (.ks 2) ∗ tok c (.vs 2)) ∗ ow c (lQ.drop 3)
      ∗ ((crd c (.ks 2) ∗ crd c (.vs 2) ∗ ow c (lQ.drop 5))
        -∗ wp frame (wpE (defs₀ (F := F)) 𝒱₀ c none) Set.univ (kont ⟨⟩) Q))
      ⊢ wp frame (wpE (defs₀ (F := F)) 𝒱₀ c none) Set.univ (ap (k0_part3 (F := F)) c v49 >>= kont) Q := by
  unfold ap
  rw [k0_part3_eq_skeleton]
  unfold k0_part3_skel
  simp only [Prog.lift, Prog.bind_op, Prog.bind_ret, Prog.pure_eq_ret]
  iintro ⟨#HR, ⟨Hk, Hv⟩, ⟨Lk, Lv⟩, ⟨Tk, Tv⟩, HO, Hkont⟩
  iapply (sendK I K c 2 _ (by decide) (k0_off1_eq c 1) rfl (Fin.ext (k0_dev7_eq c)) (by decide) (by decide))
  iframe HR Hk Lk Tk HO
  iintro ⟨Ck, HO⟩
  iapply (sendV I K c 2 _ (by decide) (k0_off2_eq c 1) rfl (Fin.ext (k0_dev8_eq c)) (by decide) (by decide))
  iframe HR Hv Lv Tv HO
  iintro ⟨Cv, HO⟩
  iapply Hkont
  iframe Ck Cv HO

end

end Cert.KernelIdeal.Mesh
-- ==== Proof.Stores.lean ====
/- Steps that store into a buffer of the device, and steps that a device takes or passes over by its place on the mesh. -/
module

public import proofs.«01_k».proof.Proof.PartA
public import Idealize.ShloMosaic.Lib.Pipeline.Value

@[expose] public section

noncomputable section

namespace Cert.KernelIdeal.Mesh

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (I : Dev nD → Inp F)

/-! ## What a store through a unit rectangle leaves -/

/-- The place of an element of a unit rectangle. -/
theorem emb_at {s : Shape} {off size : Fin s.rank → ℕ} (h) (x : (Rect.unit (s := s) off size h).shape.Idx) (i : s.Idx)
    (hv : ∀ a, off a + (x a).val = (i a).val) : (Rect.unit (s := s) off size h).emb x = i := by
  funext a; apply Fin.ext
  rw [ValueKit.rect_emb_unit_val]; exact hv a

/-- The place of an element of a unit rectangle, coordinate by coordinate. -/
theorem emb5 {d off size : Fin 5 → ℕ} (h) (x : (Rect.unit (s := ⟨5, d⟩) off size h).shape.Idx) (i : Shape.Idx ⟨5, d⟩)
    (h0 : off 0 + (x 0).val = (i 0).val) (h1 : off 1 + (x 1).val = (i 1).val) (h2 : off 2 + (x 2).val = (i 2).val)
    (h3 : off 3 + (x 3).val = (i 3).val) (h4 : off 4 + (x 4).val = (i 4).val) : (Rect.unit (s := ⟨5, d⟩) off size h).emb x = i :=
  emb_at h x i fun a => match a with
    | ⟨0, _⟩ => h0 | ⟨1, _⟩ => h1 | ⟨2, _⟩ => h2 | ⟨3, _⟩ => h3 | ⟨4, _⟩ => h4
/-- Where an index of a rank-four rectangle lies in its buffer, coordinate by coordinate. -/
theorem emb4 {d off size : Fin 4 → ℕ} (h) (x : (Rect.unit (s := ⟨4, d⟩) off size h).shape.Idx) (i : Shape.Idx ⟨4, d⟩)
    (h0 : off 0 + (x 0).val = (i 0).val) (h1 : off 1 + (x 1).val = (i 1).val) (h2 : off 2 + (x 2).val = (i 2).val)
    (h3 : off 3 + (x 3).val = (i 3).val) : (Rect.unit (s := ⟨4, d⟩) off size h).emb x = i :=
  emb_at h x i fun a => match a with
    | ⟨0, _⟩ => h0 | ⟨1, _⟩ => h1 | ⟨2, _⟩ => h2 | ⟨3, _⟩ => h3
/-- Where an index of a rank-three rectangle lies in its buffer, coordinate by coordinate. -/
theorem emb3 {d off size : Fin 3 → ℕ} (h) (x : (Rect.unit (s := ⟨3, d⟩) off size h).shape.Idx) (i : Shape.Idx ⟨3, d⟩)
    (h0 : off 0 + (x 0).val = (i 0).val) (h1 : off 1 + (x 1).val = (i 1).val) (h2 : off 2 + (x 2).val = (i 2).val) :
    (Rect.unit (s := ⟨3, d⟩) off size h).emb x = i :=
  emb_at h x i fun a => match a with
    | ⟨0, _⟩ => h0 | ⟨1, _⟩ => h1 | ⟨2, _⟩ => h2

/-- A full write leaves the written value at the place of each element. -/
theorem wr_at {κ : Kind} {sp : Space} {s : Shape} {e : EltTy} {Val : EltTy → Type} (V : View sig κ sp s e) (f : V.ty.Contents Val)
    (w : s.Idx → Val e) (x : s.Idx) (i : V.ty.Idx) (hi : V.emb x = i) :
    V.write Val f w Finset.univ i = _root_.cast (congrArg Val V.elt_eq.symm) (w x) := by
  subst hi; exact View.write_emb_of_mem f w (Finset.mem_univ x)

/-- and nothing elsewhere. -/
theorem wr_off {κ : Kind} {sp : Space} {s : Shape} {e : EltTy} {Val : EltTy → Type} (V : View sig κ sp s e) (f : V.ty.Contents Val)
    (w : s.Idx → Val e) (i : V.ty.Idx) (hi : ∀ x, V.emb x ≠ i) : V.write Val f w Finset.univ i = f i := by
  refine View.write_of_not_mem f w Finset.univ fun h => ?_
  obtain ⟨x, -, hx⟩ := Finset.mem_map.mp h
  exact hi x hx

section

variable {α : Type} {Q : α → sProp (MT nD τ sig Unit (Elt F) ℕ UU ℕ)} (c : Dev nD)

/-- A store, with what the buffer then holds named. -/
theorem step_store {sp : CoreSpace} {s : Shape} {e : EltTy} {M : Memref sig .tc sp s e} {r : Rect s} {w : r.shape.Idx → Elt F e}
    {hx : (M.access r).Stores Finset.univ} {hm} {kont : PUnit → TProg F α} {S : Finset (Idx ((M.access r).loc (c : Thread nD τ)))}
    {f : Buf (Elt F) ((M.access r).loc (c : Thread nD τ))} (g : Buf (Elt F) ((M.access r).loc (c : Thread nD τ)))
    (hS : (M.access r).setOn Finset.univ ⊆ S) (hw : ∀ i ∈ S, (M.access r).write (Elt F) f w Finset.univ i = g i) :
    ((M.access r).loc (c : Thread nD τ) ↦[S]{fullShare} f)
      ⊢ iprop((((M.access r).loc (c : Thread nD τ) ↦[S]{fullShare} g) -∗ wp frame (wpE (defs₀ (F := F)) 𝒱₀ c none) Set.univ (kont ⟨⟩) Q)
        -∗ wp frame (wpE (defs₀ (F := F)) 𝒱₀ c none) Set.univ (.op (.store M r w Finset.univ hx hm) kont) Q) := by
  rw [← pointsTo_congr hw]
  exact wp_store 𝒱₀ (c : Thread nD τ) none Set.univ hS

/-- What holds of device `c` once the first `k` places on the mesh have had their turn. -/
def upto (k : ℕ) (A B : sProp (MT nD τ sig Unit (Elt F) ℕ UU ℕ)) : sProp (MT nD τ sig Unit (Elt F) ℕ UU ℕ) := if c.val < k then A else B

/-- Before the first test nothing has been stored. -/
theorem upto_zero (A B : sProp (MT nD τ sig Unit (Elt F) ℕ UU ℕ)) : B ⊢ upto c 0 A B := by
  unfold upto; rw [if_neg (Nat.not_lt_zero _)]
/-- After the fourth test the store has happened, since the device's place is below four. -/
theorem upto_four (A B : sProp (MT nD τ sig Unit (Elt F) ℕ UU ℕ)) : upto c 4 A B ⊢ A := by
  unfold upto; rw [if_pos c.isLt]

/-- The turn of place `k`: the device at that place turns `B` into `A` with the help of `R`, every other passes over. -/
theorem step_turn {β : Type} {p : Prop} [Decidable p] {T : p → TProg F β} {E : TProg F β} {kont : β → TProg F α} (k : ℕ)
    (A B R : sProp (MT nD τ sig Unit (Elt F) ℕ UU ℕ)) (hp : p ↔ c.val = k)
    (h : ∀ q : p, c.val = k → iprop(R ∗ B) ⊢ iprop(((R ∗ A) -∗ wp frame (wpE (defs₀ (F := F)) 𝒱₀ c none) Set.univ (E >>= kont) Q)
      -∗ wp frame (wpE (defs₀ (F := F)) 𝒱₀ c none) Set.univ (T q >>= kont) Q)) :
    iprop(R ∗ upto c k A B) ⊢ iprop(((R ∗ upto c (k + 1) A B) -∗ wp frame (wpE (defs₀ (F := F)) 𝒱₀ c none) Set.univ (E >>= kont) Q)
      -∗ wp frame (wpE (defs₀ (F := F)) 𝒱₀ c none) Set.univ ((if q : p then T q else E) >>= kont) Q) := by
  by_cases hq : p
  · have hk := hp.mp hq
    unfold upto
    rw [dif_pos hq, if_neg (by omega), if_pos (by omega)]
    exact h hq hk
  · have hk : c.val ≠ k := fun e => hq (hp.mpr e)
    rw [dif_neg hq]
    have e : upto c (k + 1) A B = upto c k A B := by
      unfold upto
      by_cases hlt : c.val < k
      · rw [if_pos hlt, if_pos (by omega)]
      · rw [if_neg hlt, if_neg (by omega)]
    rw [e]
    iintro H Hk
    iapply Hk; iexact H

/-! ## The device's own codes -/

/-- A read of one group of heads of the codes touches that group only. -/
theorem on_kv {off : Fin 5 → ℕ} (r : Fin 2) (g : Fin 4) (h) (e : off = ![r.val, 4 * g.val, 0, 0, 0]) :
    kvM.view.setOn (Rect.unit (s := S2x16x2x128x64) off S1x4x2x128x64.size h).toLoadRect.set ⊆ slab vKey (r, g) := by
  subst e
  intro i hi
  have hi' := Rect.mem_set_unit.mp ((View.mem_setOn (v := kvM.view) (x := i)).mp hi)
  have a0 : r.val ≤ (i 0).val ∧ (i 0).val < r.val + 1 := hi' 0
  have a1 : 4 * g.val ≤ (i 1).val ∧ (i 1).val < 4 * g.val + 4 := hi' 1
  exact (mem_slab (key := vKey)).mpr (Prod.ext (Fin.ext (show (i 0).val = r.val by omega)) (Fin.ext (show (i 1).val / 4 = g.val by omega)))

/-- A store into slot `t` of the gathered codes touches that slot only. -/
theorem st_kg {off : Fin 5 → ℕ} (t : Fin 4) (h) (e : off = ![t.val, 0, 0, 0, 0]) :
    (kgM.access (Rect.unit (s := S4x4x2x128x64) off S1x4x2x128x64.size h)).setOn Finset.univ ⊆ slab kKey t := by
  subst e
  intro i hi
  obtain ⟨x, -, hx⟩ := Finset.mem_map.mp hi
  refine mem_slab.mpr (Fin.ext ?_)
  have h0 : (x 0).val < 1 := (x 0).isLt
  have hv : (i 0).val = t.val + (x 0).val := by
    rw [← hx]; exact ValueKit.rect_emb_unit_val _ _ h x 0
  show (i 0).val = t.val
  omega

/-- The own codes of row `r` as loaded. -/
theorem rd_codes {off : Fin 5 → ℕ} (c : Dev nD) (r : Fin 2) (h) (e : off = ![r.val, 4 * c.val, 0, 0, 0]) (g : S2x16x2x128x64.Idx → BitVec 8) :
    kvM.view.readAt (Elt F) (Rect.unit (s := S2x16x2x128x64) off S1x4x2x128x64.size h).toLoadRect g
      = fun x => g (ix5 r (head c (x 1)) (x 2) (x 3) (x 4)) := by
  subst e
  funext x
  show g ((Rect.unit (s := S2x16x2x128x64) ![r.val, 4 * c.val, 0, 0, 0] S1x4x2x128x64.size h).emb x) = _
  have h0 : (x 0).val < 1 := (x 0).isLt
  exact congrArg g (emb5 h _ _ (show r.val + (x 0).val = r.val by omega) rfl (Nat.zero_add _) (Nat.zero_add _) (Nat.zero_add _))

/-- A store of slot 0 of the gathered codes. -/
theorem wr_codes {off : Fin 5 → ℕ} (h) (e : off = ![0, 0, 0, 0, 0]) (f : S4x4x2x128x64.Idx → BitVec 8)
    (w : S1x4x2x128x64.Idx → BitVec 8) (i : S4x4x2x128x64.Idx) (hi : (i 0).val = 0) :
    (kgM.access (Rect.unit (s := S4x4x2x128x64) off S1x4x2x128x64.size h)).write (Elt F) f w Finset.univ i
      = w (ix5 0 (i 1) (i 2) (i 3) (i 4)) := by
  subst e
  exact wr_at (Val := Elt F) (kgM.access (Rect.unit (s := S4x4x2x128x64) ![0, 0, 0, 0, 0] S1x4x2x128x64.size h)) f w
    (ix5 0 (i 1) (i 2) (i 3) (i 4)) i
    (emb5 h _ i (show 0 + 0 = (i 0).val by omega) (Nat.zero_add _) (Nat.zero_add _) (Nat.zero_add _) (Nat.zero_add _))

/-- A store of slot 0 of the gathered value codes. -/
theorem wr_vcodes {off : Fin 5 → ℕ} (h) (e : off = ![0, 0, 0, 0, 0]) (f : S4x4x2x128x64.Idx → BitVec 8)
    (w : S1x4x2x128x64.Idx → BitVec 8) (i : S4x4x2x128x64.Idx) (hi : (i 0).val = 0) :
    (vgM.access (Rect.unit (s := S4x4x2x128x64) off S1x4x2x128x64.size h)).write (Elt F) f w Finset.univ i
      = w (ix5 0 (i 1) (i 2) (i 3) (i 4)) := by
  subst e
  exact wr_at (Val := Elt F) (vgM.access (Rect.unit (s := S4x4x2x128x64) ![0, 0, 0, 0, 0] S1x4x2x128x64.size h)) f w
    (ix5 0 (i 1) (i 2) (i 3) (i 4)) i
    (emb5 h _ i (show 0 + 0 = (i 0).val by omega) (Nat.zero_add _) (Nat.zero_add _) (Nat.zero_add _) (Nat.zero_add _))

/-- No places on is the device itself. -/
theorem pe_zero (c : Dev nD) : pe c 0 = c := by revert c; decide

abbrev WP (P : TProg F α) (Q : α → sProp (MT nD τ sig Unit (Elt F) ℕ UU ℕ)) : sProp (MT nD τ sig Unit (Elt F) ℕ UU ℕ) :=
  wp frame (wpE (defs₀ (F := F)) 𝒱₀ c none) Set.univ P Q

/-- The body's load of the device's own group of heads from its codes. -/
theorem load_kv {off : Fin 5 → ℕ} (r : Fin 2) {h l} {kont : (S1x4x2x128x64.Idx → Elt F .i8) → TProg F α} (e : off = ![r.val, 4 * c.val, 0, 0, 0]) :
    kvP I c r c ⊢ iprop((kvP I c r c -∗ WP c (kont fun x => (I c).kv (ix5 r (head c (x 1)) (x 2) (x 3) (x 4))) Q)
      -∗ WP c (.op (.load kvM (Rect.unit (s := S2x16x2x128x64) off S1x4x2x128x64.size h).toLoadRect l) kont) Q) :=
  step_load c (M := kvM) _ (on_kv r c h e) (rd_codes c r h e _)

/-- The body's load of slot 0 of the gathered keys. -/
theorem load_kg {off : Fin 5 → ℕ} {f : S4x4x2x128x64.Idx → BitVec 8} {h l} {kont : (S1x4x2x128x64.Idx → Elt F .i8) → TProg F α}
    (e : off = ![0, 0, 0, 0, 0]) :
    kgP c 0 f ⊢ iprop((kgP c 0 f -∗ WP c (kont (kgM.view.readAt (Elt F) (Rect.unit (s := S4x4x2x128x64) off S1x4x2x128x64.size h).toLoadRect f)) Q)
      -∗ WP c (.op (.load kgM (Rect.unit (s := S4x4x2x128x64) off S1x4x2x128x64.size h).toLoadRect l) kont) Q) :=
  step_load c (M := kgM) _ (on_kg 0 h (by rw [e]; rfl) rfl) rfl

/-- The body's load of slot 0 of the gathered values. -/
theorem load_vg {off : Fin 5 → ℕ} {f : S4x4x2x128x64.Idx → BitVec 8} {h l} {kont : (S1x4x2x128x64.Idx → Elt F .i8) → TProg F α}
    (e : off = ![0, 0, 0, 0, 0]) :
    vgP c 0 f ⊢ iprop((vgP c 0 f -∗ WP c (kont (vgM.view.readAt (Elt F) (Rect.unit (s := S4x4x2x128x64) off S1x4x2x128x64.size h).toLoadRect f)) Q)
      -∗ WP c (.op (.load vgM (Rect.unit (s := S4x4x2x128x64) off S1x4x2x128x64.size h).toLoadRect l) kont) Q) :=
  step_load c (M := vgM) _ (on_kg 0 h (by rw [e]; rfl) rfl) rfl

/-- What is stored in slot 0 of the keys is the device's own group of heads. -/
theorem own_eq (r : Fin 2) (p : Vec F S1x4x2x128x64 .i8 → IVec S1x4x2x128x64 8) (hp : ∀ v, p v = v) {off : Fin 5 → ℕ} (h) (e : off = ![0, 0, 0, 0, 0])
    (f : S4x4x2x128x64.Idx → BitVec 8) (i : S4x4x2x128x64.Idx) (hi : i ∈ slab kKey 0) :
    (kgM.access (Rect.unit (s := S4x4x2x128x64) off S1x4x2x128x64.size h)).write (Elt F) f
      (p fun x => (I c).kv (ix5 r (head c (x 1)) (x 2) (x 3) (x 4))) Finset.univ i
      = (I (pe c (4 - (i 0).val))).kv (ix5 r (head c (i 1)) (i 2) (i 3) (i 4)) := by
  have hi0 : (i 0).val = 0 := congrArg Fin.val (mem_slab.mp hi)
  rw [hp, hi0, show pe c (4 - 0) = c from pe_four c]
  exact wr_codes h e f _ i hi0

/-- What is stored in slot 0 of the values is the device's own group of heads. -/
theorem own_veq (r : Fin 2) (p : Vec F S1x4x2x128x64 .i8 → IVec S1x4x2x128x64 8) (hp : ∀ v, p v = v) {off : Fin 5 → ℕ} (h) (e : off = ![0, 0, 0, 0, 0])
    (f : S4x4x2x128x64.Idx → BitVec 8) (i : S4x4x2x128x64.Idx) (hi : i ∈ slab kKey 0) :
    (vgM.access (Rect.unit (s := S4x4x2x128x64) off S1x4x2x128x64.size h)).write (Elt F) f
      (p fun x => (I c).kv (ix5 r (head c (x 1)) (x 2) (x 3) (x 4))) Finset.univ i
      = (I (pe c (4 - (i 0).val))).kv (ix5 r (head c (i 1)) (i 2) (i 3) (i 4)) := by
  have hi0 : (i 0).val = 0 := congrArg Fin.val (mem_slab.mp hi)
  rw [hp, hi0, show pe c (4 - 0) = c from pe_four c]
  exact wr_vcodes h e f _ i hi0

/-- The body's store into slot 0 of the gathered keys. -/
theorem store_kg {off : Fin 5 → ℕ} {f : S4x4x2x128x64.Idx → BitVec 8} {h x m} {kont : PUnit → TProg F α}
    (w : S1x4x2x128x64.Idx → BitVec 8) (e : off = ![0, 0, 0, 0, 0])
    (hw : ∀ i ∈ slab kKey 0, (kgM.access (Rect.unit (s := S4x4x2x128x64) off S1x4x2x128x64.size h)).write (Elt F) f w Finset.univ i = KG I c i) :
    kgP c 0 f ⊢ iprop((kgP c 0 (KG I c) -∗ WP c (kont ⟨⟩) Q)
      -∗ WP c (.op (.store kgM (Rect.unit (s := S4x4x2x128x64) off S1x4x2x128x64.size h)
        w Finset.univ x m) kont) Q) := by
  have hS := st_kg 0 h e
  have := step_store (F := F) (Q := Q) c (M := kgM) (r := (Rect.unit (s := S4x4x2x128x64) off S1x4x2x128x64.size h)) (w := w) (S := slab kKey 0) (f := f)
    (hx := x) (hm := m) (kont := kont) (KG I c) hS
  exact this hw

/-- The body's store into slot 0 of the gathered values. -/
theorem store_vg {off : Fin 5 → ℕ} {f : S4x4x2x128x64.Idx → BitVec 8} {h x m} {kont : PUnit → TProg F α}
    (w : S1x4x2x128x64.Idx → BitVec 8) (e : off = ![0, 0, 0, 0, 0])
    (hw : ∀ i ∈ slab kKey 0, (vgM.access (Rect.unit (s := S4x4x2x128x64) off S1x4x2x128x64.size h)).write (Elt F) f w Finset.univ i = VG I c i) :
    vgP c 0 f ⊢ iprop((vgP c 0 (VG I c) -∗ WP c (kont ⟨⟩) Q)
      -∗ WP c (.op (.store vgM (Rect.unit (s := S4x4x2x128x64) off S1x4x2x128x64.size h)
        w Finset.univ x m) kont) Q) := by
  have hS := st_kg 0 h e
  have := step_store (F := F) (Q := Q) c (M := vgM) (r := (Rect.unit (s := S4x4x2x128x64) off S1x4x2x128x64.size h)) (w := w) (S := slab kKey 0) (f := f)
    (hx := x) (hm := m) (kont := kont) (VG I c) hS
  exact this hw

/-- A device stores its own four heads of codes in slot 0 of the gathered ones. -/
theorem own_codes {off off' : Fin 5 → ℕ} {o₁ o₂ : Fin 5 → ℕ} {h₁ h₂ h₃ h₄ h₅ h₆ l₁ l₂ l₃ l₄ x₁ x₂ m₁ m₂}
    {p q : Vec F S1x4x2x128x64 .i8 → IVec S1x4x2x128x64 8} {β : Type} {E : TProg F β} {kont : β → TProg F α}
    (e : off = ![0, 4 * c.val, 0, 0, 0]) (e' : off' = ![1, 4 * c.val, 0, 0, 0]) (e₁ : o₁ = ![0, 0, 0, 0, 0])
    (e₂ : o₂ = ![0, 0, 0, 0, 0]) (hp : ∀ v, p v = v) (hq : ∀ v, q v = v) :
    iprop((kvP I c 0 c ∗ kvP I c 1 c) ∗ ((∃ f, kgP c 0 f) ∗ ∃ f, vgP c 0 f))
      ⊢ iprop((((kvP I c 0 c ∗ kvP I c 1 c) ∗ (kgP c 0 (KG I c) ∗ vgP c 0 (VG I c)))
          -∗ wp frame (wpE (defs₀ (F := F)) 𝒱₀ c none) Set.univ (E >>= kont) Q)
        -∗ wp frame (wpE (defs₀ (F := F)) 𝒱₀ c none) Set.univ
          ((.op (.load kvM (Rect.unit (s := S2x16x2x128x64) off S1x4x2x128x64.size h₁).toLoadRect l₁) fun v =>
           .op (.load kgM (Rect.unit (s := S4x4x2x128x64) o₁ S1x4x2x128x64.size h₂).toLoadRect l₂) fun _ =>
           .op (.store kgM (Rect.unit (s := S4x4x2x128x64) o₁ S1x4x2x128x64.size h₃) (p v) Finset.univ x₁ m₁) fun _ =>
           .op (.load kvM (Rect.unit (s := S2x16x2x128x64) off' S1x4x2x128x64.size h₄).toLoadRect l₃) fun v =>
           .op (.load vgM (Rect.unit (s := S4x4x2x128x64) o₂ S1x4x2x128x64.size h₅).toLoadRect l₄) fun _ =>
           .op (.store vgM (Rect.unit (s := S4x4x2x128x64) o₂ S1x4x2x128x64.size h₆) (q v) Finset.univ x₂ m₂) fun _ => E) >>= kont) Q) := by
  simp only [Prog.bind_op]
  iintro ⟨⟨H0, H1⟩, ⟨%fk, Hk⟩, ⟨%fv, Hv⟩⟩ Hkont
  iapply (load_kv I c 0 e) $$ H0; iintro H0
  iapply (load_kg c e₁) $$ Hk; iintro Hk
  iapply (store_kg I c _ e₁ (own_eq I c 0 p hp _ e₁ _)) $$ Hk; iintro Hk
  iapply (load_kv I c 1 e') $$ H1; iintro H1
  iapply (load_vg c e₂) $$ Hv; iintro Hv
  iapply (store_vg I c _ e₂ (own_veq I c 1 q hq _ e₂ _)) $$ Hv; iintro Hv
  iapply Hkont
  iframe H0 H1 Hk Hv

end

end Cert.KernelIdeal.Mesh
-- ==== Proof.PartB.lean ====
/- The next printed parts of the body: the remaining copies of codes and scales, and the device's own. -/
module

public import proofs.«01_k».proof.Proof.Stores

@[expose] public section

noncomputable section

namespace Cert.KernelIdeal.Mesh

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (I : Dev nD → Inp F)

section

variable {α : Type} {Q : α → sProp (MT nD τ sig Unit (Elt F) ℕ UU ℕ)} (K : GSem nD τ sig → ℕ) (c : Dev nD)

/-- The copies of scales two places on, and of codes three places on. -/
theorem part4 {kont : _ → TProg F α} :
    iprop(Rec I K c ∗ (scP I c 2 ∗ kvP I c 0 (pe c 3) ∗ kvP I c 1 (pe c 3))
      ∗ (land (pe c 2) (.sr 2) ∗ land (pe c 3) (.kr 3) ∗ land (pe c 3) (.vr 3)) ∗ (tok c (.ss 2) ∗ tok c (.ks 3) ∗ tok c (.vs 3)) ∗ ow c (lQ.drop 5)
      ∗ ((crd c (.ss 2) ∗ crd c (.ks 3) ∗ crd c (.vs 3) ∗ ow c (lQ.drop 8))
        -∗ WP c (kont (Scalar.remsi (Scalar.addi (wd c) 3#32) 4#32)) Q))
      ⊢ WP c (ap (k0_part4 (F := F)) c (wd c) >>= kont) Q := by
  unfold ap
  rw [k0_part4_eq_skeleton]
  unfold k0_part4_skel
  simp only [Prog.lift, Prog.bind_op, Prog.bind_ret, Prog.pure_eq_ret]
  iintro ⟨#HR, ⟨Hu, Hk, Hv⟩, ⟨Lu, Lk, Lv⟩, ⟨Tu, Tk, Tv⟩, HO, Hkont⟩
  iapply (sendU I K c 2 _ (by decide) rfl (Fin.ext (k0_dev9_eq c)) (by decide) (by decide))
  iframe HR Hu Lu Tu HO
  iintro ⟨Cu, HO⟩
  iapply (sendK I K c 3 _ (by decide) (k0_off1_eq c 2) rfl (Fin.ext (k0_dev10_eq c)) (by decide) (by decide))
  iframe HR Hk Lk Tk HO
  iintro ⟨Ck, HO⟩
  iapply (sendV I K c 3 _ (by decide) (k0_off2_eq c 2) rfl (Fin.ext (k0_dev11_eq c)) (by decide) (by decide))
  iframe HR Hv Lv Tv HO
  iintro ⟨Cv, HO⟩
  iapply Hkont
  iframe Cu Ck Cv HO

/-- Whether the body finds itself at place `k`. -/
theorem at_place (k : Fin 4) :
    Iff (Scalar.cmpi .ne (Scalar.extui (Scalar.cmpi .eq (wd c) (BitVec.ofNat 32 k.val)) : BitVec 32) 0#32 = 1#1) (c.val = k.val) := by
  revert c k; decide

abbrev gotCodes : sProp (MT nD τ sig Unit (Elt F) ℕ UU ℕ) := iprop(kgP c 0 (KG I c) ∗ vgP c 0 (VG I c))
abbrev noCodes : sProp (MT nD τ sig Unit (Elt F) ℕ UU ℕ) := iprop((∃ f, kgP (F := F) c 0 f) ∗ ∃ f, vgP (F := F) c 0 f)
abbrev ownCodes : sProp (MT nD τ sig Unit (Elt F) ℕ UU ℕ) := iprop(kvP I c 0 c ∗ kvP I c 1 c)

/-- The last copy of scales; the own codes go to slot 0; the queries are computed. -/
theorem part5 {kont : _ → TProg F α} (v81 : BitVec 32) :
    iprop(Rec I K c ∗ scP I c 3 ∗ land (pe c 3) (.sr 3) ∗ tok c (.ss 3) ∗ ow c (lQ.drop 8)
      ∗ ownCodes I c ∗ noCodes (F := F) c ∗ xP I c ∗ wqP I c
      ∗ ((crd c (.ss 3) ∗ ow c lR0 ∗ ownCodes I c ∗ gotCodes I c ∗ xP I c ∗ wqP I c)
        -∗ WP c (kont ⟨qv I c 0, k0_pay11 (ldW I c) (ldX I c 1)⟩) Q))
      ⊢ WP c (ap (k0_part5 (F := F)) c (wd c) v81 >>= kont) Q := by
  unfold ap
  rw [k0_part5_eq_skeleton]
  unfold k0_part5_skel
  simp only [Prog.lift, Prog.bind_op, Prog.bind_ret, Prog.pure_eq_ret]
  iintro ⟨#HR, Hu, Lu, Tu, HO, Hown, Hno, Hx, Hw, Hkont⟩
  iapply (sendU I K c 3 _ (by decide) rfl (Fin.ext (k0_dev12_eq c)) (by decide) (by decide))
  iframe HR Hu Lu Tu HO
  iintro ⟨Cu, HO⟩
  ihave Hno := (upto_zero c (gotCodes I c) (noCodes (F := F) c)) $$ Hno
  icombine Hown Hno as H
  iapply (step_turn c 0 (gotCodes I c) (noCodes (F := F) c) (ownCodes I c) (at_place c 0)
    (fun _ hc => own_codes I c (by rw [hc]) (by rw [hc]) rfl rfl (fun v => shapeCast_shapeCast v _ _) (fun v => shapeCast_shapeCast v _ _))) $$ H
  iintro H
  iapply (step_turn c 1 (gotCodes I c) (noCodes (F := F) c) (ownCodes I c) (at_place c 1)
    (fun _ hc => own_codes I c (by rw [hc]) (by rw [hc]) rfl rfl (fun v => shapeCast_shapeCast v _ _) (fun v => shapeCast_shapeCast v _ _))) $$ H
  iintro H
  iapply (step_turn c 2 (gotCodes I c) (noCodes (F := F) c) (ownCodes I c) (at_place c 2)
    (fun _ hc => own_codes I c (by rw [hc]) (by rw [hc]) rfl rfl (fun v => shapeCast_shapeCast v _ _) (fun v => shapeCast_shapeCast v _ _))) $$ H
  iintro H
  iapply (step_turn c 3 (gotCodes I c) (noCodes (F := F) c) (ownCodes I c) (at_place c 3)
    (fun _ hc => own_codes I c (by rw [hc]) (by rw [hc]) rfl rfl (fun v => shapeCast_shapeCast v _ _) (fun v => shapeCast_shapeCast v _ _))) $$ H
  iintro H
  icases H with ⟨Hown, H⟩
  ihave Hgot := (upto_four c (gotCodes I c) (noCodes (F := F) c)) $$ H
  simp only [Prog.bind_op, Prog.bind_ret]
  iapply (stepW I c (funext fun a => match a with | ⟨0, _⟩ => rfl | ⟨1, _⟩ => rfl)) $$ Hw; iintro Hw
  iapply (stepX I c 0) $$ Hx; iintro Hx
  iapply (stepX I c 1) $$ Hx; iintro Hx
  iapply Hkont
  iframe Cu HO Hown Hgot Hx Hw

end

end Cert.KernelIdeal.Mesh
-- ==== Proof.PartC.lean ====
/- The attention parts of the body on slot 0 and slot 1. -/
module

public import proofs.«01_k».proof.Proof.PartB

@[expose] public section

noncomputable section

namespace Cert.KernelIdeal.Mesh

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (I : Dev nD → Inp F)

section

variable {α : Type} {Q : α → sProp (MT nD τ sig Unit (Elt F) ℕ UU ℕ)} (K : GSem nD τ sig → ℕ) (c : Dev nD)

/-- What a device needs to wait on its cell `k`. -/
abbrev due (c : Dev nD) (k : CK) : sProp (MT nD τ sig Unit (Elt F) ℕ UU ℕ) := iprop(crd c k ∗ atc c k)
/-- The gathered codes and scales of slot `t`. -/
abbrev gk (t : Fin 4) : sProp (MT nD τ sig Unit (Elt F) ℕ UU ℕ) := kgP c t (KG I c)
abbrev gv (t : Fin 4) : sProp (MT nD τ sig Unit (Elt F) ℕ UU ℕ) := vgP c t (VG I c)
abbrev gs (t : Fin 4) : sProp (MT nD τ sig Unit (Elt F) ℕ UU ℕ) := sgP c t (SG I c)

/-- The row and column numbers of the mask. -/
abbrev rowN : IVec S128x128 32 := iota .tc S128x128 32 [0] iota_S128x128_d0_w32
abbrev colN : IVec S128x128 32 := iota .tc S128x128 32 [1] iota_S128x128_d1_w32

/-- One head's codes of slot `t` as numbers. -/
abbrev kc (t : Fin 4) (b : Fin 2) (h : Fin 4) : FVec F S128x64 .bf16 :=
  sitofp .bf16 (shapeCast S128x64 (ldK I c t h b) shapeCasts_S1x1x1x128x64_S128x64)
abbrev vc (t : Fin 4) (b : Fin 2) (h : Fin 4) : FVec F S128x64 .bf16 :=
  sitofp .bf16 (shapeCast S128x64 (ldV I c t h b) shapeCasts_S1x1x1x128x64_S128x64)
/-- The weights times the value scale. -/
abbrev wt (t : Fin 4) (b : Fin 2) (h : Fin 4) : FVec F S128x128 .f32 := mulf (ef I c t b h) (broadcast S128x128 (sv I c t))
abbrev wtb (t : Fin 4) (b : Fin 2) (h : Fin 4) : FVec F S128x128 .bf16 := truncf .bf16 (wt I c t b h) bitsLt_bf16_f32

/-- The level of a copy cell: the gather's receives are below the reduce-scatter's, and these below the all-gather's. -/
theorem lv_cell (k : CK) : lv (cell c k) () ≤ match k with | .kr _ | .vr _ | .sr _ => 2 | .rr _ _ => 3 | .gr _ _ => 4 | _ => 0 := by
  unfold lv
  rw [show (cell c k).2 = SemLoc.dma (csem k) from rfl, kind_csem]
  cases k <;> exact le_refl _

/-- Slot `t`'s scales have arrived, and its key codes, and its value codes. -/
theorem waitS {sp sp' : Space} {s s' : Shape} {e e' : EltTy} {src : Memref sig .tc sp s e} {dst : Memref sig .tc sp' s' e'} {sem : DmaSem sig}
    {h₁ : src.view.WordExact} {h₂ : dst.view.WordExact} {kont : PUnit → TProg F α} (t : Fin 4) (ht : act c (.sr t) = true)
    (hs : sem = csem (.sr t)) (hN : dst.view.dmaCredit = 32) :
    iprop(Rec I K c ∗ due c (.sr t) ∗ ow c lR0 ∗ ((semVal (cell c (.sr t)) 0 ∗ gs I c t ∗ ow c lR0) -∗ WP c (kont ⟨⟩) Q))
      ⊢ WP c (.op (.waitDma2 sem src dst h₁ h₂) kont) Q := by
  iintro ⟨#HR, ⟨Hc, Ha⟩, HO, Hk⟩
  iapply (step_wait I K c (.sr t) lR0 2 hs ht hN (lv_cell c _ |>.trans (le_refl 2)) (by decide))
  iframe HR Hc Ha HO Hk
/-- Waiting for the keys of slot `t` yields them. -/
theorem waitK {sp sp' : Space} {s s' : Shape} {e e' : EltTy} {src : Memref sig .tc sp s e} {dst : Memref sig .tc sp' s' e'} {sem : DmaSem sig}
    {h₁ : src.view.WordExact} {h₂ : dst.view.WordExact} {kont : PUnit → TProg F α} (t : Fin 4) (ht : act c (.kr t) = true)
    (hs : sem = csem (.kr t)) (hN : dst.view.dmaCredit = 4096) :
    iprop(Rec I K c ∗ due c (.kr t) ∗ ow c lR0 ∗ ((semVal (cell c (.kr t)) 0 ∗ gk I c t ∗ ow c lR0) -∗ WP c (kont ⟨⟩) Q))
      ⊢ WP c (.op (.waitDma2 sem src dst h₁ h₂) kont) Q := by
  iintro ⟨#HR, ⟨Hc, Ha⟩, HO, Hk⟩
  iapply (step_wait I K c (.kr t) lR0 2 hs ht hN (lv_cell c _ |>.trans (le_refl 2)) (by decide))
  iframe HR Hc Ha HO Hk
/-- Waiting for the values of slot `t` yields them. -/
theorem waitV {sp sp' : Space} {s s' : Shape} {e e' : EltTy} {src : Memref sig .tc sp s e} {dst : Memref sig .tc sp' s' e'} {sem : DmaSem sig}
    {h₁ : src.view.WordExact} {h₂ : dst.view.WordExact} {kont : PUnit → TProg F α} (t : Fin 4) (ht : act c (.vr t) = true)
    (hs : sem = csem (.vr t)) (hN : dst.view.dmaCredit = 4096) :
    iprop(Rec I K c ∗ due c (.vr t) ∗ ow c lR0 ∗ ((semVal (cell c (.vr t)) 0 ∗ gv I c t ∗ ow c lR0) -∗ WP c (kont ⟨⟩) Q))
      ⊢ WP c (.op (.waitDma2 sem src dst h₁ h₂) kont) Q := by
  iintro ⟨#HR, ⟨Hc, Ha⟩, HO, Hk⟩
  iapply (step_wait I K c (.vr t) lR0 2 hs ht hN (lv_cell c _ |>.trans (le_refl 2)) (by decide))
  iframe HR Hc Ha HO Hk

/-- Part 6: the mask, the scale and the first scores and denominators of the device's own keys. -/
theorem part6 {kont : _ → TProg F α} :
    iprop(scP I c 0 ∗ gk I c 0 ∗ ((scP I c 0 ∗ gk I c 0)
        -∗ WP c (kont ⟨rowN, colN, k0_pay12, mk c 0, sk I c 0, ef I c 0 0 0, dn I c 0 0 0, ef I c 0 0 1, dn I c 0 1 0⟩) Q))
      ⊢ WP c (ap (k0_part6 (F := F)) (wd c) (qv I c 0) >>= kont) Q := by
  unfold ap
  rw [k0_part6_eq_skeleton]
  unfold k0_part6_skel
  simp only [Prog.lift, Prog.bind_op, Prog.bind_ret, Prog.pure_eq_ret]
  iintro ⟨HC, HK, Hkont⟩
  iapply (stepC I c 0) $$ HC; iintro HC
  iapply (stepK I c 0 0 0) $$ HK; iintro HK
  iapply (stepK I c 0 1 0) $$ HK; iintro HK
  iapply Hkont
  iframe HC HK

/-- Part 7: further scores and denominators of the device's own keys. -/
theorem part7 {kont : _ → TProg F α} :
    iprop(gk I c 0 ∗ (gk I c 0 -∗ WP c (kont ⟨ef I c 0 0 2, dn I c 0 2 0, ef I c 0 0 3, dn I c 0 3 0, ef I c 0 1 0, dn I c 1 0 0⟩) Q))
      ⊢ WP c (ap (k0_part7 (F := F)) (qv I c 0) (qv I c 1) (mk c 0) (sk I c 0) >>= kont) Q := by
  unfold ap
  rw [k0_part7_eq_skeleton]
  unfold k0_part7_skel
  simp only [Prog.lift, Prog.bind_op, Prog.bind_ret, Prog.pure_eq_ret]
  iintro ⟨HK, Hkont⟩
  iapply (stepK I c 0 2 0) $$ HK; iintro HK
  iapply (stepK I c 0 3 0) $$ HK; iintro HK
  iapply (stepK I c 0 0 1) $$ HK; iintro HK
  iapply Hkont $$ HK

/-- Part 8: the last scores and denominators of the device's own keys. -/
theorem part8 {kont : _ → TProg F α} :
    iprop(gk I c 0 ∗ (gk I c 0 -∗ WP c (kont ⟨ef I c 0 1 1, dn I c 1 1 0, ef I c 0 1 2, dn I c 1 2 0, ef I c 0 1 3, dn I c 1 3 0⟩) Q))
      ⊢ WP c (ap (k0_part8 (F := F)) (qv I c 1) (mk c 0) (sk I c 0) >>= kont) Q := by
  unfold ap
  rw [k0_part8_eq_skeleton]
  unfold k0_part8_skel
  simp only [Prog.lift, Prog.bind_op, Prog.bind_ret, Prog.pure_eq_ret]
  iintro ⟨HK, Hkont⟩
  iapply (stepK I c 0 1 1) $$ HK; iintro HK
  iapply (stepK I c 0 2 1) $$ HK; iintro HK
  iapply (stepK I c 0 3 1) $$ HK; iintro HK
  iapply Hkont $$ HK

/-- Part 9: the first contexts over the device's own values. -/
theorem part9 {kont : _ → TProg F α} :
    iprop(scP I c 0 ∗ gv I c 0 ∗ ((scP I c 0 ∗ gv I c 0)
        -∗ WP c (kont ⟨sv I c 0, cx I c 0 0 0, cx I c 0 1 0, cx I c 0 2 0, cx I c 0 3 0, wtb I c 0 1 0⟩) Q))
      ⊢ WP c (ap (k0_part9 (F := F)) (ef I c 0 0 0) (ef I c 0 0 1) (ef I c 0 0 2) (ef I c 0 0 3) (ef I c 0 1 0) >>= kont) Q := by
  unfold ap
  rw [k0_part9_eq_skeleton]
  unfold k0_part9_skel
  simp only [Prog.lift, Prog.bind_op, Prog.bind_ret, Prog.pure_eq_ret]
  iintro ⟨HC, HV, Hkont⟩
  iapply (stepC I c 1) $$ HC; iintro HC
  iapply (stepV I c 0 0 0) $$ HV; iintro HV
  iapply (stepV I c 0 1 0) $$ HV; iintro HV
  iapply (stepV I c 0 2 0) $$ HV; iintro HV
  iapply (stepV I c 0 3 0) $$ HV; iintro HV
  iapply Hkont
  iframe HC HV

/-- Part 10: the other contexts over the device's own values. -/
theorem part10 {kont : _ → TProg F α} :
    iprop(gv I c 0 ∗ (gv I c 0 -∗ WP c (kont ⟨cx I c 1 0 0, cx I c 1 1 0, cx I c 1 2 0, cx I c 1 3 0, sw c 1⟩) Q))
      ⊢ WP c (ap (k0_part10 (F := F)) (wd c) (ef I c 0 1 1) (ef I c 0 1 2) (ef I c 0 1 3) (sv I c 0) (wtb I c 0 1 0) >>= kont) Q := by
  unfold ap
  rw [k0_part10_eq_skeleton]
  unfold k0_part10_skel
  simp only [Prog.lift, Prog.bind_op, Prog.bind_ret, Prog.pure_eq_ret]
  iintro ⟨HV, Hkont⟩
  iapply (stepV I c 0 0 1) $$ HV; iintro HV
  iapply (stepV I c 0 1 1) $$ HV; iintro HV
  iapply (stepV I c 0 2 1) $$ HV; iintro HV
  iapply (stepV I c 0 3 1) $$ HV; iintro HV
  iapply Hkont $$ HV

/-- The first codes and scales arrive. -/
theorem part11 {kont : _ → TProg F α} :
    iprop(Rec I K c ∗ due c (.sr 1) ∗ due c (.kr 1) ∗ ow c lR0
      ∗ ((semVal (cell c (.sr 1)) 0 ∗ semVal (cell c (.kr 1)) 0 ∗ gs I c 1 ∗ gk I c 1 ∗ ow c lR0)
        -∗ WP c (kont ⟨mk c 1, sk I c 1, qh I c 0 0, kc I c 1 0 0, constant S128x128 .f32 0x00000000#32⟩) Q))
      ⊢ WP c (ap (k0_part11 (F := F)) (qv I c 0) rowN colN k0_pay12 (sw c 1) >>= kont) Q := by
  unfold ap
  rw [k0_part11_eq_skeleton]
  unfold k0_part11_skel
  simp only [Prog.lift, Prog.bind_op, Prog.bind_ret, Prog.pure_eq_ret]
  iintro ⟨#HR, Ds, Dk, HO, Hkont⟩
  iapply (waitS I K c 1 rfl (by decide) rfl)
  iframe HR Ds HO
  iintro ⟨Vs, HG, HO⟩
  iapply (waitK I K c 1 rfl (by decide) rfl)
  iframe HR Dk HO
  iintro ⟨Vk, HK, HO⟩
  iapply (stepG I c 1 0) $$ HG; iintro HG
  iapply (stepK I c 1 0 0) $$ HK; iintro HK
  iapply Hkont
  iframe Vs Vk HG HK HO

/-- Part 12: the first scores and denominators of slot 1. -/
theorem part12 {kont : _ → TProg F α} :
    iprop(gk I c 1 ∗ (gk I c 1 -∗ WP c (kont ⟨ef I c 1 0 0, dn I c 0 0 1, ef I c 1 0 1, dn I c 0 1 1, ef I c 1 0 2, dn I c 0 2 1, qh I c 0 3,
          ldK I c 1 3 0⟩) Q))
      ⊢ WP c (ap (k0_part12 (F := F)) (qv I c 0) (dn I c 0 0 0) (dn I c 0 1 0) (dn I c 0 2 0) (mk c 1) (sk I c 1) (qh I c 0 0) (kc I c 1 0 0)
          (constant S128x128 .f32 0x00000000#32) >>= kont) Q := by
  unfold ap
  rw [k0_part12_eq_skeleton]
  unfold k0_part12_skel
  simp only [Prog.lift, Prog.bind_op, Prog.bind_ret, Prog.pure_eq_ret]
  iintro ⟨HK, Hkont⟩
  iapply (stepK I c 1 1 0) $$ HK; iintro HK
  iapply (stepK I c 1 2 0) $$ HK; iintro HK
  iapply (stepK I c 1 3 0) $$ HK; iintro HK
  iapply Hkont $$ HK

/-- Part 13: further scores and denominators of slot 1. -/
theorem part13 {kont : _ → TProg F α} :
    iprop(gk I c 1 ∗ (gk I c 1 -∗ WP c (kont ⟨ef I c 1 0 3, dn I c 0 3 1, ef I c 1 1 0, dn I c 1 0 1, ef I c 1 1 1, dn I c 1 1 1, qh I c 1 2⟩) Q))
      ⊢ WP c (ap (k0_part13 (F := F)) (qv I c 1) (dn I c 0 3 0) (dn I c 1 0 0) (dn I c 1 1 0) (mk c 1) (sk I c 1) (qh I c 0 3) (ldK I c 1 3 0)
          >>= kont) Q := by
  unfold ap
  rw [k0_part13_eq_skeleton]
  unfold k0_part13_skel
  simp only [Prog.lift, Prog.bind_op, Prog.bind_ret, Prog.pure_eq_ret]
  iintro ⟨HK, Hkont⟩
  iapply (stepK I c 1 0 1) $$ HK; iintro HK
  iapply (stepK I c 1 1 1) $$ HK; iintro HK
  iapply Hkont $$ HK

/-- Part 14: the last scores and denominators of slot 1. -/
theorem part14 {kont : _ → TProg F α} :
    iprop(gk I c 1 ∗ (gk I c 1 -∗ WP c (kont ⟨ef I c 1 1 2, dn I c 1 2 1, ef I c 1 1 3, dn I c 1 3 1⟩) Q))
      ⊢ WP c (ap (k0_part14 (F := F)) (qv I c 1) (dn I c 1 2 0) (dn I c 1 3 0) (sw c 1) (mk c 1) (sk I c 1) (qh I c 1 2) >>= kont) Q := by
  unfold ap
  rw [k0_part14_eq_skeleton]
  unfold k0_part14_skel
  simp only [Prog.lift, Prog.bind_op, Prog.bind_ret, Prog.pure_eq_ret]
  iintro ⟨HK, Hkont⟩
  iapply (stepK I c 1 2 1) $$ HK; iintro HK
  iapply (stepK I c 1 3 1) $$ HK; iintro HK
  iapply Hkont $$ HK

/-- Part 15: the values of slot 1 arrive, and the first contexts are added to. -/
theorem part15 {kont : _ → TProg F α} :
    iprop(Rec I K c ∗ due c (.vr 1) ∗ gs I c 1 ∗ ow c lR0 ∗ ((semVal (cell c (.vr 1)) 0 ∗ gs I c 1 ∗ gv I c 1 ∗ ow c lR0)
        -∗ WP c (kont ⟨sv I c 1, cx I c 0 0 1, cx I c 0 1 1, cx I c 0 2 1, wtb I c 1 0 3, vc I c 1 0 3, constant S128x64 .f32 0x00000000#32⟩) Q))
      ⊢ WP c (ap (k0_part15 (F := F)) (cx I c 0 0 0) (cx I c 0 1 0) (cx I c 0 2 0) (ef I c 1 0 0) (ef I c 1 0 1) (ef I c 1 0 2) (ef I c 1 0 3)
          >>= kont) Q := by
  unfold ap
  rw [k0_part15_eq_skeleton]
  unfold k0_part15_skel
  simp only [Prog.lift, Prog.bind_op, Prog.bind_ret, Prog.pure_eq_ret]
  iintro ⟨#HR, Dv, HG, HO, Hkont⟩
  iapply (waitV I K c 1 rfl (by decide) rfl)
  iframe HR Dv HO
  iintro ⟨Vv, HV, HO⟩
  iapply (stepG I c 1 1) $$ HG; iintro HG
  iapply (stepV I c 1 0 0) $$ HV; iintro HV
  iapply (stepV I c 1 1 0) $$ HV; iintro HV
  iapply (stepV I c 1 2 0) $$ HV; iintro HV
  iapply (stepV I c 1 3 0) $$ HV; iintro HV
  iapply Hkont
  iframe Vv HG HV HO

/-- Part 16: the other contexts are added to. -/
theorem part16 {kont : _ → TProg F α} :
    iprop(gv I c 1 ∗ (gv I c 1 -∗ WP c (kont ⟨cx I c 0 3 1, cx I c 1 0 1, cx I c 1 1 1, cx I c 1 2 1, cx I c 1 3 1, Scalar.addi (wd c) 2#32⟩) Q))
      ⊢ WP c (ap (k0_part16 (F := F)) (wd c) (cx I c 0 3 0) (cx I c 1 0 0) (cx I c 1 1 0) (cx I c 1 2 0) (cx I c 1 3 0)
          (ef I c 1 1 0) (ef I c 1 1 1) (ef I c 1 1 2) (ef I c 1 1 3) (sv I c 1) (wtb I c 1 0 3) (vc I c 1 0 3) (constant S128x64 .f32 0x00000000#32)
          >>= kont) Q := by
  unfold ap
  rw [k0_part16_eq_skeleton]
  unfold k0_part16_skel
  simp only [Prog.lift, Prog.bind_op, Prog.bind_ret, Prog.pure_eq_ret]
  iintro ⟨HV, Hkont⟩
  iapply (stepV I c 1 0 1) $$ HV; iintro HV
  iapply (stepV I c 1 1 1) $$ HV; iintro HV
  iapply (stepV I c 1 2 1) $$ HV; iintro HV
  iapply (stepV I c 1 3 1) $$ HV; iintro HV
  iapply Hkont $$ HV

end

end Cert.KernelIdeal.Mesh
-- ==== Proof.PartD.lean ====
/- The attention parts of the body on slots 2 and 3. -/
module

public import proofs.«01_k».proof.Proof.PartC

@[expose] public section

noncomputable section

namespace Cert.KernelIdeal.Mesh

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (I : Dev nD → Inp F)

section

variable {α : Type} {Q : α → sProp (MT nD τ sig Unit (Elt F) ℕ UU ℕ)} (K : GSem nD τ sig → ℕ) (c : Dev nD)

/-! ## What the parts are made of, at any slot -/

/-- Two loads of key codes of one slot, of any two heads and batches. -/
theorem keys2 (t h h' : Fin 4) (b b' : Fin 2) {o o' : Fin 5 → ℕ} {i i' l l'}
    {kont : (S1x1x1x128x64.Idx → Elt F .i8) → (S1x1x1x128x64.Idx → Elt F .i8) → TProg F α}
    (e : o = ![t.val, h.val, b.val, 0, 0] := by rfl) (e' : o' = ![t.val, h'.val, b'.val, 0, 0] := by rfl) :
    iprop(gk I c t ∗ (gk I c t -∗ WP c (kont (ldK I c t h b) (ldK I c t h' b')) Q))
      ⊢ WP c (.op (.load kgM (Rect.unit (s := S4x4x2x128x64) o S1x1x1x128x64.size i).toLoadRect l) fun x =>
          .op (.load kgM (Rect.unit (s := S4x4x2x128x64) o' S1x1x1x128x64.size i').toLoadRect l') fun y => kont x y) Q := by
  iintro ⟨HK, Hk⟩
  iapply (stepK I c t h b e) $$ HK; iintro HK
  iapply (stepK I c t h' b' e') $$ HK; iintro HK
  iapply Hk $$ HK

/-- Two loads of value codes of one slot. -/
theorem vals2 (t h h' : Fin 4) (b b' : Fin 2) {o o' : Fin 5 → ℕ} {i i' l l'}
    {kont : (S1x1x1x128x64.Idx → Elt F .i8) → (S1x1x1x128x64.Idx → Elt F .i8) → TProg F α}
    (e : o = ![t.val, h.val, b.val, 0, 0] := by rfl) (e' : o' = ![t.val, h'.val, b'.val, 0, 0] := by rfl) :
    iprop(gv I c t ∗ (gv I c t -∗ WP c (kont (ldV I c t h b) (ldV I c t h' b')) Q))
      ⊢ WP c (.op (.load vgM (Rect.unit (s := S4x4x2x128x64) o S1x1x1x128x64.size i).toLoadRect l) fun x =>
          .op (.load vgM (Rect.unit (s := S4x4x2x128x64) o' S1x1x1x128x64.size i').toLoadRect l') fun y => kont x y) Q := by
  iintro ⟨HV, Hk⟩
  iapply (stepV I c t h b e) $$ HV; iintro HV
  iapply (stepV I c t h' b' e') $$ HV; iintro HV
  iapply Hk $$ HV

/-- The scales and the key codes of a slot arrive, and its key scale is read. -/
theorem arriveK {a₁ a₁' a₂ a₂' s₁ s₁' s₂ s₂' f₁ f₁' f₂ f₂'} {src₁ : Memref sig .tc a₁ s₁ f₁} {dst₁ : Memref sig .tc a₁' s₁' f₁'}
    {src₂ : Memref sig .tc a₂ s₂ f₂} {dst₂ : Memref sig .tc a₂' s₂' f₂'} {m₁ m₂ : DmaSem sig} {x₁ y₁ x₂ y₂} {o : Fin 3 → ℕ} {i l}
    {kont : (S1x1x1.Idx → Elt F .f32) → TProg F α} (t : Fin 4) (hs : act c (.sr t) = true) (hk : act c (.kr t) = true)
    (e₁ : m₁ = csem (.sr t)) (e₂ : m₂ = csem (.kr t)) (n₁ : dst₁.view.dmaCredit = 32) (n₂ : dst₂.view.dmaCredit = 4096)
    (e : o = ![t.val, 0, 0]) :
    iprop(Rec I K c ∗ (due c (.sr t) ∗ due c (.kr t)) ∗ ow c lR0
      ∗ ((semVal (cell c (.sr t)) 0 ∗ semVal (cell c (.kr t)) 0 ∗ gs I c t ∗ gk I c t ∗ ow c lR0) -∗ WP c (kont (ldG I c t 0)) Q))
      ⊢ WP c (.op (.waitDma2 m₁ src₁ dst₁ x₁ y₁) fun _ => .op (.waitDma2 m₂ src₂ dst₂ x₂ y₂) fun _ =>
          .op (.load sgM (Rect.unit (s := S4x2x128) o S1x1x1.size i).toLoadRect l) kont) Q := by
  iintro ⟨#HR, ⟨Ds, Dk⟩, HO, Hk⟩
  iapply (waitS I K c t hs e₁ n₁)
  iframe HR Ds HO
  iintro ⟨Vs, HG, HO⟩
  iapply (waitK I K c t hk e₂ n₂)
  iframe HR Dk HO
  iintro ⟨Vk, HK, HO⟩
  iapply (stepG I c t 0 e) $$ HG; iintro HG
  iapply Hk
  iframe Vs Vk HG HK HO

/-- The value codes of a slot arrive, and its value scale is read. -/
theorem arriveV {a a' s s' f f'} {src : Memref sig .tc a s f} {dst : Memref sig .tc a' s' f'} {m : DmaSem sig} {x y} {o : Fin 3 → ℕ} {i l}
    {kont : (S1x1x1.Idx → Elt F .f32) → TProg F α} (t : Fin 4) (hv : act c (.vr t) = true) (e₁ : m = csem (.vr t))
    (n : dst.view.dmaCredit = 4096) (e : o = ![t.val, 1, 0]) :
    iprop(Rec I K c ∗ due c (.vr t) ∗ gs I c t ∗ ow c lR0
      ∗ ((semVal (cell c (.vr t)) 0 ∗ gs I c t ∗ gv I c t ∗ ow c lR0) -∗ WP c (kont (ldG I c t 1)) Q))
      ⊢ WP c (.op (.waitDma2 m src dst x y) fun _ => .op (.load sgM (Rect.unit (s := S4x2x128) o S1x1x1.size i).toLoadRect l) kont) Q := by
  iintro ⟨#HR, Dv, HG, HO, Hk⟩
  iapply (waitV I K c t hv e₁ n)
  iframe HR Dv HO
  iintro ⟨Vv, HV, HO⟩
  iapply (stepG I c t 1 e) $$ HG; iintro HG
  iapply Hk
  iframe Vv HG HV HO

/-! ## Slot 2 -/

/-- Slot 2's scales and key codes arrive. -/
theorem part17 {kont : _ → TProg F α} :
    iprop(Rec I K c ∗ (due c (.sr 2) ∗ due c (.kr 2)) ∗ ow c lR0
      ∗ ((semVal (cell c (.sr 2)) 0 ∗ semVal (cell c (.kr 2)) 0 ∗ gs I c 2 ∗ gk I c 2 ∗ ow c lR0)
        -∗ WP c (kont ⟨sw c 2, mk c 2, sk I c 2⟩) Q))
      ⊢ WP c (ap (k0_part17 (F := F)) rowN colN k0_pay12 (Scalar.addi (wd c) 2#32) >>= kont) Q := by
  unfold ap
  rw [k0_part17_eq_skeleton]
  unfold k0_part17_skel
  simp only [Prog.lift, Prog.bind_op, Prog.bind_ret, Prog.pure_eq_ret]
  iintro ⟨#HR, HD, HO, Hk⟩
  iapply (arriveK I K c 2 rfl rfl (by decide) (by decide) rfl rfl rfl); iframe HR HD HO Hk

/-- Three heads of batch 0. The last weights' sum is left to the next part. -/
theorem part18 {kont : _ → TProg F α} :
    iprop(gk I c 2 ∗ (gk I c 2 -∗ WP c (kont ⟨ef I c 2 0 0, dn I c 0 0 2, ef I c 2 0 1, dn I c 0 1 2, ef I c 2 0 2⟩) Q))
      ⊢ WP c (ap (k0_part18 (F := F)) (qv I c 0) (dn I c 0 0 1) (dn I c 0 1 1) (mk c 2) (sk I c 2) >>= kont) Q := by
  unfold ap
  rw [k0_part18_eq_skeleton]
  unfold k0_part18_skel
  simp only [Prog.lift, Prog.bind_op, Prog.bind_ret, Prog.pure_eq_ret]
  iintro ⟨HK, Hk⟩
  iapply (keys2 I c 2 0 1 0 0); iframe HK; iintro HK
  iapply (stepK I c 2 2 0) $$ HK
  iexact Hk

/-- The fourth head of batch 0 and two of batch 1, the second one's weights still unmasked. -/
theorem part19 {kont : _ → TProg F α} :
    iprop(gk I c 2 ∗ (gk I c 2 -∗ WP c (kont ⟨dn I c 0 2 2, ef I c 2 0 3, dn I c 0 3 2, ef I c 2 1 0, dn I c 1 0 2,
          k0_pay86 (qv I c 1) (sk I c 2) (ldK I c 2 1 1), Scalar.ofBits .f32 0x00000000#32⟩) Q))
      ⊢ WP c (ap (k0_part19 (F := F)) (qv I c 0) (qv I c 1) (dn I c 0 2 1) (dn I c 0 3 1) (dn I c 1 0 1) (mk c 2) (sk I c 2) (ef I c 2 0 2)
          >>= kont) Q := by
  unfold ap
  rw [k0_part19_eq_skeleton]
  unfold k0_part19_skel
  simp only [Prog.lift, Prog.bind_op, Prog.bind_ret, Prog.pure_eq_ret]
  iintro ⟨HK, Hk⟩
  iapply (keys2 I c 2 3 0 0 1); iframe HK; iintro HK
  iapply (stepK I c 2 1 1) $$ HK
  iexact Hk

/-- The rest of batch 1. -/
theorem part20 {kont : _ → TProg F α} :
    iprop(gk I c 2 ∗ (gk I c 2 -∗ WP c (kont ⟨ef I c 2 1 1, dn I c 1 1 2, ef I c 2 1 2, dn I c 1 2 2, ef I c 2 1 3, dn I c 1 3 2⟩) Q))
      ⊢ WP c (ap (k0_part20 (F := F)) (qv I c 1) (dn I c 1 1 1) (dn I c 1 2 1) (dn I c 1 3 1) (sw c 2) (mk c 2) (sk I c 2)
          (k0_pay86 (qv I c 1) (sk I c 2) (ldK I c 2 1 1)) (Scalar.ofBits .f32 0x00000000#32) >>= kont) Q := by
  unfold ap
  rw [k0_part20_eq_skeleton]
  unfold k0_part20_skel
  simp only [Prog.lift, Prog.bind_op, Prog.bind_ret, Prog.pure_eq_ret]
  iintro ⟨HK, Hk⟩
  iapply (keys2 I c 2 2 3 1 1); iframe HK Hk

/-- Slot 2's value codes arrive; three heads of batch 0. -/
theorem part21 {kont : _ → TProg F α} :
    iprop(Rec I K c ∗ due c (.vr 2) ∗ gs I c 2 ∗ ow c lR0 ∗ ((semVal (cell c (.vr 2)) 0 ∗ gs I c 2 ∗ gv I c 2 ∗ ow c lR0)
        -∗ WP c (kont ⟨sv I c 2, cx I c 0 0 2, cx I c 0 1 2, cx I c 0 2 2, wt I c 2 0 3⟩) Q))
      ⊢ WP c (ap (k0_part21 (F := F)) (cx I c 0 0 1) (cx I c 0 1 1) (cx I c 0 2 1) (ef I c 2 0 0) (ef I c 2 0 1) (ef I c 2 0 2) (ef I c 2 0 3)
          >>= kont) Q := by
  unfold ap
  rw [k0_part21_eq_skeleton]
  unfold k0_part21_skel
  simp only [Prog.lift, Prog.bind_op, Prog.bind_ret, Prog.pure_eq_ret]
  iintro ⟨#HR, Dv, HG, HO, Hk⟩
  iapply (arriveV I K c 2 rfl (by decide) rfl rfl); iframe HR Dv HG HO
  iintro ⟨Vv, HG, HV, HO⟩
  iapply (vals2 I c 2 0 1 0 0); iframe HV; iintro HV
  iapply (stepV I c 2 2 0) $$ HV; iintro HV
  iapply Hk
  iframe Vv HG HV HO

/-- The fourth head of batch 0 and three of batch 1. -/
theorem part22 {kont : _ → TProg F α} :
    iprop(gv I c 2 ∗ (gv I c 2 -∗ WP c (kont ⟨cx I c 0 3 2, cx I c 1 0 2, cx I c 1 1 2, cx I c 1 2 2, wtb I c 2 1 3⟩) Q))
      ⊢ WP c (ap (k0_part22 (F := F)) (cx I c 0 3 1) (cx I c 1 0 1) (cx I c 1 1 1) (cx I c 1 2 1) (ef I c 2 1 0) (ef I c 2 1 1) (ef I c 2 1 2)
          (ef I c 2 1 3) (sv I c 2) (wt I c 2 0 3) >>= kont) Q := by
  unfold ap
  rw [k0_part22_eq_skeleton]
  unfold k0_part22_skel
  simp only [Prog.lift, Prog.bind_op, Prog.bind_ret, Prog.pure_eq_ret]
  iintro ⟨HV, Hk⟩
  iapply (vals2 I c 2 3 0 0 1); iframe HV; iintro HV
  iapply (vals2 I c 2 1 2 1 1); iframe HV Hk

/-! ## Slot 3 -/

/-- The last values of slot 2; slot 3's scales and key codes arrive. -/
theorem part23 {kont : _ → TProg F α} :
    iprop(gv I c 2 ∗ Rec I K c ∗ (due c (.sr 3) ∗ due c (.kr 3)) ∗ ow c lR0
      ∗ ((gv I c 2 ∗ semVal (cell c (.sr 3)) 0 ∗ semVal (cell c (.kr 3)) 0 ∗ gs I c 3 ∗ gk I c 3 ∗ ow c lR0)
        -∗ WP c (kont ⟨cx I c 1 3 2, sw c 3, k0_pay104 (ldG I c 3 0), 128#32⟩) Q))
      ⊢ WP c (ap (k0_part23 (F := F)) (wd c) (cx I c 1 3 1) (wtb I c 2 1 3) >>= kont) Q := by
  unfold ap
  rw [k0_part23_eq_skeleton]
  unfold k0_part23_skel
  simp only [Prog.lift, Prog.bind_op, Prog.bind_ret, Prog.pure_eq_ret]
  iintro ⟨HV, #HR, HD, HO, Hk⟩
  iapply (stepV I c 2 3 1) $$ HV; iintro HV
  iapply (arriveK I K c 3 rfl rfl (by decide) (by decide) rfl rfl rfl); iframe HR HD HO
  iintro ⟨Vs, Vk, HG, HK, HO⟩
  iapply Hk
  iframe HV Vs Vk HG HK HO

/-- The mask and two heads of batch 0. -/
theorem part24 {kont : _ → TProg F α} :
    iprop(gk I c 3 ∗ (gk I c 3 -∗ WP c (kont ⟨mk c 3, sk I c 3, ef I c 3 0 0, dn I c 0 0 3, ef I c 3 0 1, dn I c 0 1 3, qh I c 0 2,
          shapeCast S128x64 (ldK I c 3 2 0) shapeCasts_S1x1x1x128x64_S128x64⟩) Q))
      ⊢ WP c (ap (k0_part24 (F := F)) (qv I c 0) rowN colN k0_pay12 (dn I c 0 0 2) (dn I c 0 1 2) (sw c 3) (k0_pay104 (ldG I c 3 0)) 128#32
          >>= kont) Q := by
  unfold ap
  rw [k0_part24_eq_skeleton]
  unfold k0_part24_skel
  simp only [Prog.lift, Prog.bind_op, Prog.bind_ret, Prog.pure_eq_ret]
  iintro ⟨HK, Hk⟩
  iapply (keys2 I c 3 0 1 0 0); iframe HK; iintro HK
  iapply (stepK I c 3 2 0) $$ HK
  iexact Hk

/-- The other heads of batch 0 and the first of batch 1. -/
theorem part25 {kont : _ → TProg F α} :
    iprop(gk I c 3 ∗ (gk I c 3 -∗ WP c (kont ⟨ef I c 3 0 2, dn I c 0 2 3, ef I c 3 0 3, dn I c 0 3 3, ef I c 3 1 0, dn I c 1 0 3, qh I c 1 1⟩) Q))
      ⊢ WP c (ap (k0_part25 (F := F)) (qv I c 0) (qv I c 1) (dn I c 0 2 2) (dn I c 0 3 2) (dn I c 1 0 2) (mk c 3) (sk I c 3) (qh I c 0 2)
          (shapeCast S128x64 (ldK I c 3 2 0) shapeCasts_S1x1x1x128x64_S128x64) >>= kont) Q := by
  unfold ap
  rw [k0_part25_eq_skeleton]
  unfold k0_part25_skel
  simp only [Prog.lift, Prog.bind_op, Prog.bind_ret, Prog.pure_eq_ret]
  iintro ⟨HK, Hk⟩
  iapply (keys2 I c 3 3 0 0 1); iframe HK Hk

/-- The other heads of batch 1. -/
theorem part26 {kont : _ → TProg F α} :
    iprop(gk I c 3 ∗ (gk I c 3 -∗ WP c (kont ⟨ef I c 3 1 1, dn I c 1 1 3, ef I c 3 1 2, dn I c 1 2 3, ef I c 3 1 3, dn I c 1 3 3⟩) Q))
      ⊢ WP c (ap (k0_part26 (F := F)) (qv I c 1) (dn I c 1 1 2) (dn I c 1 2 2) (dn I c 1 3 2) (mk c 3) (sk I c 3) (qh I c 1 1) >>= kont) Q := by
  unfold ap
  rw [k0_part26_eq_skeleton]
  unfold k0_part26_skel
  simp only [Prog.lift, Prog.bind_op, Prog.bind_ret, Prog.pure_eq_ret]
  iintro ⟨HK, Hk⟩
  iapply (keys2 I c 3 1 2 1 1); iframe HK; iintro HK
  iapply (stepK I c 3 3 1) $$ HK
  iexact Hk

/-- Slot 3's value codes arrive; two heads of batch 0. -/
theorem part27 {kont : _ → TProg F α} :
    iprop(Rec I K c ∗ due c (.vr 3) ∗ gs I c 3 ∗ ow c lR0 ∗ ((semVal (cell c (.vr 3)) 0 ∗ gs I c 3 ∗ gv I c 3 ∗ ow c lR0)
        -∗ WP c (kont ⟨sv I c 3, cx I c 0 0 3, cx I c 0 1 3, wtb I c 3 0 2⟩) Q))
      ⊢ WP c (ap (k0_part27 (F := F)) (cx I c 0 0 2) (cx I c 0 1 2) (sw c 3) (ef I c 3 0 0) (ef I c 3 0 1) (ef I c 3 0 2) >>= kont) Q := by
  unfold ap
  rw [k0_part27_eq_skeleton]
  unfold k0_part27_skel
  simp only [Prog.lift, Prog.bind_op, Prog.bind_ret, Prog.pure_eq_ret]
  iintro ⟨#HR, Dv, HG, HO, Hk⟩
  iapply (arriveV I K c 3 rfl (by decide) rfl rfl); iframe HR Dv HG HO
  iintro ⟨Vv, HG, HV, HO⟩
  iapply (vals2 I c 3 0 1 0 0); iframe HV; iintro HV
  iapply Hk
  iframe Vv HG HV HO

/-- The other heads of batch 0 and two of batch 1; the third one's codes are read. -/
theorem part28 {kont : _ → TProg F α} :
    iprop(gv I c 3 ∗ (gv I c 3 -∗ WP c (kont ⟨cx I c 0 2 3, cx I c 0 3 3, cx I c 1 0 3, cx I c 1 1 3, wtb I c 3 1 2,
          shapeCast S128x64 (ldV I c 3 2 1) shapeCasts_S1x1x1x128x64_S128x64⟩) Q))
      ⊢ WP c (ap (k0_part28 (F := F)) (cx I c 0 2 2) (cx I c 0 3 2) (cx I c 1 0 2) (cx I c 1 1 2) (ef I c 3 0 3) (ef I c 3 1 0) (ef I c 3 1 1)
          (ef I c 3 1 2) (sv I c 3) (wtb I c 3 0 2) >>= kont) Q := by
  unfold ap
  rw [k0_part28_eq_skeleton]
  unfold k0_part28_skel
  simp only [Prog.lift, Prog.bind_op, Prog.bind_ret, Prog.pure_eq_ret]
  iintro ⟨HV, Hk⟩
  iapply (vals2 I c 3 2 3 0 0); iframe HV; iintro HV
  iapply (vals2 I c 3 0 1 1 1); iframe HV; iintro HV
  iapply (stepV I c 3 2 1) $$ HV
  iexact Hk

end

end Cert.KernelIdeal.Mesh
-- ==== Proof.Blocks.lean ====
/- The buffers a device computes into, batch by batch: the partial output, the column block it keeps, the block it sends, the result. -/
module

public import proofs.«01_k».proof.Proof.PartD

@[expose] public section

noncomputable section

namespace Cert.KernelIdeal.Mesh

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (I : Dev nD → Inp F)

/-! ## Keys and pieces -/

/-- Batch of an element of the partial output. -/
abbrev bKey (i : S2x128x512.Idx) : Fin 2 := i 0
/-- Column block of an element of the result. -/
abbrev gKey (i : S2x128x512.Idx) : Fin 4 := ⟨(i 2).val / 128, by have h : (i 2).val < 512 := (i 2).isLt; omega⟩
/-- Source device of an element of the gathered blocks. -/
abbrev oKey (i : S4x2x128x128.Idx) : Fin 4 := i 0

section

variable {α : Type} {Q : α → sProp (MT nD τ sig Unit (Elt F) ℕ UU ℕ)} (K : GSem nD τ sig → ℕ) (c : Dev nD)

/-- Batch `b` of the partial output. -/
abbrev pbB (b : Fin 2) (f : S2x128x512.Idx → F .bf16) : sProp (MT nD τ sig Unit (Elt F) ℕ UU ℕ) :=
  pbM.view.loc (c : Thread nD τ) ↦[slab bKey b]{fullShare} f
/-- Batch `b` of the column block kept. -/
abbrev rdP (b : Fin 2) (f : S2x128x128.Idx → F .f32) : sProp (MT nD τ sig Unit (Elt F) ℕ UU ℕ) :=
  rdM.view.loc (c : Thread nD τ) ↦[slab aKey b]{fullShare} f
/-- Batch `b` and column block `g` of the result. -/
abbrev outP (b : Fin 2) (g : Fin 4) (f : S2x128x512.Idx → F .f32) : sProp (MT nD τ sig Unit (Elt F) ℕ UU ℕ) :=
  outM.view.loc (c : Thread nD τ) ↦[slab pKey (b, g)]{fullShare} f
/-- Column block `g` of the result. -/
abbrev outG (g : Fin 4) (f : S2x128x512.Idx → F .f32) : sProp (MT nD τ sig Unit (Elt F) ℕ UU ℕ) :=
  outM.view.loc (c : Thread nD τ) ↦[slab gKey g]{fullShare} f
/-- What device `o` sent of the result. -/
abbrev agO (o : Fin 4) (f : S4x2x128x128.Idx → F .bf16) : sProp (MT nD τ sig Unit (Elt F) ℕ UU ℕ) :=
  agM.view.loc (c : Thread nD τ) ↦[slab oKey o]{fullShare} f

/-! ## Stores -/

/-- A store of batch `b` of the partial output. -/
theorem store_pb {off : Fin 3 → ℕ} {f : S2x128x512.Idx → F .bf16} {h x m} {kont : PUnit → TProg F α} (b : Fin 2) (g : S2x128x512.Idx → F .bf16)
    (w : S1x128x512.Idx → F .bf16) (e : off = ![b.val, 0, 0]) (hw : ∀ x₁ x₂, w (ix3 0 x₁ x₂) = g (ix3 b x₁ x₂)) :
    pbB c b f ⊢ iprop((pbB c b g -∗ WP c (kont ⟨⟩) Q)
      -∗ WP c (.op (.store pbM (Rect.unit (s := S2x128x512) off S1x128x512.size h) w Finset.univ x m) kont) Q) := by
  subst e
  have hS : (pbM.access (Rect.unit (s := S2x128x512) ![b.val, 0, 0] S1x128x512.size h)).setOn Finset.univ ⊆ slab bKey b := by
    intro i hi
    obtain ⟨y, -, hy⟩ := Finset.mem_map.mp hi
    have h0 : (y 0).val < 1 := (y 0).isLt
    have hv : (i 0).val = b.val + (y 0).val := by rw [← hy]; exact ValueKit.rect_emb_unit_val _ _ h y 0
    exact mem_slab.mpr (Fin.ext (show (i 0).val = b.val by omega))
  have hf : ∀ i ∈ slab bKey b, (pbM.access (Rect.unit (s := S2x128x512) ![b.val, 0, 0] S1x128x512.size h)).write (Elt F) f w Finset.univ i = g i := by
    intro i hi
    have hi0 : i 0 = b := mem_slab.mp hi
    have := wr_at (Val := Elt F) (pbM.access (Rect.unit (s := S2x128x512) ![b.val, 0, 0] S1x128x512.size h)) f w (ix3 0 (i 1) (i 2)) i
      (emb3 h _ i (show b.val + 0 = (i 0).val by rw [hi0]; rfl) (Nat.zero_add _) (Nat.zero_add _))
    refine this.trans ((hw (i 1) (i 2)).trans (congrArg g ?_))
    rw [← hi0]; exact ix3_eta i
  have := step_store (F := F) (Q := Q) c (M := pbM) (r := Rect.unit (s := S2x128x512) ![b.val, 0, 0] S1x128x512.size h) (w := w) (S := slab bKey b)
    (f := f) (hx := x) (hm := m) (kont := kont) g hS
  exact this hf

/-- The elements of batch `b` of a block. -/
theorem st_rd (b : Fin 2) (h) :
    (rdM.access (Rect.unit (s := S2x128x128) ![b.val, 0, 0] S1x128x128.size h)).setOn Finset.univ ⊆ slab aKey b := by
  intro i hi
  obtain ⟨y, -, hy⟩ := Finset.mem_map.mp hi
  have h0 : (y 0).val < 1 := (y 0).isLt
  have hv : (i 0).val = b.val + (y 0).val := by rw [← hy]; exact ValueKit.rect_emb_unit_val _ _ h y 0
  exact mem_slab.mpr (Fin.ext (show (i 0).val = b.val by omega))

/-- A store of batch `b` of the column block kept. -/
theorem store_rd {off : Fin 3 → ℕ} {f : S2x128x128.Idx → F .f32} {h x m} {kont : PUnit → TProg F α} (b : Fin 2) (g : S2x128x128.Idx → F .f32)
    (w : S1x128x128.Idx → F .f32) (e : off = ![b.val, 0, 0]) (hw : ∀ x₁ x₂, w (ix3 0 x₁ x₂) = g (ix3 b x₁ x₂)) :
    rdP c b f ⊢ iprop((rdP c b g -∗ WP c (kont ⟨⟩) Q)
      -∗ WP c (.op (.store rdM (Rect.unit (s := S2x128x128) off S1x128x128.size h) w Finset.univ x m) kont) Q) := by
  subst e
  have hS := st_rd b h
  have hf : ∀ i ∈ slab aKey b, (rdM.access (Rect.unit (s := S2x128x128) ![b.val, 0, 0] S1x128x128.size h)).write (Elt F) f w Finset.univ i = g i := by
    intro i hi
    have hi0 : i 0 = b := mem_slab.mp hi
    have := wr_at (Val := Elt F) (rdM.access (Rect.unit (s := S2x128x128) ![b.val, 0, 0] S1x128x128.size h)) f w (ix3 0 (i 1) (i 2)) i
      (emb3 h _ i (show b.val + 0 = (i 0).val by rw [hi0]; rfl) (Nat.zero_add _) (Nat.zero_add _))
    refine this.trans ((hw (i 1) (i 2)).trans (congrArg g ?_))
    rw [← hi0]; exact ix3_eta i
  have := step_store (F := F) (Q := Q) c (M := rdM) (r := Rect.unit (s := S2x128x128) ![b.val, 0, 0] S1x128x128.size h) (w := w) (S := slab aKey b)
    (f := f) (hx := x) (hm := m) (kont := kont) g hS
  exact this hf

/-- A store of batch `b` of the block sent. -/
theorem store_as {off : Fin 3 → ℕ} {f : S2x128x128.Idx → F .bf16} {h x m} {kont : PUnit → TProg F α} (b : Fin 2) (g : S2x128x128.Idx → F .bf16)
    (w : S1x128x128.Idx → F .bf16) (e : off = ![b.val, 0, 0]) (hw : ∀ x₁ x₂, w (ix3 0 x₁ x₂) = g (ix3 b x₁ x₂)) :
    asP c b fullShare f ⊢ iprop((asP c b fullShare g -∗ WP c (kont ⟨⟩) Q)
      -∗ WP c (.op (.store asM (Rect.unit (s := S2x128x128) off S1x128x128.size h) w Finset.univ x m) kont) Q) := by
  subst e
  have hS : (asM.access (Rect.unit (s := S2x128x128) ![b.val, 0, 0] S1x128x128.size h)).setOn Finset.univ ⊆ slab aKey b := st_rd b h
  have hf : ∀ i ∈ slab aKey b, (asM.access (Rect.unit (s := S2x128x128) ![b.val, 0, 0] S1x128x128.size h)).write (Elt F) f w Finset.univ i = g i := by
    intro i hi
    have hi0 : i 0 = b := mem_slab.mp hi
    have := wr_at (Val := Elt F) (asM.access (Rect.unit (s := S2x128x128) ![b.val, 0, 0] S1x128x128.size h)) f w (ix3 0 (i 1) (i 2)) i
      (emb3 h _ i (show b.val + 0 = (i 0).val by rw [hi0]; rfl) (Nat.zero_add _) (Nat.zero_add _))
    refine this.trans ((hw (i 1) (i 2)).trans (congrArg g ?_))
    rw [← hi0]; exact ix3_eta i
  have := step_store (F := F) (Q := Q) c (M := asM) (r := Rect.unit (s := S2x128x128) ![b.val, 0, 0] S1x128x128.size h) (w := w) (S := slab aKey b)
    (f := f) (hx := x) (hm := m) (kont := kont) g hS
  exact this hf

/-- A store of batch `b`, column block `k` of the result. -/
theorem store_out {off : Fin 3 → ℕ} {f : S2x128x512.Idx → F .f32} {h x m} {kont : PUnit → TProg F α} (b : Fin 2) (k : Fin 4) (g : S2x128x512.Idx → F .f32)
    (w : S1x128x128.Idx → F .f32) (e : off = ![b.val, 0, 128 * k.val]) (hw : ∀ x₁ x₂, w (ix3 0 x₁ x₂) = g (ix3 b x₁ (col k x₂))) :
    outP c b k f ⊢ iprop((outP c b k g -∗ WP c (kont ⟨⟩) Q)
      -∗ WP c (.op (.store outM (Rect.unit (s := S2x128x512) off S1x128x128.size h) w Finset.univ x m) kont) Q) := by
  subst e
  have hS : (outM.access (Rect.unit (s := S2x128x512) ![b.val, 0, 128 * k.val] S1x128x128.size h)).setOn Finset.univ ⊆ slab pKey (b, k) := by
    intro i hi
    obtain ⟨y, -, hy⟩ := Finset.mem_map.mp hi
    have h0 : (y 0).val < 1 := (y 0).isLt
    have h2 : (y 2).val < 128 := (y 2).isLt
    have hv : (i 0).val = b.val + (y 0).val := by rw [← hy]; exact ValueKit.rect_emb_unit_val _ _ h y 0
    have hv2 : (i 2).val = 128 * k.val + (y 2).val := by rw [← hy]; exact ValueKit.rect_emb_unit_val _ _ h y 2
    exact (mem_slab (key := pKey)).mpr (Prod.ext (Fin.ext (show (i 0).val = b.val by omega)) (Fin.ext (show (i 2).val / 128 = k.val by omega)))
  have hf : ∀ i ∈ slab pKey (b, k), (outM.access (Rect.unit (s := S2x128x512) ![b.val, 0, 128 * k.val] S1x128x128.size h)).write (Elt F) f w Finset.univ i = g i := by
    intro i hi
    have hi' := (mem_slab (key := pKey)).mp hi
    have hi0 : i 0 = b := congrArg Prod.fst hi'
    have hi2 : (i 2).val / 128 = k.val := congrArg (fun p => p.2.val) hi'
    have e2 : 128 * k.val + (cofs (i 2)).val = (i 2).val := by
      show 128 * k.val + (i 2).val % 128 = (i 2).val
      omega
    have := wr_at (Val := Elt F) (outM.access (Rect.unit (s := S2x128x512) ![b.val, 0, 128 * k.val] S1x128x128.size h)) f w (ix3 0 (i 1) (cofs (i 2))) i
      (emb3 h _ i (show b.val + 0 = (i 0).val by rw [hi0]; rfl) (Nat.zero_add _) e2)
    refine this.trans ((hw (i 1) (cofs (i 2))).trans (congrArg g ?_))
    rw [← hi0, show col k (cofs (i 2)) = i 2 from Fin.ext e2]; exact ix3_eta i
  have := step_store (F := F) (Q := Q) c (M := outM) (r := Rect.unit (s := S2x128x512) ![b.val, 0, 128 * k.val] S1x128x128.size h) (w := w) (S := slab pKey (b, k))
    (f := f) (hx := x) (hm := m) (kont := kont) g hS
  exact this hf

/-- A store of both batches of column block `k` of the result. -/
theorem store_cols {off : Fin 3 → ℕ} {f : S2x128x512.Idx → F .f32} {h x m} {kont : PUnit → TProg F α} (k : Fin 4) (g : S2x128x512.Idx → F .f32)
    (w : S2x128x128.Idx → F .f32) (e : off = ![0, 0, 128 * k.val]) (hw : ∀ x₀ x₁ x₂, w (ix3 x₀ x₁ x₂) = g (ix3 x₀ x₁ (col k x₂))) :
    outG c k f ⊢ iprop((outG c k g -∗ WP c (kont ⟨⟩) Q)
      -∗ WP c (.op (.store outM (Rect.unit (s := S2x128x512) off S2x128x128.size h) w Finset.univ x m) kont) Q) := by
  subst e
  have hS : (outM.access (Rect.unit (s := S2x128x512) ![0, 0, 128 * k.val] S2x128x128.size h)).setOn Finset.univ ⊆ slab gKey k := by
    intro i hi
    obtain ⟨y, -, hy⟩ := Finset.mem_map.mp hi
    have h2 : (y 2).val < 128 := (y 2).isLt
    have hv2 : (i 2).val = 128 * k.val + (y 2).val := by rw [← hy]; exact ValueKit.rect_emb_unit_val _ _ h y 2
    exact (mem_slab (key := gKey)).mpr (Fin.ext (show (i 2).val / 128 = k.val by omega))
  have hf : ∀ i ∈ slab gKey k, (outM.access (Rect.unit (s := S2x128x512) ![0, 0, 128 * k.val] S2x128x128.size h)).write (Elt F) f w Finset.univ i = g i := by
    intro i hi
    have hi2 : (i 2).val / 128 = k.val := congrArg Fin.val ((mem_slab (key := gKey)).mp hi)
    have e2 : 128 * k.val + (cofs (i 2)).val = (i 2).val := by
      show 128 * k.val + (i 2).val % 128 = (i 2).val
      omega
    have := wr_at (Val := Elt F) (outM.access (Rect.unit (s := S2x128x512) ![0, 0, 128 * k.val] S2x128x128.size h)) f w (ix3 (i 0) (i 1) (cofs (i 2))) i
      (emb3 h _ i (Nat.zero_add _) (Nat.zero_add _) e2)
    refine this.trans ((hw (i 0) (i 1) (cofs (i 2))).trans (congrArg g ?_))
    rw [show col k (cofs (i 2)) = i 2 from Fin.ext e2]; exact ix3_eta i
  have := step_store (F := F) (Q := Q) c (M := outM) (r := Rect.unit (s := S2x128x512) ![0, 0, 128 * k.val] S2x128x128.size h) (w := w) (S := slab gKey k)
    (f := f) (hx := x) (hm := m) (kont := kont) g hS
  exact this hf

/-! ## Loads -/

/-- The elements a load of batch `b` of a block touches. -/
theorem on_rd (b : Fin 2) (h) :
    rdM.view.setOn (Rect.unit (s := S2x128x128) ![b.val, 0, 0] S1x128x128.size h).toLoadRect.set ⊆ slab aKey b := by
  intro i hi
  have hi' := Rect.mem_set_unit.mp ((View.mem_setOn (v := rdM.view) (x := i)).mp hi)
  have a0 : b.val ≤ (i 0).val ∧ (i 0).val < b.val + 1 := hi' 0
  exact mem_slab.mpr (Fin.ext (show (i 0).val = b.val by omega))

/-- A load of batch `b` of the column block kept, -/
theorem load_rd {off : Fin 3 → ℕ} {f : S2x128x128.Idx → F .f32} {h l} {kont : (S1x128x128.Idx → Elt F .f32) → TProg F α} (b : Fin 2)
    (e : off = ![b.val, 0, 0]) :
    rdP c b f ⊢ iprop((rdP c b f -∗ WP c (kont (fun i => f (ix3 b (i 1) (i 2)))) Q)
      -∗ WP c (.op (.load rdM (Rect.unit (s := S2x128x128) off S1x128x128.size h).toLoadRect l) kont) Q) := by
  subst e
  refine step_load (F := F) c (M := rdM) (r := (Rect.unit (s := S2x128x128) ![b.val, 0, 0] S1x128x128.size h).toLoadRect) _ (on_rd b h) ?_
  funext x
  have h0 : (x 0).val < 1 := (x 0).isLt
  exact congrArg f (emb3 h x _ (show b.val + (x 0).val = b.val by omega) (Nat.zero_add _) (Nat.zero_add _))

/-- of the block sent, -/
theorem load_as {off : Fin 3 → ℕ} {f : S2x128x128.Idx → F .bf16} {h l} {kont : (S1x128x128.Idx → Elt F .bf16) → TProg F α} (b : Fin 2)
    (e : off = ![b.val, 0, 0]) :
    asP c b fullShare f ⊢ iprop((asP c b fullShare f -∗ WP c (kont (fun i => f (ix3 b (i 1) (i 2)))) Q)
      -∗ WP c (.op (.load asM (Rect.unit (s := S2x128x128) off S1x128x128.size h).toLoadRect l) kont) Q) := by
  subst e
  refine step_load (F := F) c (M := asM) (r := (Rect.unit (s := S2x128x128) ![b.val, 0, 0] S1x128x128.size h).toLoadRect) _ (on_rd b h) ?_
  funext x
  have h0 : (x 0).val < 1 := (x 0).isLt
  exact congrArg f (emb3 h x _ (show b.val + (x 0).val = b.val by omega) (Nat.zero_add _) (Nat.zero_add _))

/-- of the partial output, -/
theorem load_pb {off : Fin 3 → ℕ} {f : S2x128x512.Idx → F .bf16} {h l} {kont : (S1x128x512.Idx → Elt F .bf16) → TProg F α} (b : Fin 2)
    (e : off = ![b.val, 0, 0]) :
    pbB c b f ⊢ iprop((pbB c b f -∗ WP c (kont (fun i => f (ix3 b (i 1) (i 2)))) Q)
      -∗ WP c (.op (.load pbM (Rect.unit (s := S2x128x512) off S1x128x512.size h).toLoadRect l) kont) Q) := by
  subst e
  refine step_load (F := F) c (M := pbM) (r := (Rect.unit (s := S2x128x512) ![b.val, 0, 0] S1x128x512.size h).toLoadRect) _ ?_ ?_
  · intro i hi
    have hi' := Rect.mem_set_unit.mp ((View.mem_setOn (v := pbM.view) (x := i)).mp hi)
    have a0 : b.val ≤ (i 0).val ∧ (i 0).val < b.val + 1 := hi' 0
    exact mem_slab.mpr (Fin.ext (show (i 0).val = b.val by omega))
  funext x
  have h0 : (x 0).val < 1 := (x 0).isLt
  exact congrArg f (emb3 h x _ (show b.val + (x 0).val = b.val by omega) (Nat.zero_add _) (Nat.zero_add _))

/-- of what device `o` sent, -/
theorem load_rs {off : Fin 4 → ℕ} {f : S4x2x128x128.Idx → F .bf16} {h l} {kont : (S1x1x128x128.Idx → Elt F .bf16) → TProg F α} (o : Fin 4) (b : Fin 2)
    (e : off = ![o.val, b.val, 0, 0]) :
    rsP c o b f ⊢ iprop((rsP c o b f -∗ WP c (kont (fun i => f (ix4 o b (i 2) (i 3)))) Q)
      -∗ WP c (.op (.load rsM (Rect.unit (s := S4x2x128x128) off S1x1x128x128.size h).toLoadRect l) kont) Q) := by
  subst e
  refine step_load (F := F) c (M := rsM) (r := (Rect.unit (s := S4x2x128x128) ![o.val, b.val, 0, 0] S1x1x128x128.size h).toLoadRect) _ ?_ ?_
  · intro i hi
    have hi' := Rect.mem_set_unit.mp ((View.mem_setOn (v := rsM.view) (x := i)).mp hi)
    have a0 : o.val ≤ (i 0).val ∧ (i 0).val < o.val + 1 := hi' 0
    have a1 : b.val ≤ (i 1).val ∧ (i 1).val < b.val + 1 := hi' 1
    exact (mem_slab (key := rKey)).mpr (Prod.ext (Fin.ext (show (i 0).val = o.val by omega)) (Fin.ext (show (i 1).val = b.val by omega)))
  funext x
  have h0 : (x 0).val < 1 := (x 0).isLt
  have h1 : (x 1).val < 1 := (x 1).isLt
  exact congrArg f (emb4 h x _ (show o.val + (x 0).val = o.val by omega) (show b.val + (x 1).val = b.val by omega) (Nat.zero_add _) (Nat.zero_add _))

/-- of both batches of device `o`'s block, -/
theorem load_ag {off : Fin 4 → ℕ} {f : S4x2x128x128.Idx → F .bf16} {h l} {kont : (S1x2x128x128.Idx → Elt F .bf16) → TProg F α} (o : Fin 4)
    (e : off = ![o.val, 0, 0, 0]) :
    agO c o f ⊢ iprop((agO c o f -∗ WP c (kont (fun i => f (ix4 o (i 1) (i 2) (i 3)))) Q)
      -∗ WP c (.op (.load agM (Rect.unit (s := S4x2x128x128) off S1x2x128x128.size h).toLoadRect l) kont) Q) := by
  subst e
  refine step_load (F := F) c (M := agM) (r := (Rect.unit (s := S4x2x128x128) ![o.val, 0, 0, 0] S1x2x128x128.size h).toLoadRect) _ ?_ ?_
  · intro i hi
    have hi' := Rect.mem_set_unit.mp ((View.mem_setOn (v := agM.view) (x := i)).mp hi)
    have a0 : o.val ≤ (i 0).val ∧ (i 0).val < o.val + 1 := hi' 0
    exact (mem_slab (key := oKey)).mpr (Fin.ext (show (i 0).val = o.val by omega))
  funext x
  have h0 : (x 0).val < 1 := (x 0).isLt
  exact congrArg f (emb4 h x _ (show o.val + (x 0).val = o.val by omega) (Nat.zero_add _) (Nat.zero_add _) (Nat.zero_add _))

/-- of a column block of the result, one batch -/
theorem load_out {off : Fin 3 → ℕ} {f : S2x128x512.Idx → F .f32} {h l} {kont : (S1x128x128.Idx → Elt F .f32) → TProg F α} (b : Fin 2) (k : Fin 4)
    (e : off = ![b.val, 0, 128 * k.val]) :
    outP c b k f ⊢ iprop((outP c b k f -∗ WP c (kont (fun i => f (ix3 b (i 1) (col k (i 2))))) Q)
      -∗ WP c (.op (.load outM (Rect.unit (s := S2x128x512) off S1x128x128.size h).toLoadRect l) kont) Q) := by
  subst e
  refine step_load (F := F) c (M := outM) (r := (Rect.unit (s := S2x128x512) ![b.val, 0, 128 * k.val] S1x128x128.size h).toLoadRect) _ ?_ ?_
  · intro i hi
    have hi' := Rect.mem_set_unit.mp ((View.mem_setOn (v := outM.view) (x := i)).mp hi)
    have a0 : b.val ≤ (i 0).val ∧ (i 0).val < b.val + 1 := hi' 0
    have a2 : 128 * k.val ≤ (i 2).val ∧ (i 2).val < 128 * k.val + 128 := hi' 2
    exact (mem_slab (key := pKey)).mpr (Prod.ext (Fin.ext (show (i 0).val = b.val by omega)) (Fin.ext (show (i 2).val / 128 = k.val by omega)))
  funext x
  have h0 : (x 0).val < 1 := (x 0).isLt
  exact congrArg f (emb3 h x _ (show b.val + (x 0).val = b.val by omega) (Nat.zero_add _) rfl)

/-- or both. -/
theorem load_cols {off : Fin 3 → ℕ} {f : S2x128x512.Idx → F .f32} {h l} {kont : (S2x128x128.Idx → Elt F .f32) → TProg F α} (k : Fin 4)
    (e : off = ![0, 0, 128 * k.val]) :
    outG c k f ⊢ iprop((outG c k f -∗ WP c (kont (fun i => f (ix3 (i 0) (i 1) (col k (i 2))))) Q)
      -∗ WP c (.op (.load outM (Rect.unit (s := S2x128x512) off S2x128x128.size h).toLoadRect l) kont) Q) := by
  subst e
  refine step_load (F := F) c (M := outM) (r := (Rect.unit (s := S2x128x512) ![0, 0, 128 * k.val] S2x128x128.size h).toLoadRect) _ ?_ ?_
  · intro i hi
    have hi' := Rect.mem_set_unit.mp ((View.mem_setOn (v := outM.view) (x := i)).mp hi)
    have a2 : 128 * k.val ≤ (i 2).val ∧ (i 2).val < 128 * k.val + 128 := hi' 2
    exact (mem_slab (key := gKey)).mpr (Fin.ext (show (i 2).val / 128 = k.val by omega))
  funext x
  exact congrArg f (emb3 h x _ (Nat.zero_add _) (Nat.zero_add _) rfl)

end

end Cert.KernelIdeal.Mesh
-- ==== Proof.Turns.lean ====
/- What the exchange of partial outputs is made of: regrouping by place on the mesh, turns, arrivals. -/
module

public import proofs.«01_k».proof.Proof.Blocks
public import Idealize.ShloMosaic.Lib.ValueLayout

@[expose] public section

noncomputable section

namespace Cert.KernelIdeal.Mesh

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (I : Dev nD → Inp F)

section

variable {α : Type} {Q : α → sProp (MT nD τ sig Unit (Elt F) ℕ UU ℕ)} (K : GSem nD τ sig → ℕ) (c : Dev nD)

/-! ## Regrouping -/

/-- What holds for each device, listed from device `c` on. -/
theorem around (Φ : Fin 4 → sProp (MT nD τ sig Unit (Elt F) ℕ UU ℕ)) :
    bigSep Finset.univ Φ = iprop(Φ c ∗ Φ (pe c 1) ∗ Φ (pe c 2) ∗ Φ (pe c 3)) := by
  rw [bigSep_univ_eq_bigSepL [c, pe c 1, pe c 2, pe c 3] (by revert c; decide) (by revert c; decide)]
  rfl

/-- and from device 0 on. -/
theorem four (Φ : Fin 4 → sProp (MT nD τ sig Unit (Elt F) ℕ UU ℕ)) :
    bigSep Finset.univ Φ = iprop(Φ 0 ∗ Φ 1 ∗ Φ 2 ∗ Φ 3) := around 0 Φ

/-- Elements held are held part by part. -/
theorem pts_parts (ℓ : Loc nD τ sig) (q : PosShare TreeShare) (f : Buf (Elt F) ℓ) (S : Finset (Idx ℓ)) (P : Fin 4 → Finset (Idx ℓ))
    (hS : ∀ i, Iff (i ∈ S) (∃ g, i ∈ P g)) (hd : ∀ g g', g ≠ g' → Disjoint (P g) (P g')) :
    (ℓ ↦[S]{q} f : sProp (MT nD τ sig Unit (Elt F) ℕ UU ℕ)) = bigSep Finset.univ fun g => ℓ ↦[P g]{q} f := by
  rw [← pointsTo_biUnion Finset.univ P (fun g _ g' _ h => hd g g' h)]
  congr 1
  ext i
  simp only [Finset.mem_biUnion, Finset.mem_univ, true_and]
  exact hS i

/-- A batch of the partial output by its column blocks. -/
theorem pb_split (b : Fin 2) (f : S2x128x512.Idx → F .bf16) :
    pbB c b f = iprop(pbP c b c f ∗ pbP c b (pe c 1) f ∗ pbP c b (pe c 2) f ∗ pbP c b (pe c 3) f) := by
  have hS : ∀ i, Iff (i ∈ slab bKey b) (∃ g : Fin 4, i ∈ slab pKey (b, g)) := fun i => by
    simp only [mem_slab]
    exact ⟨fun h => ⟨(pKey i).2, Prod.ext h rfl⟩, fun ⟨g, h⟩ => congrArg Prod.fst h⟩
  have hd : ∀ t t' : Fin 4, t ≠ t' → Disjoint (slab pKey (b, t)) (slab pKey (b, t')) :=
    fun g g' h => slab_disj pKey _ _ fun e => h (congrArg Prod.snd e)
  have key := pts_parts (pbM.view.loc (c : Thread nD τ)) fullShare f (slab bKey b) (fun g => slab pKey (b, g)) hS hd
  exact key.trans (around c _)

/-- The block sent, lent in shares to three copies while the fourth stays. -/
theorem as_split (b : Fin 2) (f : S2x128x128.Idx → F .bf16) :
    asP c b fullShare f ⊢ iprop(asP c b (sh 0) f ∗ asP c b (sh 1) f ∗ asP c b (sh 2) f ∗ asP c b (sh 3) f) := by
  iintro H
  icases (pointsTo_share (PosShare.mem_left_op_right fullShare)).1 $$ H with ⟨H1, H2⟩
  icases (pointsTo_share (PosShare.mem_left_op_right fullShare.left)).1 $$ H1 with ⟨H0, H1⟩
  icases (pointsTo_share (PosShare.mem_left_op_right fullShare.right)).1 $$ H2 with ⟨H2, H3⟩
  iframe H0 H1 H2 H3

/-- Both batches of a column block of the result are the column block. -/
theorem out_union (g : Fin 4) : slab pKey (0, g) ∪ slab pKey (1, g) = slab gKey g := by
  ext i
  simp only [Finset.mem_union, mem_slab]
  refine ⟨fun h => h.elim (congrArg Prod.snd) (congrArg Prod.snd), fun h => ?_⟩
  have hb : (i 0).val < 2 := (i 0).isLt
  rcases (by omega : (i 0).val = 0 ∨ (i 0).val = 1) with hb | hb
  · exact Or.inl (Prod.ext (Fin.ext hb) h)
  · exact Or.inr (Prod.ext (Fin.ext hb) h)

/-- The two batch entries of a column block of the result are the column block. -/
theorem out_pair (g : Fin 4) (f : S2x128x512.Idx → F .f32) : iprop(outP c 0 g f ∗ outP c 1 g f) ⊢ outG c g f := by
  refine (pointsTo_union (slab_disj pKey _ _ (fun e => absurd (congrArg Prod.fst e) (by decide : ¬ ((0 : Fin 2) = 1))))).2.trans ?_
  rw [out_union]

/-- The same, whatever they hold. -/
theorem out_any (g : Fin 4) : iprop((∃ f, outP (F := F) c 0 g f) ∗ ∃ f, outP (F := F) c 1 g f) ⊢ iprop(∃ f, outG (F := F) c g f) := by
  iintro ⟨⟨%f, H0⟩, ⟨%f', H1⟩⟩
  icombine H0 H1 as H
  ihave H := (pointsTo_join (slab_disj pKey _ _ (fun e => absurd (congrArg Prod.fst e) (by decide : ¬ ((0 : Fin 2) = 1))))) $$ H
  rw [out_union]
  iexists _; iexact H

/-- Both batches of what a device sent are its blocks. -/
theorem ag_union (o : Fin 4) : slab rKey (o, 0) ∪ slab rKey (o, 1) = slab oKey o := by
  ext i
  simp only [Finset.mem_union, mem_slab]
  refine ⟨fun h => h.elim (congrArg Prod.fst) (congrArg Prod.fst), fun h => ?_⟩
  have hb : (i 1).val < 2 := (i 1).isLt
  rcases (by omega : (i 1).val = 0 ∨ (i 1).val = 1) with hb | hb
  · exact Or.inl (Prod.ext h (Fin.ext hb))
  · exact Or.inr (Prod.ext h (Fin.ext hb))

/-- The two batch entries of a slot of the all-gather's buffer are the slot. -/
theorem ag_pair (o : Fin 4) (f : S4x2x128x128.Idx → F .bf16) : iprop(agP c o 0 f ∗ agP c o 1 f) ⊢ agO c o f := by
  refine (pointsTo_union (slab_disj rKey _ _ (fun e => absurd (congrArg Prod.snd e) (by decide : ¬ ((0 : Fin 2) = 1))))).2.trans ?_
  rw [ag_union]

/-! ## Turns -/

/-- The turn of place `k` at keeping its column block of batch `b`. -/
theorem turn_rd {β : Type} {p : Prop} [Decidable p] {off off' : Fin 3 → ℕ} {h h' l x m} {w : S1x128x128.Idx → Elt F .f32} {E : TProg F β} {kont : β → TProg F α}
    (b : Fin 2) (k : Fin 4) (n n' : ℕ) (hn : n = k.val) (hn' : n' = k.val + 1) (hp : p ↔ c.val = k.val) (e : off = ![b.val, 0, 0]) (e' : off' = ![b.val, 0, 0])
    (hw : c.val = k.val → ∀ x₁ x₂, w (ix3 0 x₁ x₂) = RD I c (ix3 b x₁ x₂)) :
    upto c n (rdP c b (RD I c)) iprop(∃ f, rdP (F := F) c b f)
      ⊢ iprop((upto c n' (rdP c b (RD I c)) iprop(∃ f, rdP (F := F) c b f) -∗ WP c (E >>= kont) Q)
        -∗ WP c ((if q : p then (.op (.load rdM (Rect.unit (s := S2x128x128) off S1x128x128.size h).toLoadRect l) fun _ =>
            .op (.store rdM (Rect.unit (s := S2x128x128) off' S1x128x128.size h') w Finset.univ x m) fun _ => E) else E) >>= kont) Q) := by
  subst hn hn'
  rw [← emp_sep_eq (upto c k.val (rdP c b (RD I c)) iprop(∃ f, rdP (F := F) c b f))]
  iintro H Hk
  iapply (step_turn c k.val (rdP c b (RD I c)) iprop(∃ f, rdP (F := F) c b f) iprop(emp) hp (fun _ hc => by
    simp only [Prog.bind_op]
    iintro ⟨He, ⟨%f, H⟩⟩ Hk
    iapply (load_rd c b e) $$ H; iintro H
    iapply (store_rd c b (RD I c) w e' (hw hc)) $$ H; iintro H
    iapply Hk; iframe He H)) $$ H
  iintro ⟨He, H⟩
  iapply Hk $$ H

/-- The turn of place `k` at storing its column block of batch `b` of the result. -/
theorem turn_out {β : Type} {p : Prop} [Decidable p] {off off' : Fin 3 → ℕ} {h h' l x m} {w : S1x128x128.Idx → Elt F .f32} {E : TProg F β} {kont : β → TProg F α}
    (b : Fin 2) (k : Fin 4) (n n' : ℕ) (hn : n = k.val) (hn' : n' = k.val + 1) (hp : p ↔ c.val = k.val) (e : off = ![b.val, 0, 128 * k.val]) (e' : off' = ![b.val, 0, 128 * k.val])
    (hw : ∀ x₁ x₂, w (ix3 0 x₁ x₂) = OUT I c (ix3 b x₁ (col c x₂))) :
    upto c n (outP c b c (OUT I c)) iprop(∃ f, outP (F := F) c b c f)
      ⊢ iprop((upto c n' (outP c b c (OUT I c)) iprop(∃ f, outP (F := F) c b c f) -∗ WP c (E >>= kont) Q)
        -∗ WP c ((if q : p then (.op (.load outM (Rect.unit (s := S2x128x512) off S1x128x128.size h).toLoadRect l) fun _ =>
            .op (.store outM (Rect.unit (s := S2x128x512) off' S1x128x128.size h') w Finset.univ x m) fun _ => E) else E) >>= kont) Q) := by
  subst hn hn'
  rw [← emp_sep_eq (upto c k.val (outP c b c (OUT I c)) iprop(∃ f, outP (F := F) c b c f))]
  iintro H Hk
  iapply (step_turn c k.val (outP c b c (OUT I c)) iprop(∃ f, outP (F := F) c b c f) iprop(emp) hp (fun _ hc => by
    simp only [Prog.bind_op]
    iintro ⟨He, ⟨%f, H⟩⟩ Hk
    iapply (load_out c b c (by rw [e, hc])) $$ H; iintro H
    iapply (store_out c b c (OUT I c) w (by rw [e', hc]) hw) $$ H; iintro H
    iapply Hk; iframe He H)) $$ H
  iintro ⟨He, H⟩
  iapply Hk $$ H

/-- Column block `k` of the result before the gathered blocks are copied out: its own is there, the others' has landed. -/
def colB (k : Fin 4) : sProp (MT nD τ sig Unit (Elt F) ℕ UU ℕ) :=
  if k = c then outG c k (OUT I c) else iprop(agO c k (AG I c) ∗ ∃ f, outG (F := F) c k f)
/-- and after. -/
def colA (k : Fin 4) : sProp (MT nD τ sig Unit (Elt F) ℕ UU ℕ) :=
  if k = c then outG c k (OUT I c) else iprop(agO c k (AG I c) ∗ outG c k (OUT I c))

/-- Column block `k` is copied out unless it is the device's own. -/
theorem turn_col {β : Type} {p : Prop} [Decidable p] {off : Fin 4 → ℕ} {o o' : Fin 3 → ℕ} {h h' h'' l l' x m}
    {w : Vec F S1x2x128x128 .bf16 → FVec F S2x128x128 .f32} {E : TProg F β} {kont : β → TProg F α}
    (k : Fin 4) (hp : p ↔ c.val ≠ k.val) (e : off = ![k.val, 0, 0, 0]) (e₁ : o = ![0, 0, 128 * k.val]) (e₂ : o' = ![0, 0, 128 * k.val])
    (hw : w = k0_pay165) :
    colB I c k ⊢ iprop((colA I c k -∗ WP c (E >>= kont) Q)
        -∗ WP c ((if q : p then (.op (.load agM (Rect.unit (s := S4x2x128x128) off S1x2x128x128.size h).toLoadRect l) fun v =>
            .op (.load outM (Rect.unit (s := S2x128x512) o S2x128x128.size h').toLoadRect l') fun _ =>
            .op (.store outM (Rect.unit (s := S2x128x512) o' S2x128x128.size h'') (w v) Finset.univ x m) fun _ => E) else E) >>= kont) Q) := by
  unfold colA colB
  by_cases hk : k = c
  · rw [if_pos hk, if_pos hk, dif_neg (fun q => hp.mp q (congrArg Fin.val hk).symm)]
    iintro H Hk
    iapply Hk $$ H
  · rw [if_neg hk, if_neg hk, dif_pos (hp.mpr fun e => hk (Fin.ext e.symm))]
    simp only [Prog.bind_op]
    iintro ⟨Ha, ⟨%f, H⟩⟩ Hk
    iapply (load_ag c k e) $$ Ha; iintro Ha
    iapply (load_cols c k e₁) $$ H; iintro H
    iapply (store_cols c k (OUT I c) _ e₂ (fun x₀ x₁ x₂ => by
      have hb : cblk (col k x₂) = k := Fin.ext (by show (128 * k.val + x₂.val) / 128 = k.val; omega)
      have ho : cofs (col k x₂) = x₂ := Fin.ext (by show (128 * k.val + x₂.val) % 128 = x₂.val; omega)
      subst hw
      unfold OUT
      show _ = if cblk (col k x₂) = c then _ else k0_pay165 (ldA I c (cblk (col k x₂))) (ix3 x₀ x₁ (cofs (col k x₂)))
      rw [hb, ho, if_neg hk]
      rfl)) $$ H; iintro H
    iapply Hk; iframe Ha H

/-- Whether the body finds itself away from place `k`. -/
theorem off_place (k : Fin 4) :
    Iff (Scalar.cmpi .ne (Scalar.extui (Scalar.cmpi .ne (wd c) (BitVec.ofNat 32 k.val)) : BitVec 32) 0#32 = 1#1) (c.val ≠ k.val) := by
  revert c k; decide

/-! ## The values stored -/

/-- The device's column block of the partial output. -/
theorem slice_block (b : Fin 2) (k : Fin 4) {off : Fin 2 → ℕ} (e : off = ![0, 128 * k.val]) (h h') (hc : c.val = k.val) (x₁ x₂ : Fin 128) :
    shapeCast S1x128x128 (extractStridedSlice S128x128 off (po I c b) h) h' (ix3 0 x₁ x₂) = RD I c (ix3 b x₁ x₂) := by
  refine (ValueIdx.shapeCast_ab_1ab_apply _ h' 0 x₁ x₂).trans ?_
  refine extractStridedSlice_apply off (po I c b) h (ix2 x₁ x₂) (ix2 x₁ (col c x₂)) fun a => ?_
  subst e
  match a with
  | ⟨0, _⟩ => exact (Nat.zero_add _).symm
  | ⟨1, _⟩ => show 128 * c.val + x₂.val = 128 * k.val + x₂.val; rw [hc]

/-- The partial output as stored. -/
theorem part_cast (b : Fin 2) (h) (x₁ : Fin 128) (x₂ : Fin 512) :
    shapeCast S1x128x512 (truncf .bf16 (po I c b) bitsLt_bf16_f32) h (ix3 0 x₁ x₂) = PB I c (ix3 b x₁ x₂) := by
  exact ValueIdx.shapeCast_ab_1ab_apply _ h 0 x₁ x₂

/-- The finished block as sent. -/
theorem sent_cast (b : Fin 2) (h) (x₁ x₂ : Fin 128) :
    shapeCast S1x128x128 (truncf .bf16 (ro I c b) bitsLt_bf16_f32) h (ix3 0 x₁ x₂) = AS I c (ix3 b x₁ x₂) := by
  exact ValueIdx.shapeCast_ab_1ab_apply _ h 0 x₁ x₂

/-- The finished block as stored in the result. -/
theorem own_cast (b : Fin 2) (h) (x₁ x₂ : Fin 128) :
    shapeCast S1x128x128 (ro I c b) h (ix3 0 x₁ x₂) = OUT I c (ix3 b x₁ (col c x₂)) := by
  have hb : cblk (col c x₂) = c := Fin.ext (by show (128 * c.val + x₂.val) / 128 = c.val; omega)
  have ho : cofs (col c x₂) = x₂ := Fin.ext (by show (128 * c.val + x₂.val) % 128 = x₂.val; omega)
  refine (ValueIdx.shapeCast_ab_1ab_apply _ h 0 x₁ x₂).trans ?_
  unfold OUT
  show _ = if cblk (col c x₂) = c then ro I c b (ix2 x₁ (cofs (col c x₂))) else _
  rw [hb, ho, if_pos rfl]
  rfl

/-! ## Arrivals -/

/-- The receipt semaphore of the finished block of source `o` and batch `b`. -/
theorem sem_gr (o : Fin 4) (b : Fin 2) {off : Fin 2 → ℕ} (h) (sq) (e : off = ![o.val, b.val]) :
    ((cc0_scratch17.slice (Rect.unit (s := S4x2) off S1x1.size h)).squeeze S_ sq).sem = csem (.gr o b) := by
  subst e; revert o b; decide

/-- The cells of the other devices' copies are in use. -/
theorem act_r (t : Fin 4) (ht : t ≠ 0) (b : Fin 2) : act c (.rr (pe c t.val) b) = true ∧ act c (.gr (pe c t.val) b) = true := by
  revert c t b; decide

/-- The partial block of the device `o` has arrived, -/
theorem waitR {sp sp' : Space} {s s' : Shape} {e e' : EltTy} {src : Memref sig .tc sp s e} {dst : Memref sig .tc sp' s' e'} {sem : DmaSem sig}
    {h₁ : src.view.WordExact} {h₂ : dst.view.WordExact} {kont : PUnit → TProg F α} (o : Dev nD) (b : Fin 2) (l : List It) (ha : act c (.rr o b) = true)
    (hs : sem = csem (.rr o b)) (hN : dst.view.dmaCredit = 1024) (hl : ∀ x ∈ l, 3 < x.lev) :
    iprop(Rec I K c ∗ due c (.rr o b) ∗ ow c l
        ∗ ((semVal (cell c (.rr o b)) 0 ∗ rsP c o b (RS I c) ∗ ow c l) -∗ WP c (kont ⟨⟩) Q))
      ⊢ WP c (.op (.waitDma2 sem src dst h₁ h₂) kont) Q := by
  iintro ⟨#HR, ⟨Hc, Ha⟩, HO, Hk⟩
  iapply (step_wait I K c (.rr o b) l 3 hs ha hN (lv_cell c _ |>.trans (le_refl 3)) hl)
  iframe HR Hc Ha HO Hk

/-- and its finished block. -/
theorem waitA {sp sp' : Space} {s s' : Shape} {e e' : EltTy} {src : Memref sig .tc sp s e} {dst : Memref sig .tc sp' s' e'} {sem : DmaSem sig}
    {h₁ : src.view.WordExact} {h₂ : dst.view.WordExact} {kont : PUnit → TProg F α} (o : Dev nD) (b : Fin 2) (ha : act c (.gr o b) = true)
    (hs : sem = csem (.gr o b)) (hN : dst.view.dmaCredit = 1024) :
    iprop(Rec I K c ∗ due c (.gr o b) ∗ ow c []
        ∗ ((semVal (cell c (.gr o b)) 0 ∗ agP c o b (AG I c) ∗ ow c []) -∗ WP c (kont ⟨⟩) Q))
      ⊢ WP c (.op (.waitDma2 sem src dst h₁ h₂) kont) Q := by
  iintro ⟨#HR, ⟨Hc, Ha⟩, HO, Hk⟩
  iapply (step_wait I K c (.gr o b) [] 4 hs ha hN (lv_cell c _ |>.trans (le_refl 4)) (by intro x hx; cases hx))
  iframe HR Hc Ha HO Hk

end

end Cert.KernelIdeal.Mesh
-- ==== Proof.PartE.lean ====
/- The parts of the body in which partial outputs are exchanged and summed. -/
module

public import proofs.«01_k».proof.Proof.Turns

@[expose] public section

noncomputable section

namespace Cert.KernelIdeal.Mesh

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (I : Dev nD → Inp F)

section

variable {α : Type} {Q : α → sProp (MT nD τ sig Unit (Elt F) ℕ UU ℕ)} (K : GSem nD τ sig → ℕ) (c : Dev nD)

/-- The block kept of batch `b` once the first `k` places have had their turn. -/
abbrev rdU (b : Fin 2) (k : ℕ) : sProp (MT nD τ sig Unit (Elt F) ℕ UU ℕ) :=
  upto c k (rdP c b (RD I c)) iprop(∃ f, rdP (F := F) c b f)
/-- The own block of batch `b` of the result once the first `k` places have had their turn. -/
abbrev outU (b : Fin 2) (k : ℕ) : sProp (MT nD τ sig Unit (Elt F) ℕ UU ℕ) :=
  upto c k (outP c b c (OUT I c)) iprop(∃ f, outP (F := F) c b c f)

/-- The last weighted values of batch 0's heads; batch 0 of the partial output is stored. -/
theorem part29 {kont : _ → TProg F α} :
    iprop(gv I c 3 ∗ woP I c ∗ (∃ f, pbB (F := F) c 0 f) ∗ rdU I c 0 0
      ∗ ((gv I c 3 ∗ woP I c ∗ pbB c 0 (PB I c) ∗ rdU I c 0 1)
        -∗ WP c (kont ⟨cx I c 1 2 3, cx I c 1 3 3, k0_pay138 (ldO I c), po I c 0⟩) Q))
      ⊢ WP c (ap (k0_part29 (F := F)) (wd c) (cx I c 1 2 2) (cx I c 1 3 2) (dn I c 0 0 3) (dn I c 0 1 3) (dn I c 0 2 3) (dn I c 0 3 3) (ef I c 3 1 3)
          (sv I c 3) (cx I c 0 0 3) (cx I c 0 1 3) (cx I c 0 2 3) (cx I c 0 3 3) (wtb I c 3 1 2)
          (shapeCast S128x64 (ldV I c 3 2 1) shapeCasts_S1x1x1x128x64_S128x64) >>= kont) Q := by
  unfold ap
  rw [k0_part29_eq_skeleton]
  unfold k0_part29_skel
  simp only [Prog.lift, Prog.bind_op, Prog.bind_ret, Prog.pure_eq_ret]
  iintro ⟨HV, HW, ⟨%f, Hp⟩, Hr, Hk⟩
  iapply (stepV I c 3 3 1) $$ HV; iintro HV
  iapply (stepO I c (funext fun a => match a with | ⟨0, _⟩ => rfl | ⟨1, _⟩ => rfl)) $$ HW; iintro HW
  iapply (load_pb c 0 rfl) $$ Hp; iintro Hp
  iapply (store_pb c 0 (PB I c) _ rfl (fun x₁ x₂ => part_cast I c 0 _ x₁ x₂)) $$ Hp; iintro Hp
  iapply (turn_rd I c 0 0 0 1 rfl rfl (at_place c 0) rfl rfl (fun hc x₁ x₂ => slice_block I c 0 0 rfl _ _ hc x₁ x₂)) $$ Hr; iintro Hr
  simp only [Prog.bind_ret]
  iapply Hk; iframe HV HW Hp Hr

/-- Batch 0 of the own block is kept, and the first copy of partial blocks is sent. -/
theorem part30 {kont : _ → TProg F α} :
    iprop(Rec I K c ∗ rdU I c 0 1 ∗ pbP c 0 (pe c 1) (PB I c) ∗ land (pe c 1) (.rr c 0) ∗ tok c (.rs 1 0) ∗ ow c lR0
      ∗ ((rdU I c 0 4 ∗ crd c (.rs 1 0) ∗ ow c (lR0.drop 1)) -∗ WP c (kont ⟨⟩) Q))
      ⊢ WP c (ap (k0_part30 (F := F)) c (wd c) (po I c 0) >>= kont) Q := by
  unfold ap
  rw [k0_part30_eq_skeleton]
  unfold k0_part30_skel
  simp only [Prog.lift, Prog.bind_op, Prog.bind_ret, Prog.pure_eq_ret]
  iintro ⟨#HR, Hr, Hp, Hl, Ht, HO, Hk⟩
  iapply (turn_rd I c 0 1 1 2 rfl rfl (at_place c 1) rfl rfl (fun hc x₁ x₂ => slice_block I c 0 1 rfl _ _ hc x₁ x₂)) $$ Hr; iintro Hr
  iapply (turn_rd I c 0 2 2 3 rfl rfl (at_place c 2) rfl rfl (fun hc x₁ x₂ => slice_block I c 0 2 rfl _ _ hc x₁ x₂)) $$ Hr; iintro Hr
  iapply (turn_rd I c 0 3 3 4 rfl rfl (at_place c 3) rfl rfl (fun hc x₁ x₂ => slice_block I c 0 3 rfl _ _ hc x₁ x₂)) $$ Hr; iintro Hr
  simp only [Prog.bind_op, Prog.bind_ret]
  iapply (sendR I K c 1 0 _ (by decide) (k0_off5_eq c 0) (k0_off4_eq c) (Fin.ext (k0_dev13_eq c)) (by decide) (sem_rr c 0 _ _ (k0_off3_eq c)))
  iframe HR Hp Hl Ht HO
  iintro ⟨Hc, HO⟩
  iapply Hk; iframe Hr Hc HO

/-- Batch 1's weighted values are divided through; the other two copies of batch 0's partial blocks. -/
theorem part31 {kont : _ → TProg F α} :
    iprop(Rec I K c ∗ (pbP c 0 (pe c 2) (PB I c) ∗ land (pe c 2) (.rr c 0) ∗ tok c (.rs 2 0))
      ∗ (pbP c 0 (pe c 3) (PB I c) ∗ land (pe c 3) (.rr c 0) ∗ tok c (.rs 3 0)) ∗ ow c (lR0.drop 1)
      ∗ ((crd c (.rs 2 0) ∗ crd c (.rs 3 0) ∗ ow c lR1)
        -∗ WP c (kont (k0_pay145 (dn I c 1 0 3) (dn I c 1 1 3) (dn I c 1 2 3) (dn I c 1 3 3) (cx I c 1 0 3) (cx I c 1 1 3) (cx I c 1 2 3) (cx I c 1 3 3))) Q))
      ⊢ WP c (ap (k0_part31 (F := F)) c (wd c) (dn I c 1 0 3) (dn I c 1 1 3) (dn I c 1 2 3) (dn I c 1 3 3)
          (cx I c 1 0 3) (cx I c 1 1 3) (cx I c 1 2 3) (cx I c 1 3 3) >>= kont) Q := by
  unfold ap
  rw [k0_part31_eq_skeleton]
  unfold k0_part31_skel
  simp only [Prog.lift, Prog.bind_op, Prog.bind_ret, Prog.pure_eq_ret]
  iintro ⟨#HR, ⟨Hp, Hl, Ht⟩, ⟨Hp', Hl', Ht'⟩, HO, Hk⟩
  iapply (sendR I K c 2 0 _ (by decide) (k0_off5_eq c 1) (k0_off4_eq c) (Fin.ext (k0_dev14_eq c)) (by decide) (sem_rr c 0 _ _ (k0_off3_eq c)))
  iframe HR Hp Hl Ht HO
  iintro ⟨Hc, HO⟩
  iapply (sendR I K c 3 0 _ (by decide) (k0_off5_eq c 2) (k0_off4_eq c) (Fin.ext (k0_dev15_eq c)) (by decide) (sem_rr c 0 _ _ (k0_off3_eq c)))
  iframe HR Hp' Hl' Ht' HO
  iintro ⟨Hc', HO⟩
  iapply Hk; iframe Hc Hc' HO

/-- Batch 1 of the partial output is stored and its own block kept. -/
theorem part32 {kont : _ → TProg F α} :
    iprop((∃ f, pbB (F := F) c 1 f) ∗ rdU I c 1 0 ∗ ((pbB c 1 (PB I c) ∗ rdU I c 1 4) -∗ WP c (kont ⟨⟩) Q))
      ⊢ WP c (ap (k0_part32 (F := F)) c (wd c) (k0_pay138 (ldO I c))
          (k0_pay145 (dn I c 1 0 3) (dn I c 1 1 3) (dn I c 1 2 3) (dn I c 1 3 3) (cx I c 1 0 3) (cx I c 1 1 3) (cx I c 1 2 3) (cx I c 1 3 3)) >>= kont) Q := by
  unfold ap
  rw [k0_part32_eq_skeleton]
  unfold k0_part32_skel
  simp only [Prog.lift, Prog.bind_op, Prog.bind_ret, Prog.pure_eq_ret]
  iintro ⟨⟨%f, Hp⟩, Hr, Hk⟩
  iapply (load_pb c 1 rfl) $$ Hp; iintro Hp
  iapply (store_pb c 1 (PB I c) _ rfl (fun x₁ x₂ => part_cast I c 1 _ x₁ x₂)) $$ Hp; iintro Hp
  iapply (turn_rd I c 1 0 0 1 rfl rfl (at_place c 0) rfl rfl (fun hc x₁ x₂ => slice_block I c 1 0 rfl _ _ hc x₁ x₂)) $$ Hr; iintro Hr
  iapply (turn_rd I c 1 1 1 2 rfl rfl (at_place c 1) rfl rfl (fun hc x₁ x₂ => slice_block I c 1 1 rfl _ _ hc x₁ x₂)) $$ Hr; iintro Hr
  iapply (turn_rd I c 1 2 2 3 rfl rfl (at_place c 2) rfl rfl (fun hc x₁ x₂ => slice_block I c 1 2 rfl _ _ hc x₁ x₂)) $$ Hr; iintro Hr
  iapply (turn_rd I c 1 3 3 4 rfl rfl (at_place c 3) rfl rfl (fun hc x₁ x₂ => slice_block I c 1 3 rfl _ _ hc x₁ x₂)) $$ Hr; iintro Hr
  simp only [Prog.bind_op, Prog.bind_ret]
  iapply Hk; iframe Hp Hr

end

end Cert.KernelIdeal.Mesh
-- ==== Proof.PartF.lean ====
/- The parts of the body in which finished blocks are made, stored and exchanged. -/
module

public import proofs.«01_k».proof.Proof.PartE

@[expose] public section

noncomputable section

namespace Cert.KernelIdeal.Mesh

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (I : Dev nD → Inp F)

section

variable {α : Type} {Q : α → sProp (MT nD τ sig Unit (Elt F) ℕ UU ℕ)} (K : GSem nD τ sig → ℕ) (c : Dev nD)

/-- What a copy of a partial block of batch `b` to the device `t` places after needs. -/
abbrev toR (t : ℕ) (s : Fin 4) (b : Fin 2) : sProp (MT nD τ sig Unit (Elt F) ℕ UU ℕ) :=
  iprop(pbP c b (pe c t) (PB I c) ∗ land (pe c t) (.rr c b) ∗ tok c (.rs s b))
/-- What a copy of the finished block of batch `b` needs. -/
abbrev toA (t : ℕ) (s : Fin 4) (b : Fin 2) : sProp (MT nD τ sig Unit (Elt F) ℕ UU ℕ) :=
  iprop(asP c b (sh s) (AS I c) ∗ land (pe c t) (.gr c b) ∗ tok c (.gs s b))
/-- What is there once the partial block of the device `t` places after has arrived, -/
abbrev gotR (t : ℕ) (b : Fin 2) : sProp (MT nD τ sig Unit (Elt F) ℕ UU ℕ) :=
  iprop(semVal (cell c (.rr (pe c t) b)) 0 ∗ rsP c (pe c t) b (RS I c))
/-- and its finished block. -/
abbrev gotA (t : ℕ) (b : Fin 2) : sProp (MT nD τ sig Unit (Elt F) ℕ UU ℕ) :=
  iprop(semVal (cell c (.gr (pe c t) b)) 0 ∗ agP c (pe c t) b (AG I c))

/-- The three copies of batch 1's partial blocks. -/
theorem part33 {kont : _ → TProg F α} :
    iprop(Rec I K c ∗ toR I c 1 1 1 ∗ toR I c 2 2 1 ∗ toR I c 3 3 1 ∗ ow c lR1
      ∗ ((crd c (.rs 1 1) ∗ crd c (.rs 2 1) ∗ crd c (.rs 3 1) ∗ ow c lG0) -∗ WP c (kont (Scalar.remsi (Scalar.addi (wd c) 3#32) 4#32)) Q))
      ⊢ WP c (ap (k0_part33 (F := F)) c (wd c) >>= kont) Q := by
  unfold ap
  rw [k0_part33_eq_skeleton]
  unfold k0_part33_skel
  simp only [Prog.lift, Prog.bind_op, Prog.bind_ret, Prog.pure_eq_ret]
  iintro ⟨#HR, ⟨Hp₁, Hl₁, Ht₁⟩, ⟨Hp₂, Hl₂, Ht₂⟩, ⟨Hp₃, Hl₃, Ht₃⟩, HO, Hk⟩
  iapply (sendR I K c 1 1 _ (by decide) (k0_off8_eq c 0) (k0_off7_eq c) (Fin.ext (k0_dev16_eq c)) (by decide) (sem_rr c 1 _ _ (k0_off6_eq c)))
  iframe HR Hp₁ Hl₁ Ht₁ HO
  iintro ⟨Hc₁, HO⟩
  iapply (sendR I K c 2 1 _ (by decide) (k0_off8_eq c 1) (k0_off7_eq c) (Fin.ext (k0_dev17_eq c)) (by decide) (sem_rr c 1 _ _ (k0_off6_eq c)))
  iframe HR Hp₂ Hl₂ Ht₂ HO
  iintro ⟨Hc₂, HO⟩
  iapply (sendR I K c 3 1 _ (by decide) (k0_off8_eq c 2) (k0_off7_eq c) (Fin.ext (k0_dev18_eq c)) (by decide) (sem_rr c 1 _ _ (k0_off6_eq c)))
  iframe HR Hp₃ Hl₃ Ht₃ HO
  iintro ⟨Hc₃, HO⟩
  iapply Hk; iframe Hc₁ Hc₂ Hc₃ HO

/-- Two of batch 0's partial blocks arrive. -/
theorem part34 {kont : _ → TProg F α} (v : BitVec 32) :
    iprop(Rec I K c ∗ due c (.rr (pe c 3) 0) ∗ due c (.rr (pe c 2) 0) ∗ ow c lG0
      ∗ ((gotR I c 3 0 ∗ gotR I c 2 0 ∗ ow c lG0) -∗ WP c (kont ⟨⟩) Q))
      ⊢ WP c (ap (k0_part34 (F := F)) c (wd c) v >>= kont) Q := by
  unfold ap
  rw [k0_part34_eq_skeleton]
  unfold k0_part34_skel
  simp only [Prog.lift, Prog.bind_op, Prog.bind_ret, Prog.pure_eq_ret]
  iintro ⟨#HR, D₁, D₂, HO, Hk⟩
  iapply (waitR I K c (pe c 3) 0 lG0 (act_r c 3 (by decide) 0).1 (sem_rr (pe c 3) 0 _ _ (k0_off9_eq c 2)) rfl (by decide))
  iframe HR D₁ HO
  iintro ⟨S₁, R₁, HO⟩
  iapply (waitR I K c (pe c 2) 0 lG0 (act_r c 2 (by decide) 0).1 (sem_rr (pe c 2) 0 _ _ (k0_off9_eq c 1)) rfl (by decide))
  iframe HR D₂ HO
  iintro ⟨S₂, R₂, HO⟩
  iapply Hk; iframe S₁ R₁ S₂ R₂ HO

/-- The third arrives; the four are summed and the sum is put where it is sent from. -/
theorem part35 {kont : _ → TProg F α} :
    iprop(Rec I K c ∗ due c (.rr (pe c 1) 0) ∗ gotR I c 2 0 ∗ gotR I c 3 0 ∗ rdP c 0 (RD I c) ∗ (∃ f, asP (F := F) c 0 fullShare f) ∗ ow c lG0
      ∗ ((gotR I c 1 0 ∗ gotR I c 2 0 ∗ gotR I c 3 0 ∗ rdP c 0 (RD I c) ∗ asP c 0 fullShare (AS I c) ∗ ow c lG0)
        -∗ WP c (kont ⟨ro I c 0, Scalar.extui (Scalar.cmpi .eq (wd c) 0#32)⟩) Q))
      ⊢ WP c (ap (k0_part35 (F := F)) c (wd c) >>= kont) Q := by
  unfold ap
  rw [k0_part35_eq_skeleton]
  unfold k0_part35_skel
  simp only [Prog.lift, Prog.bind_op, Prog.bind_ret, Prog.pure_eq_ret]
  iintro ⟨#HR, D₁, ⟨S₂, R₂⟩, ⟨S₃, R₃⟩, Hd, ⟨%f, Hs⟩, HO, Hk⟩
  iapply (waitR I K c (pe c 1) 0 lG0 (act_r c 1 (by decide) 0).1 (sem_rr (pe c 1) 0 _ _ (k0_off9_eq c 0)) rfl (by decide))
  iframe HR D₁ HO
  iintro ⟨S₁, R₁, HO⟩
  iapply (load_rd c 0 rfl) $$ Hd; iintro Hd
  iapply (load_rs c (pe c 1) 0 (k0_off11_eq c 0)) $$ R₁; iintro R₁
  iapply (load_rs c (pe c 2) 0 (k0_off11_eq c 1)) $$ R₂; iintro R₂
  iapply (load_rs c (pe c 3) 0 (k0_off11_eq c 2)) $$ R₃; iintro R₃
  iapply (load_as c 0 rfl) $$ Hs; iintro Hs
  iapply (store_as c 0 (AS I c) _ rfl (fun x₁ x₂ => sent_cast I c 0 _ x₁ x₂)) $$ Hs; iintro Hs
  iapply Hk; iframe S₁ R₁ S₂ R₂ S₃ R₃ Hd Hs HO

/-- The own block of batch 0 goes into the result, and its first copy is sent. -/
theorem part36 {kont : _ → TProg F α} :
    iprop(Rec I K c ∗ outU I c 0 0 ∗ toA I c 1 1 0 ∗ ow c lG0
      ∗ ((outU I c 0 4 ∗ crd c (.gs 1 0) ∗ ow c (lG0.drop 1)) -∗ WP c (kont ⟨⟩) Q))
      ⊢ WP c (ap (k0_part36 (F := F)) c (wd c) (ro I c 0) (Scalar.extui (Scalar.cmpi .eq (wd c) 0#32)) >>= kont) Q := by
  unfold ap
  rw [k0_part36_eq_skeleton]
  unfold k0_part36_skel
  simp only [Prog.lift, Prog.bind_op, Prog.bind_ret, Prog.pure_eq_ret]
  iintro ⟨#HR, H, ⟨Hp, Hl, Ht⟩, HO, Hk⟩
  iapply (turn_out I c 0 0 0 1 rfl rfl (at_place c 0) rfl rfl (own_cast I c 0 _)) $$ H; iintro H
  iapply (turn_out I c 0 1 1 2 rfl rfl (at_place c 1) rfl rfl (own_cast I c 0 _)) $$ H; iintro H
  iapply (turn_out I c 0 2 2 3 rfl rfl (at_place c 2) rfl rfl (own_cast I c 0 _)) $$ H; iintro H
  iapply (turn_out I c 0 3 3 4 rfl rfl (at_place c 3) rfl rfl (own_cast I c 0 _)) $$ H; iintro H
  simp only [Prog.bind_op, Prog.bind_ret]
  iapply (sendA I K c 1 0 _ (by decide) rfl (k0_off4_eq c) (Fin.ext (k0_dev19_eq c)) (by decide) (sem_gr c 0 _ _ (k0_off3_eq c)))
  iframe HR Hp Hl Ht HO
  iintro ⟨Hc, HO⟩
  iapply Hk; iframe H Hc HO

/-- Its other two copies. -/
theorem part37 {kont : _ → TProg F α} :
    iprop(Rec I K c ∗ toA I c 2 2 0 ∗ toA I c 3 3 0 ∗ ow c (lG0.drop 1)
      ∗ ((crd c (.gs 2 0) ∗ crd c (.gs 3 0) ∗ ow c lG1) -∗ WP c (kont ⟨⟩) Q))
      ⊢ WP c (ap (k0_part37 (F := F)) c (wd c) >>= kont) Q := by
  unfold ap
  rw [k0_part37_eq_skeleton]
  unfold k0_part37_skel
  simp only [Prog.lift, Prog.bind_op, Prog.bind_ret, Prog.pure_eq_ret]
  iintro ⟨#HR, ⟨Hp₁, Hl₁, Ht₁⟩, ⟨Hp₂, Hl₂, Ht₂⟩, HO, Hk⟩
  iapply (sendA I K c 2 0 _ (by decide) rfl (k0_off4_eq c) (Fin.ext (k0_dev20_eq c)) (by decide) (sem_gr c 0 _ _ (k0_off3_eq c)))
  iframe HR Hp₁ Hl₁ Ht₁ HO
  iintro ⟨Hc₁, HO⟩
  iapply (sendA I K c 3 0 _ (by decide) rfl (k0_off4_eq c) (Fin.ext (k0_dev21_eq c)) (by decide) (sem_gr c 0 _ _ (k0_off3_eq c)))
  iframe HR Hp₂ Hl₂ Ht₂ HO
  iintro ⟨Hc₂, HO⟩
  iapply Hk; iframe Hc₁ Hc₂ HO

/-- Batch 1's partial blocks arrive. -/
theorem part38 {kont : _ → TProg F α} :
    iprop(Rec I K c ∗ due c (.rr (pe c 3) 1) ∗ due c (.rr (pe c 2) 1) ∗ due c (.rr (pe c 1) 1) ∗ rdP c 1 (RD I c) ∗ ow c lG1
      ∗ ((gotR I c 3 1 ∗ gotR I c 2 1 ∗ gotR I c 1 1 ∗ rdP c 1 (RD I c) ∗ ow c lG1)
        -∗ WP c (kont ⟨k0_pay158 (ldD I c 1), Scalar.remsi (Scalar.addi (wd c) 1#32) 4#32⟩) Q))
      ⊢ WP c (ap (k0_part38 (F := F)) c (wd c) >>= kont) Q := by
  unfold ap
  rw [k0_part38_eq_skeleton]
  unfold k0_part38_skel
  simp only [Prog.lift, Prog.bind_op, Prog.bind_ret, Prog.pure_eq_ret]
  iintro ⟨#HR, D₁, D₂, D₃, Hd, HO, Hk⟩
  iapply (waitR I K c (pe c 3) 1 lG1 (act_r c 3 (by decide) 1).1 (sem_rr (pe c 3) 1 _ _ (k0_off12_eq c 2)) rfl (by decide))
  iframe HR D₁ HO
  iintro ⟨S₁, R₁, HO⟩
  iapply (waitR I K c (pe c 2) 1 lG1 (act_r c 2 (by decide) 1).1 (sem_rr (pe c 2) 1 _ _ (k0_off12_eq c 1)) rfl (by decide))
  iframe HR D₂ HO
  iintro ⟨S₂, R₂, HO⟩
  iapply (waitR I K c (pe c 1) 1 lG1 (act_r c 1 (by decide) 1).1 (sem_rr (pe c 1) 1 _ _ (k0_off12_eq c 0)) rfl (by decide))
  iframe HR D₃ HO
  iintro ⟨S₃, R₃, HO⟩
  iapply (load_rd c 1 rfl) $$ Hd; iintro Hd
  iapply Hk; iframe S₁ R₁ S₂ R₂ S₃ R₃ Hd HO

/-- They are summed; the first three places' turns at storing the own block. -/
theorem part39 {kont : _ → TProg F α} (v : BitVec 32) :
    iprop(gotR I c 3 1 ∗ gotR I c 2 1 ∗ gotR I c 1 1 ∗ (∃ f, asP (F := F) c 1 fullShare f) ∗ outU I c 1 0
      ∗ ((gotR I c 3 1 ∗ gotR I c 2 1 ∗ gotR I c 1 1 ∗ asP c 1 fullShare (AS I c) ∗ outU I c 1 3)
        -∗ WP c (kont ⟨ro I c 1, Scalar.cmpi .eq (wd c) 3#32⟩) Q))
      ⊢ WP c (ap (k0_part39 (F := F)) c (wd c) (k0_pay158 (ldD I c 1)) v >>= kont) Q := by
  unfold ap
  rw [k0_part39_eq_skeleton]
  unfold k0_part39_skel
  simp only [Prog.lift, Prog.bind_op, Prog.bind_ret, Prog.pure_eq_ret]
  iintro ⟨⟨S₃, R₃⟩, ⟨S₂, R₂⟩, ⟨S₁, R₁⟩, ⟨%f, Hs⟩, H, Hk⟩
  iapply (load_rs c (pe c 1) 1 (k0_off14_eq c 0)) $$ R₁; iintro R₁
  iapply (load_rs c (pe c 2) 1 (k0_off14_eq c 1)) $$ R₂; iintro R₂
  iapply (load_rs c (pe c 3) 1 (k0_off14_eq c 2)) $$ R₃; iintro R₃
  iapply (load_as c 1 rfl) $$ Hs; iintro Hs
  iapply (store_as c 1 (AS I c) _ rfl (fun x₁ x₂ => sent_cast I c 1 _ x₁ x₂)) $$ Hs; iintro Hs
  iapply (turn_out I c 1 0 0 1 rfl rfl (at_place c 0) rfl rfl (own_cast I c 1 _)) $$ H; iintro H
  iapply (turn_out I c 1 1 1 2 rfl rfl (at_place c 1) rfl rfl (own_cast I c 1 _)) $$ H; iintro H
  iapply (turn_out I c 1 2 2 3 rfl rfl (at_place c 2) rfl rfl (own_cast I c 1 _)) $$ H; iintro H
  simp only [Prog.bind_ret]
  iapply Hk; iframe S₁ R₁ S₂ R₂ S₃ R₃ Hs H

/-- The last place's turn; two copies of batch 1's finished block. -/
theorem part40 {kont : _ → TProg F α} :
    iprop(Rec I K c ∗ outU I c 1 3 ∗ toA I c 1 1 1 ∗ toA I c 2 2 1 ∗ ow c lG1
      ∗ ((outU I c 1 4 ∗ crd c (.gs 1 1) ∗ crd c (.gs 2 1) ∗ ow c (lG1.drop 2)) -∗ WP c (kont (Scalar.remsi (Scalar.addi (wd c) 3#32) 4#32)) Q))
      ⊢ WP c (ap (k0_part40 (F := F)) c (wd c) (ro I c 1) (Scalar.cmpi .eq (wd c) 3#32) >>= kont) Q := by
  unfold ap
  rw [k0_part40_eq_skeleton]
  unfold k0_part40_skel
  simp only [Prog.lift, Prog.bind_op, Prog.bind_ret, Prog.pure_eq_ret]
  iintro ⟨#HR, H, ⟨Hp₁, Hl₁, Ht₁⟩, ⟨Hp₂, Hl₂, Ht₂⟩, HO, Hk⟩
  iapply (turn_out I c 1 3 3 4 rfl rfl (at_place c 3) rfl rfl (own_cast I c 1 _)) $$ H; iintro H
  simp only [Prog.bind_op, Prog.bind_ret]
  iapply (sendA I K c 1 1 _ (by decide) rfl (k0_off7_eq c) (Fin.ext (k0_dev22_eq c)) (by decide) (sem_gr c 1 _ _ (k0_off6_eq c)))
  iframe HR Hp₁ Hl₁ Ht₁ HO
  iintro ⟨Hc₁, HO⟩
  iapply (sendA I K c 2 1 _ (by decide) rfl (k0_off7_eq c) (Fin.ext (k0_dev23_eq c)) (by decide) (sem_gr c 1 _ _ (k0_off6_eq c)))
  iframe HR Hp₂ Hl₂ Ht₂ HO
  iintro ⟨Hc₂, HO⟩
  iapply Hk; iframe H Hc₁ Hc₂ HO

/-- The last copy; the first finished block arrives. -/
theorem part41 {kont : _ → TProg F α} (v : BitVec 32) :
    iprop(Rec I K c ∗ toA I c 3 3 1 ∗ due c (.gr (pe c 3) 0) ∗ ow c (lG1.drop 2)
      ∗ ((crd c (.gs 3 1) ∗ gotA I c 3 0 ∗ ow c []) -∗ WP c (kont ⟨⟩) Q))
      ⊢ WP c (ap (k0_part41 (F := F)) c (wd c) v >>= kont) Q := by
  unfold ap
  rw [k0_part41_eq_skeleton]
  unfold k0_part41_skel
  simp only [Prog.lift, Prog.bind_op, Prog.bind_ret, Prog.pure_eq_ret]
  iintro ⟨#HR, ⟨Hp, Hl, Ht⟩, D, HO, Hk⟩
  iapply (sendA I K c 3 1 _ (by decide) rfl (k0_off7_eq c) (Fin.ext (k0_dev24_eq c)) (by decide) (sem_gr c 1 _ _ (k0_off6_eq c)))
  iframe HR Hp Hl Ht HO
  iintro ⟨Hc, HO⟩
  iapply (waitA I K c (pe c 3) 0 (act_r c 3 (by decide) 0).2 (sem_gr (pe c 3) 0 _ _ (k0_off9_eq c 2)) rfl)
  iframe HR D HO
  iintro ⟨S, R, HO⟩
  iapply Hk; iframe Hc S R HO

/-- Three more arrive. -/
theorem part42 {kont : _ → TProg F α} :
    iprop(Rec I K c ∗ due c (.gr (pe c 3) 1) ∗ due c (.gr (pe c 2) 0) ∗ due c (.gr (pe c 2) 1) ∗ ow c []
      ∗ ((gotA I c 3 1 ∗ gotA I c 2 0 ∗ gotA I c 2 1 ∗ ow c []) -∗ WP c (kont ⟨Scalar.remsi (Scalar.addi (wd c) 1#32) 4#32, 1#32⟩) Q))
      ⊢ WP c (ap (k0_part42 (F := F)) c (wd c) >>= kont) Q := by
  unfold ap
  rw [k0_part42_eq_skeleton]
  unfold k0_part42_skel
  simp only [Prog.lift, Prog.bind_op, Prog.bind_ret, Prog.pure_eq_ret]
  iintro ⟨#HR, D₁, D₂, D₃, HO, Hk⟩
  iapply (waitA I K c (pe c 3) 1 (act_r c 3 (by decide) 1).2 (sem_gr (pe c 3) 1 _ _ (k0_off12_eq c 2)) rfl)
  iframe HR D₁ HO
  iintro ⟨S₁, R₁, HO⟩
  iapply (waitA I K c (pe c 2) 0 (act_r c 2 (by decide) 0).2 (sem_gr (pe c 2) 0 _ _ (k0_off9_eq c 1)) rfl)
  iframe HR D₂ HO
  iintro ⟨S₂, R₂, HO⟩
  iapply (waitA I K c (pe c 2) 1 (act_r c 2 (by decide) 1).2 (sem_gr (pe c 2) 1 _ _ (k0_off12_eq c 1)) rfl)
  iframe HR D₃ HO
  iintro ⟨S₃, R₃, HO⟩
  iapply Hk; iframe S₁ R₁ S₂ R₂ S₃ R₃ HO

/-- The column blocks of the result, before the gathered ones are copied out and after. -/
abbrev colsB : sProp (MT nD τ sig Unit (Elt F) ℕ UU ℕ) := iprop(colB I c 0 ∗ colB I c 1 ∗ colB I c 2 ∗ colB I c 3)
abbrev colsA : sProp (MT nD τ sig Unit (Elt F) ℕ UU ℕ) := iprop(colA I c 0 ∗ colA I c 1 ∗ colA I c 2 ∗ colA I c 3)

/-- A column block whose finished blocks have landed is ready to be copied out. -/
theorem colB_of (t : Fin 4) (ht : t ≠ 0) :
    iprop(agP c (pe c t.val) 0 (AG I c) ∗ agP c (pe c t.val) 1 (AG I c) ∗ (∃ f, outP (F := F) c 0 (pe c t.val) f) ∗ ∃ f, outP (F := F) c 1 (pe c t.val) f)
      ⊢ colB I c (pe c t.val) := by
  unfold colB
  rw [if_neg (fun h => of_decide_eq_true (pe_ne c t ht) h.symm)]
  iintro ⟨A, B, C, D⟩
  icombine A B as A
  icombine C D as C
  ihave A := (ag_pair c (pe c t.val) (AG I c)) $$ A
  ihave C := (out_any c (pe c t.val)) $$ C
  iframe A C

/-- The last two arrive; the gathered blocks are copied into the result. -/
theorem part43 {kont : _ → TProg F α} (v w : BitVec 32) :
    iprop(Rec I K c ∗ due c (.gr (pe c 1) 0) ∗ due c (.gr (pe c 1) 1) ∗ ow c []
      ∗ ((agP c (pe c 1) 0 (AG I c) ∗ agP c (pe c 1) 1 (AG I c)) -∗ colsB I c)
      ∗ ((semVal (cell c (.gr (pe c 1) 0)) 0 ∗ semVal (cell c (.gr (pe c 1) 1)) 0 ∗ colsA I c ∗ ow c []) -∗ WP c (kont (Scalar.addi (wd c) 1#32)) Q))
      ⊢ WP c (ap (k0_part43 (F := F)) c (wd c) v w >>= kont) Q := by
  unfold ap
  rw [k0_part43_eq_skeleton]
  unfold k0_part43_skel
  simp only [Prog.lift, Prog.bind_op, Prog.bind_ret, Prog.pure_eq_ret]
  iintro ⟨#HR, D₁, D₂, HO, Hcols, Hk⟩
  iapply (waitA I K c (pe c 1) 0 (act_r c 1 (by decide) 0).2 (sem_gr (pe c 1) 0 _ _ (k0_off9_eq c 0)) rfl)
  iframe HR D₁ HO
  iintro ⟨S₁, R₁, HO⟩
  iapply (waitA I K c (pe c 1) 1 (act_r c 1 (by decide) 1).2 (sem_gr (pe c 1) 1 _ _ (k0_off12_eq c 0)) rfl)
  iframe HR D₂ HO
  iintro ⟨S₂, R₂, HO⟩
  icombine R₁ R₂ as R
  ihave R := Hcols $$ R
  icases R with ⟨C₀, C₁, C₂, C₃⟩
  iapply (turn_col I c 0 (off_place c 0) rfl rfl rfl rfl) $$ C₀; iintro C₀
  iapply (turn_col I c 1 (off_place c 1) rfl rfl rfl rfl) $$ C₁; iintro C₁
  iapply (turn_col I c 2 (off_place c 2) rfl rfl rfl rfl) $$ C₂; iintro C₂
  iapply (turn_col I c 3 (off_place c 3) rfl rfl rfl rfl) $$ C₃; iintro C₃
  simp only [Prog.bind_ret]
  iapply Hk; iframe S₁ S₂ C₀ C₁ C₂ C₃ HO

end

end Cert.KernelIdeal.Mesh
-- ==== Proof.PartG.lean ====
/- The last parts of the body: the copies this device has sent are all waited for. -/
module

public import proofs.«01_k».proof.Proof.PartF

@[expose] public section

noncomputable section

namespace Cert.KernelIdeal.Mesh

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (I : Dev nD → Inp F)

section

variable {α : Type} {Q : α → sProp (MT nD τ sig Unit (Elt F) ℕ UU ℕ)} (K : GSem nD τ sig → ℕ) (c : Dev nD)

/-- What a finished wait leaves. -/
abbrev got (k : CK) : sProp (MT nD τ sig Unit (Elt F) ℕ UU ℕ) := iprop(semVal (cell c k) 0 ∗ ckPay I c k)

/-- A wait, nothing being owed any more. -/
theorem waitSent {sp sp' : Space} {s s' : Shape} {e e' : EltTy} {src : Memref sig .tc sp s e} {dst : Memref sig .tc sp' s' e'} {sem : DmaSem sig}
    {h₁ : src.view.WordExact} {h₂ : dst.view.WordExact} {kont : PUnit → TProg F α} (k : CK) (ha : act c k = true)
    (hs : sem = csem k) (hN : dst.view.dmaCredit = amt k) :
    iprop(Rec I K c ∗ due c k ∗ ow c [] ∗ ((got I c k ∗ ow c []) -∗ WP c (kont ⟨⟩) Q))
      ⊢ WP c (.op (.waitDma2 sem src dst h₁ h₂) kont) Q := by
  iintro ⟨#HR, ⟨Hc, Ha⟩, HO, Hk⟩
  iapply (step_wait I K c k [] _ hs ha hN (le_refl _) (by intro x hx; cases hx))
  iframe HR Hc Ha HO
  iintro ⟨S, P, HO⟩
  iapply Hk; iframe S P HO

/-- The copies of codes and scales, to the device one place after; -/
theorem part44 {kont : _ → TProg F α} (v : BitVec 32) :
    iprop(Rec I K c ∗ due c (.ks 1) ∗ due c (.vs 1) ∗ due c (.ss 1) ∗ ow c []
      ∗ ((got I c (.ks 1) ∗ got I c (.vs 1) ∗ got I c (.ss 1) ∗ ow c []) -∗ WP c (kont (Scalar.remsi v 4#32)) Q))
      ⊢ WP c (ap (k0_part44 (F := F)) c v >>= kont) Q := by
  unfold ap
  rw [k0_part44_eq_skeleton]
  unfold k0_part44_skel
  simp only [Prog.lift, Prog.bind_op, Prog.bind_ret, Prog.pure_eq_ret]
  iintro ⟨#HR, D₁, D₂, D₃, HO, Hk⟩
  iapply (waitSent I K c (.ks 1) rfl (by decide) rfl)
  iframe HR D₁ HO
  iintro ⟨G₁, HO⟩
  iapply (waitSent I K c (.vs 1) rfl (by decide) rfl)
  iframe HR D₂ HO
  iintro ⟨G₂, HO⟩
  iapply (waitSent I K c (.ss 1) rfl (by decide) rfl)
  iframe HR D₃ HO
  iintro ⟨G₃, HO⟩
  iapply Hk; iframe G₁ G₂ G₃ HO

/-- of blocks to it; -/
theorem part45 {kont : _ → TProg F α} (v : BitVec 32) :
    iprop(Rec I K c ∗ due c (.rs 1 0) ∗ due c (.gs 1 0) ∗ due c (.rs 1 1) ∗ ow c []
      ∗ ((got I c (.rs 1 0) ∗ got I c (.gs 1 0) ∗ got I c (.rs 1 1) ∗ ow c []) -∗ WP c (kont ⟨⟩) Q))
      ⊢ WP c (ap (k0_part45 (F := F)) c v >>= kont) Q := by
  unfold ap
  rw [k0_part45_eq_skeleton]
  unfold k0_part45_skel
  simp only [Prog.lift, Prog.bind_op, Prog.bind_ret, Prog.pure_eq_ret]
  iintro ⟨#HR, D₁, D₂, D₃, HO, Hk⟩
  iapply (waitSent I K c (.rs 1 0) rfl (by decide) rfl)
  iframe HR D₁ HO
  iintro ⟨G₁, HO⟩
  iapply (waitSent I K c (.gs 1 0) rfl (by decide) rfl)
  iframe HR D₂ HO
  iintro ⟨G₂, HO⟩
  iapply (waitSent I K c (.rs 1 1) rfl (by decide) rfl)
  iframe HR D₃ HO
  iintro ⟨G₃, HO⟩
  iapply Hk; iframe G₁ G₂ G₃ HO

/-- the last of these, and the copies of codes two places after; -/
theorem part46 {kont : _ → TProg F α} :
    iprop(Rec I K c ∗ due c (.gs 1 1) ∗ due c (.ks 2) ∗ due c (.vs 2) ∗ ow c []
      ∗ ((got I c (.gs 1 1) ∗ got I c (.ks 2) ∗ got I c (.vs 2) ∗ ow c []) -∗ WP c (kont (Scalar.remsi (Scalar.addi (wd c) 2#32) 4#32)) Q))
      ⊢ WP c (ap (k0_part46 (F := F)) c (wd c) >>= kont) Q := by
  unfold ap
  rw [k0_part46_eq_skeleton]
  unfold k0_part46_skel
  simp only [Prog.lift, Prog.bind_op, Prog.bind_ret, Prog.pure_eq_ret]
  iintro ⟨#HR, D₁, D₂, D₃, HO, Hk⟩
  iapply (waitSent I K c (.gs 1 1) rfl (by decide) rfl)
  iframe HR D₁ HO
  iintro ⟨G₁, HO⟩
  iapply (waitSent I K c (.ks 2) rfl (by decide) rfl)
  iframe HR D₂ HO
  iintro ⟨G₂, HO⟩
  iapply (waitSent I K c (.vs 2) rfl (by decide) rfl)
  iframe HR D₃ HO
  iintro ⟨G₃, HO⟩
  iapply Hk; iframe G₁ G₂ G₃ HO

/-- of the scales and of blocks; -/
theorem part47 {kont : _ → TProg F α} (v : BitVec 32) :
    iprop(Rec I K c ∗ due c (.ss 2) ∗ due c (.rs 2 0) ∗ due c (.gs 2 0) ∗ due c (.rs 2 1) ∗ ow c []
      ∗ ((got I c (.ss 2) ∗ got I c (.rs 2 0) ∗ got I c (.gs 2 0) ∗ got I c (.rs 2 1) ∗ ow c []) -∗ WP c (kont ⟨⟩) Q))
      ⊢ WP c (ap (k0_part47 (F := F)) c v >>= kont) Q := by
  unfold ap
  rw [k0_part47_eq_skeleton]
  unfold k0_part47_skel
  simp only [Prog.lift, Prog.bind_op, Prog.bind_ret, Prog.pure_eq_ret]
  iintro ⟨#HR, D₁, D₂, D₃, D₄, HO, Hk⟩
  iapply (waitSent I K c (.ss 2) rfl (by decide) rfl)
  iframe HR D₁ HO
  iintro ⟨G₁, HO⟩
  iapply (waitSent I K c (.rs 2 0) rfl (by decide) rfl)
  iframe HR D₂ HO
  iintro ⟨G₂, HO⟩
  iapply (waitSent I K c (.gs 2 0) rfl (by decide) rfl)
  iframe HR D₃ HO
  iintro ⟨G₃, HO⟩
  iapply (waitSent I K c (.rs 2 1) rfl (by decide) rfl)
  iframe HR D₄ HO
  iintro ⟨G₄, HO⟩
  iapply Hk; iframe G₁ G₂ G₃ G₄ HO

/-- the last of these, and the copies of codes three places after; -/
theorem part48 {kont : _ → TProg F α} :
    iprop(Rec I K c ∗ due c (.gs 2 1) ∗ due c (.ks 3) ∗ due c (.vs 3) ∗ ow c []
      ∗ ((got I c (.gs 2 1) ∗ got I c (.ks 3) ∗ got I c (.vs 3) ∗ ow c []) -∗ WP c (kont (Scalar.remsi (Scalar.addi (wd c) 3#32) 4#32)) Q))
      ⊢ WP c (ap (k0_part48 (F := F)) c (wd c) >>= kont) Q := by
  unfold ap
  rw [k0_part48_eq_skeleton]
  unfold k0_part48_skel
  simp only [Prog.lift, Prog.bind_op, Prog.bind_ret, Prog.pure_eq_ret]
  iintro ⟨#HR, D₁, D₂, D₃, HO, Hk⟩
  iapply (waitSent I K c (.gs 2 1) rfl (by decide) rfl)
  iframe HR D₁ HO
  iintro ⟨G₁, HO⟩
  iapply (waitSent I K c (.ks 3) rfl (by decide) rfl)
  iframe HR D₂ HO
  iintro ⟨G₂, HO⟩
  iapply (waitSent I K c (.vs 3) rfl (by decide) rfl)
  iframe HR D₃ HO
  iintro ⟨G₃, HO⟩
  iapply Hk; iframe G₁ G₂ G₃ HO

/-- of the scales and of two blocks. -/
theorem part49 {kont : _ → TProg F α} (v : BitVec 32) :
    iprop(Rec I K c ∗ due c (.ss 3) ∗ due c (.rs 3 0) ∗ due c (.gs 3 0) ∗ ow c []
      ∗ ((got I c (.ss 3) ∗ got I c (.rs 3 0) ∗ got I c (.gs 3 0) ∗ ow c []) -∗ WP c (kont ⟨⟩) Q))
      ⊢ WP c (ap (k0_part49 (F := F)) c v >>= kont) Q := by
  unfold ap
  rw [k0_part49_eq_skeleton]
  unfold k0_part49_skel
  simp only [Prog.lift, Prog.bind_op, Prog.bind_ret, Prog.pure_eq_ret]
  iintro ⟨#HR, D₁, D₂, D₃, HO, Hk⟩
  iapply (waitSent I K c (.ss 3) rfl (by decide) rfl)
  iframe HR D₁ HO
  iintro ⟨G₁, HO⟩
  iapply (waitSent I K c (.rs 3 0) rfl (by decide) rfl)
  iframe HR D₂ HO
  iintro ⟨G₂, HO⟩
  iapply (waitSent I K c (.gs 3 0) rfl (by decide) rfl)
  iframe HR D₃ HO
  iintro ⟨G₃, HO⟩
  iapply Hk; iframe G₁ G₂ G₃ HO

end

end Cert.KernelIdeal.Mesh
-- ==== Proof.Bundles.lean ====
/- The whole body: its printed parts one after the other. -/
module

public import proofs.«01_k».proof.Proof.PartG

@[expose] public section

noncomputable section

namespace Cert.KernelIdeal.Mesh

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (I : Dev nD → Inp F)

section

variable (c : Dev nD)

/-! The six groups of copy cells that belong to distance `t`: sends of codes and scales, of partial blocks, of finished blocks,
    and the receipts of the same. -/

abbrev sQ (Φ : CK → sProp (MT nD τ sig Unit (Elt F) ℕ UU ℕ)) (t : Fin 4) : sProp (MT nD τ sig Unit (Elt F) ℕ UU ℕ) := iprop(Φ (.ks t) ∗ Φ (.vs t) ∗ Φ (.ss t))
abbrev sR (Φ : CK → sProp (MT nD τ sig Unit (Elt F) ℕ UU ℕ)) (t : Fin 4) : sProp (MT nD τ sig Unit (Elt F) ℕ UU ℕ) := iprop(Φ (.rs t 0) ∗ Φ (.rs t 1))
abbrev sG (Φ : CK → sProp (MT nD τ sig Unit (Elt F) ℕ UU ℕ)) (t : Fin 4) : sProp (MT nD τ sig Unit (Elt F) ℕ UU ℕ) := iprop(Φ (.gs t 0) ∗ Φ (.gs t 1))
abbrev rQ (Φ : CK → sProp (MT nD τ sig Unit (Elt F) ℕ UU ℕ)) (t : Fin 4) : sProp (MT nD τ sig Unit (Elt F) ℕ UU ℕ) := iprop(Φ (.kr t) ∗ Φ (.vr t) ∗ Φ (.sr t))
abbrev rR (Φ : CK → sProp (MT nD τ sig Unit (Elt F) ℕ UU ℕ)) (o : Fin 4) : sProp (MT nD τ sig Unit (Elt F) ℕ UU ℕ) := iprop(Φ (.rr o 0) ∗ Φ (.rr o 1))
abbrev rG (Φ : CK → sProp (MT nD τ sig Unit (Elt F) ℕ UU ℕ)) (o : Fin 4) : sProp (MT nD τ sig Unit (Elt F) ℕ UU ℕ) := iprop(Φ (.gr o 0) ∗ Φ (.gr o 1))

/-- The send cells of distance `t`, with their tokens and positions; -/
abbrev sends (t : Fin 4) : sProp (MT nD τ sig Unit (Elt F) ℕ UU ℕ) :=
  iprop(sQ (tok c) t ∗ sR (tok c) t ∗ sG (tok c) t ∗ sQ (atc c) t ∗ sR (atc c) t ∗ sG (atc c) t)
/-- the receipt cells of the distance `t` and the source `o`, to be waited on; -/
abbrev recvs (t o : Fin 4) : sProp (MT nD τ sig Unit (Elt F) ℕ UU ℕ) := iprop(rQ (due c) t ∗ rR (due c) o ∗ rG (due c) o)
/-- a cell whose semaphore is down again; -/
abbrev zero (k : CK) : sProp (MT nD τ sig Unit (Elt F) ℕ UU ℕ) := semVal (cell c k) 0
/-- all of them after their waits, the gathered blocks apart. -/
abbrev ended (t o : Fin 4) : sProp (MT nD τ sig Unit (Elt F) ℕ UU ℕ) :=
  iprop(sQ (got I c) t ∗ sR (got I c) t ∗ sG (got I c) t ∗ rQ (got I c) t ∗ rR (got I c) o ∗ rG (zero (F := F) c) o)

/-- The barrier cell, the tokens of the three signals and what they hand over. -/
abbrev barIn : sProp (MT nD τ sig Unit (Elt F) ℕ UU ℕ) :=
  iprop((dutyTok ER (barCell (pe c 1)) 0 2 ∗ dutyTok ER (barCell (pe c 2)) 0 1 ∗ dutyTok ER (barCell (pe c 3)) 0 0)
    ∗ (gift c (pe c 1) 3 ∗ gift c (pe c 2) 2 ∗ gift c (pe c 3) 1)
    ∗ cred (tallyAt (barCell c) () 3) ∗ atPos ER (barCell c) 0 ∅ 0 ∗ ow c lB)

/-- The codes for the device `t` places after. -/
abbrev codes (t : ℕ) : sProp (MT nD τ sig Unit (Elt F) ℕ UU ℕ) := iprop(kvP I c 0 (pe c t) ∗ kvP I c 1 (pe c t))
/-- The result's blocks in that device's columns. -/
abbrev spare (t : ℕ) : sProp (MT nD τ sig Unit (Elt F) ℕ UU ℕ) := iprop((∃ f, outP (F := F) c 0 (pe c t) f) ∗ ∃ f, outP (F := F) c 1 (pe c t) f)

/-- What the body starts with in memory, -/
abbrev memIn : sProp (MT nD τ sig Unit (Elt F) ℕ UU ℕ) :=
  iprop((codes I c 1 ∗ codes I c 2 ∗ codes I c 3 ∗ ownCodes I c) ∗ (scP I c 0 ∗ scP I c 1 ∗ scP I c 2 ∗ scP I c 3) ∗ noCodes (F := F) c
    ∗ (xP I c ∗ wqP I c ∗ woP I c) ∗ ((∃ f, pbB (F := F) c 0 f) ∗ ∃ f, pbB (F := F) c 1 f) ∗ (rdU I c 0 0 ∗ rdU I c 1 0)
    ∗ ((∃ f, asP (F := F) c 0 fullShare f) ∗ ∃ f, asP (F := F) c 1 fullShare f) ∗ (outU I c 0 0 ∗ outU I c 1 0) ∗ (spare (F := F) c 1 ∗ spare (F := F) c 2 ∗ spare (F := F) c 3))
/-- and what it ends with there, besides what the waits return. -/
abbrev memOut : sProp (MT nD τ sig Unit (Elt F) ℕ UU ℕ) :=
  iprop(ownCodes I c ∗ scP I c 0 ∗ gotCodes I c ∗ (xP I c ∗ wqP I c ∗ woP I c) ∗ (pbP c 0 c (PB I c) ∗ pbP c 1 c (PB I c))
    ∗ (rdP c 0 (RD I c) ∗ rdP c 1 (RD I c)) ∗ (asP c 0 (sh 0) (AS I c) ∗ asP c 1 (sh 0) (AS I c)))

/-- The own blocks of the result are complete and the gathered ones are there: the columns can be copied out. -/
theorem cols_of : iprop((agP c (pe c 2) 0 (AG I c) ∗ agP c (pe c 2) 1 (AG I c) ∗ agP c (pe c 3) 0 (AG I c) ∗ agP c (pe c 3) 1 (AG I c))
      ∗ (outU I c 0 4 ∗ outU I c 1 4) ∗ (spare (F := F) c 1 ∗ spare (F := F) c 2 ∗ spare (F := F) c 3))
    ⊢ iprop((agP c (pe c 1) 0 (AG I c) ∗ agP c (pe c 1) 1 (AG I c)) -∗ colsB I c) := by
  iintro ⟨⟨A₂, B₂, A₃, B₃⟩, ⟨O₀, O₁⟩, ⟨C₁, D₁⟩, ⟨C₂, D₂⟩, ⟨C₃, D₃⟩⟩ ⟨A₁, B₁⟩
  ihave O₀ := (upto_four c _ _) $$ O₀
  ihave O₁ := (upto_four c _ _) $$ O₁
  icombine O₀ O₁ as O
  ihave O := (out_pair c c (OUT I c)) $$ O
  iapply (Entails.of_eq (four (colB I c)))
  iapply (Entails.of_eq (around c (colB I c)).symm)
  isplitl [O]
  · iapply (show outG c c (OUT I c) ⊢ colB I c c by unfold colB; rw [if_pos rfl])
    iexact O
  isplitl [A₁ B₁ C₁ D₁]
  · iapply (colB_of I c 1 (by decide)); iframe A₁ B₁ C₁ D₁
  isplitl [A₂ B₂ C₂ D₂]
  · iapply (colB_of I c 2 (by decide)); iframe A₂ B₂ C₂ D₂
  · iapply (colB_of I c 3 (by decide)); iframe A₃ B₃ C₃ D₃

end

end Cert.KernelIdeal.Mesh
-- ==== Proof.Body.lean ====
/- The whole body: its printed parts one after the other. -/
module

public import proofs.«01_k».proof.Proof.Bundles

@[expose] public section

noncomputable section

namespace Cert.KernelIdeal.Mesh

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (I : Dev nD → Inp F)

section

variable {α : Type} {Q : α → sProp (MT nD τ sig Unit (Elt F) ℕ UU ℕ)} (K : GSem nD τ sig → ℕ) (c : Dev nD)

/-- All cells of distance `t` and source `o`, put together; the last send may still have to be waited for. -/
theorem ended_all (t o : Fin 4) (P : sProp (MT nD τ sig Unit (Elt F) ℕ UU ℕ)) :
    iprop((got I c (.ks t) ∗ got I c (.vs t) ∗ got I c (.ss t) ∗ got I c (.rs t 0) ∗ got I c (.rs t 1) ∗ got I c (.gs t 0) ∗ P)
        ∗ (zero (F := F) c (.kr t) ∗ gk I c t) ∗ (zero (F := F) c (.vr t) ∗ gv I c t) ∗ (zero (F := F) c (.sr t) ∗ gs I c t)
        ∗ (zero (F := F) c (.rr o 0) ∗ rsP c o 0 (RS I c)) ∗ (zero (F := F) c (.rr o 1) ∗ rsP c o 1 (RS I c)) ∗ rG (zero (F := F) c) o)
      ⊢ iprop(sQ (got I c) t ∗ sR (got I c) t ∗ (got I c (.gs t 0) ∗ P) ∗ rQ (got I c) t ∗ rR (got I c) o ∗ rG (zero (F := F) c) o) := by
  iintro ⟨⟨A, B, C, D, E, G, H⟩, X, Y, Z, U, V, W⟩
  isplitl [A B C]
  · isplitl [A]; · iexact A
    isplitl [B]; · iexact B
    iexact C
  isplitl [D E]
  · isplitl [D]; · iexact D
    iexact E
  isplitl [G H]
  · isplitl [G]; · iexact G
    iexact H
  isplitl [X Y Z]
  · isplitl [X]; · iexact X
    isplitl [Y]; · iexact Y
    iexact Z
  isplitl [U V]
  · isplitl [U]; · iexact U
    iexact V
  iexact W

set_option maxRecDepth 65536 in
/-- Everything up to the last wait: every copy but one is over, and the result is complete. -/
theorem part50 {kont : _ → TProg F α} :
    iprop(Rec I K c ∗ barIn (F := F) c ∗ memIn I c ∗ (sends (F := F) c 1 ∗ sends (F := F) c 2 ∗ sends (F := F) c 3)
      ∗ (recvs (F := F) c 1 (pe c 1) ∗ recvs (F := F) c 2 (pe c 2) ∗ recvs (F := F) c 3 (pe c 3))
      ∗ ((semVal (barCell c) 0 ∗ memOut I c ∗ colsA I c ∗ (ended I c 1 (pe c 1) ∗ ended I c 2 (pe c 2)
          ∗ sQ (got I c) 3 ∗ sR (got I c) 3 ∗ (got I c (.gs 3 0) ∗ due c (.gs 3 1)) ∗ rQ (got I c) 3 ∗ rR (got I c) (pe c 3) ∗ rG (zero (F := F) c) (pe c 3))
          ∗ ow c []) -∗ WP c (kont c) Q))
      ⊢ WP c (ap (k0_part50 (F := F)) >>= kont) Q := by
  unfold ap
  rw [k0_part50_eq_skeleton]
  unfold k0_part50_skel
  simp only [Prog.lift, Prog.bind_assoc, Prog.bind_op, Prog.bind_ret, Prog.pure_eq_ret]
  iintro ⟨#HR, ⟨Hbt, Hbg, Hbc, Hba, HO⟩, ⟨⟨⟨Hk₁, Hv₁⟩, ⟨Hk₂, Hv₂⟩, ⟨Hk₃, Hv₃⟩, Hown⟩, ⟨Hsc₀, Hsc₁, Hsc₂, Hsc₃⟩, Hno, ⟨Hx, Hwq, Hwo⟩, ⟨Hpb₀, Hpb₁⟩, ⟨Hrd₀, Hrd₁⟩, ⟨Has₀, Has₁⟩, ⟨Hou₀, Hou₁⟩, Hspare⟩,
    ⟨⟨⟨tk₁, tv₁, ts₁⟩, ⟨tr₁₀, tr₁₁⟩, ⟨tg₁₀, tg₁₁⟩, ⟨ak₁, av₁, as₁⟩, ⟨ar₁₀, ar₁₁⟩, ⟨ag₁₀, ag₁₁⟩⟩,
     ⟨⟨tk₂, tv₂, ts₂⟩, ⟨tr₂₀, tr₂₁⟩, ⟨tg₂₀, tg₂₁⟩, ⟨ak₂, av₂, as₂⟩, ⟨ar₂₀, ar₂₁⟩, ⟨ag₂₀, ag₂₁⟩⟩,
     ⟨⟨tk₃, tv₃, ts₃⟩, ⟨tr₃₀, tr₃₁⟩, ⟨tg₃₀, tg₃₁⟩, ⟨ak₃, av₃, as₃⟩, ⟨ar₃₀, ar₃₁⟩, ⟨ag₃₀, ag₃₁⟩⟩⟩,
    ⟨⟨⟨dk₁, dv₁, ds₁⟩, ⟨dr₁₀, dr₁₁⟩, ⟨dg₁₀, dg₁₁⟩⟩, ⟨⟨dk₂, dv₂, ds₂⟩, ⟨dr₂₀, dr₂₁⟩, ⟨dg₂₀, dg₂₁⟩⟩, ⟨⟨dk₃, dv₃, ds₃⟩, ⟨dr₃₀, dr₃₁⟩, ⟨dg₃₀, dg₃₁⟩⟩⟩, Hkont⟩
  -- the barrier
  iapply (part1 I K c)
  iframe HR Hbt Hbg Hbc Hba HO
  iintro ⟨Hb, G₁, G₂, G₃, HO⟩
  ihave G₁ := (show barPay (F := F) c 0 ⊢ gift (pe c 1) c 1 from .rfl) $$ G₁
  ihave G₂ := (show barPay (F := F) c 1 ⊢ gift (pe c 2) c 2 from .rfl) $$ G₂
  ihave G₃ := (show barPay (F := F) c 2 ⊢ gift (pe c 3) c 3 from .rfl) $$ G₃
  unfold gift
  icases G₁ with ⟨lk₁, lv₁, ls₁, lr₁₀, lr₁₁, lg₁₀, lg₁₁⟩
  icases G₂ with ⟨lk₂, lv₂, ls₂, lr₂₀, lr₂₁, lg₂₀, lg₂₁⟩
  icases G₃ with ⟨lk₃, lv₃, ls₃, lr₃₀, lr₃₁, lg₃₀, lg₃₁⟩
  -- the codes and scales go out
  iapply (part2 I K c)
  iframe HR Hk₁ Hv₁ Hsc₁ lk₁ lv₁ ls₁ tk₁ tv₁ ts₁ HO
  iintro ⟨ck₁, cv₁, cs₁, HO⟩
  iapply (part3 I K c)
  iframe HR Hk₂ Hv₂ lk₂ lv₂ tk₂ tv₂ HO
  iintro ⟨ck₂, cv₂, HO⟩
  iapply (part4 I K c)
  iframe HR Hsc₂ Hk₃ Hv₃ ls₂ lk₃ lv₃ ts₂ tk₃ tv₃ HO
  iintro ⟨cs₂, ck₃, cv₃, HO⟩
  iapply (part5 I K c)
  iframe HR Hsc₃ ls₃ ts₃ HO Hown Hno Hx Hwq
  iintro ⟨cs₃, HO, Hown, ⟨K₀, V₀⟩, Hx, Hwq⟩
  -- slot 0
  iapply (part6 I c)
  iframe Hsc₀ K₀
  iintro ⟨Hsc₀, K₀⟩
  iapply (part7 I c)
  iframe K₀
  iintro K₀
  iapply (part8 I c)
  iframe K₀
  iintro K₀
  iapply (part9 I c)
  iframe Hsc₀ V₀
  iintro ⟨Hsc₀, V₀⟩
  iapply (part10 I c)
  iframe V₀
  iintro V₀
  -- slot 1
  iapply (part11 I K c)
  iframe HR ds₁ dk₁ HO
  iintro ⟨zs₁, zk₁, S₁, K₁, HO⟩
  iapply (part12 I c)
  iframe K₁
  iintro K₁
  iapply (part13 I c)
  iframe K₁
  iintro K₁
  iapply (part14 I c)
  iframe K₁
  iintro K₁
  iapply (part15 I K c)
  iframe HR dv₁ S₁ HO
  iintro ⟨zv₁, S₁, V₁, HO⟩
  iapply (part16 I c)
  iframe V₁
  iintro V₁
  -- slot 2
  iapply (part17 I K c)
  iframe HR ds₂ dk₂ HO
  iintro ⟨zs₂, zk₂, S₂, K₂, HO⟩
  iapply (part18 I c)
  iframe K₂
  iintro K₂
  iapply (part19 I c)
  iframe K₂
  iintro K₂
  iapply (part20 I c)
  iframe K₂
  iintro K₂
  iapply (part21 I K c)
  iframe HR dv₂ S₂ HO
  iintro ⟨zv₂, S₂, V₂, HO⟩
  iapply (part22 I c)
  iframe V₂
  iintro V₂
  iapply (part23 I K c)
  iframe V₂ HR ds₃ dk₃ HO
  iintro ⟨V₂, zs₃, zk₃, S₃, K₃, HO⟩
  -- slot 3
  iapply (part24 I c)
  iframe K₃
  iintro K₃
  iapply (part25 I c)
  iframe K₃
  iintro K₃
  iapply (part26 I c)
  iframe K₃
  iintro K₃
  iapply (part27 I K c)
  iframe HR dv₃ S₃ HO
  iintro ⟨zv₃, S₃, V₃, HO⟩
  iapply (part28 I c)
  iframe V₃
  iintro V₃
  -- the partial blocks
  iapply (part29 I c)
  iframe V₃ Hwo Hpb₀ Hrd₀
  iintro ⟨V₃, Hwo, Hpb₀, Hrd₀⟩
  ihave Hpb₀ := (Entails.of_eq (pb_split c 0 (PB I c))) $$ Hpb₀
  icases Hpb₀ with ⟨p₀₀, p₁₀, p₂₀, p₃₀⟩
  iapply (part30 I K c)
  iframe HR Hrd₀ p₁₀ lr₁₀ tr₁₀ HO
  iintro ⟨Hrd₀, cr₁₀, HO⟩
  iapply (part31 I K c)
  iframe HR p₂₀ lr₂₀ tr₂₀ p₃₀ lr₃₀ tr₃₀ HO
  iintro ⟨cr₂₀, cr₃₀, HO⟩
  iapply (part32 I c)
  iframe Hpb₁ Hrd₁
  iintro ⟨Hpb₁, Hrd₁⟩
  ihave Hpb₁ := (Entails.of_eq (pb_split c 1 (PB I c))) $$ Hpb₁
  icases Hpb₁ with ⟨p₀₁, p₁₁, p₂₁, p₃₁⟩
  iapply (part33 I K c)
  iframe HR p₁₁ lr₁₁ tr₁₁ p₂₁ lr₂₁ tr₂₁ p₃₁ lr₃₁ tr₃₁ HO
  iintro ⟨cr₁₁, cr₂₁, cr₃₁, HO⟩
  ihave Hrd₀ := (upto_four c _ _) $$ Hrd₀
  ihave Hrd₁ := (upto_four c _ _) $$ Hrd₁
  -- batch 0's finished block
  iapply (part34 I K c)
  iframe HR dr₃₀ dr₂₀ HO
  iintro ⟨r₃₀, r₂₀, HO⟩
  iapply (part35 I K c)
  iframe HR dr₁₀ r₂₀ r₃₀ Hrd₀ Has₀ HO
  iintro ⟨r₁₀, r₂₀, r₃₀, Hrd₀, Has₀, HO⟩
  ihave Has₀ := (as_split c 0 (AS I c)) $$ Has₀
  icases Has₀ with ⟨a₀₀, a₁₀, a₂₀, a₃₀⟩
  iapply (part36 I K c)
  iframe HR Hou₀ a₁₀ lg₁₀ tg₁₀ HO
  iintro ⟨Hou₀, cg₁₀, HO⟩
  iapply (part37 I K c)
  iframe HR a₂₀ lg₂₀ tg₂₀ a₃₀ lg₃₀ tg₃₀ HO
  iintro ⟨cg₂₀, cg₃₀, HO⟩
  -- batch 1's
  iapply (part38 I K c)
  iframe HR dr₃₁ dr₂₁ dr₁₁ Hrd₁ HO
  iintro ⟨r₃₁, r₂₁, r₁₁, Hrd₁, HO⟩
  iapply (part39 I c)
  iframe r₃₁ r₂₁ r₁₁ Has₁ Hou₁
  iintro ⟨r₃₁, r₂₁, r₁₁, Has₁, Hou₁⟩
  ihave Has₁ := (as_split c 1 (AS I c)) $$ Has₁
  icases Has₁ with ⟨a₀₁, a₁₁, a₂₁, a₃₁⟩
  iapply (part40 I K c)
  iframe HR Hou₁ a₁₁ lg₁₁ tg₁₁ a₂₁ lg₂₁ tg₂₁ HO
  iintro ⟨Hou₁, cg₁₁, cg₂₁, HO⟩
  iapply (part41 I K c)
  iframe HR a₃₁ lg₃₁ tg₃₁ dg₃₀ HO
  iintro ⟨cg₃₁, ⟨zg₃₀, A₃₀⟩, HO⟩
  -- the finished blocks arrive
  iapply (part42 I K c)
  iframe HR dg₃₁ dg₂₀ dg₂₁ HO
  iintro ⟨⟨zg₃₁, A₃₁⟩, ⟨zg₂₀, A₂₀⟩, ⟨zg₂₁, A₂₁⟩, HO⟩
  iapply (part43 I K c)
  iframe HR dg₁₀ dg₁₁ HO
  isplitl [A₂₀ A₂₁ A₃₀ A₃₁ Hou₀ Hou₁ Hspare]
  · iapply (cols_of I c)
    iframe A₂₀ A₂₁ A₃₀ A₃₁ Hou₀ Hou₁ Hspare
  iintro ⟨zg₁₀, zg₁₁, Hcols, HO⟩
  -- the sent copies
  iapply (part44 I K c)
  iframe HR ck₁ ak₁ cv₁ av₁ cs₁ as₁ HO
  iintro ⟨ek₁, ev₁, es₁, HO⟩
  iapply (part45 I K c)
  iframe HR cr₁₀ ar₁₀ cg₁₀ ag₁₀ cr₁₁ ar₁₁ HO
  iintro ⟨er₁₀, eg₁₀, er₁₁, HO⟩
  iapply (part46 I K c)
  iframe HR cg₁₁ ag₁₁ ck₂ ak₂ cv₂ av₂ HO
  iintro ⟨eg₁₁, ek₂, ev₂, HO⟩
  iapply (part47 I K c)
  iframe HR cs₂ as₂ cr₂₀ ar₂₀ cg₂₀ ag₂₀ cr₂₁ ar₂₁ HO
  iintro ⟨es₂, er₂₀, eg₂₀, er₂₁, HO⟩
  iapply (part48 I K c)
  iframe HR cg₂₁ ag₂₁ ck₃ ak₃ cv₃ av₃ HO
  iintro ⟨eg₂₁, ek₃, ev₃, HO⟩
  iapply (part49 I K c)
  iframe HR cs₃ as₃ cr₃₀ ar₃₀ cg₃₀ ag₃₀ HO
  iintro ⟨es₃, er₃₀, eg₃₀, HO⟩
  iapply (waitSent I K c (.rs 3 1) rfl (by decide) rfl)
  iframe HR cr₃₁ ar₃₁ HO
  iintro ⟨er₃₁, HO⟩
  iapply Hkont
  isplitl [Hb]; · iexact Hb
  isplitl [Hown Hsc₀ K₀ V₀ Hx Hwq Hwo p₀₀ p₀₁ Hrd₀ Hrd₁ a₀₀ a₀₁]
  · unfold memOut
    iframe Hown Hsc₀ K₀ V₀ Hx Hwq Hwo p₀₀ p₀₁ Hrd₀ Hrd₁ a₀₀ a₀₁
  isplitl [Hcols]; · iexact Hcols
  isplitr [HO]
  · isplitl [ek₁ ev₁ es₁ er₁₀ er₁₁ eg₁₀ eg₁₁ zk₁ K₁ zv₁ V₁ zs₁ S₁ r₁₀ r₁₁ zg₁₀ zg₁₁]
    · iapply (ended_all I c 1 (pe c 1) (got I c (.gs 1 1)))
      iframe ek₁ ev₁ es₁ er₁₀ er₁₁ eg₁₀ eg₁₁ zk₁ K₁ zv₁ V₁ zs₁ S₁ r₁₀ r₁₁ zg₁₀ zg₁₁
    isplitl [ek₂ ev₂ es₂ er₂₀ er₂₁ eg₂₀ eg₂₁ zk₂ K₂ zv₂ V₂ zs₂ S₂ r₂₀ r₂₁ zg₂₀ zg₂₁]
    · iapply (ended_all I c 2 (pe c 2) (got I c (.gs 2 1)))
      iframe ek₂ ev₂ es₂ er₂₀ er₂₁ eg₂₀ eg₂₁ zk₂ K₂ zv₂ V₂ zs₂ S₂ r₂₀ r₂₁ zg₂₀ zg₂₁
    iapply (ended_all I c 3 (pe c 3) (due c (.gs 3 1)))
    iframe ek₃ ev₃ es₃ er₃₀ er₃₁ eg₃₀ cg₃₁ ag₃₁ zk₃ K₃ zv₃ V₃ zs₃ S₃ r₃₀ r₃₁ zg₃₀ zg₃₁
  iexact HO

/-- The whole body: every copy and every wait is over. -/
theorem body_run {Q : PUnit → sProp (MT nD τ sig Unit (Elt F) ℕ UU ℕ)} :
    iprop(Rec I K c ∗ barIn (F := F) c ∗ memIn I c ∗ (sends (F := F) c 1 ∗ sends (F := F) c 2 ∗ sends (F := F) c 3)
      ∗ (recvs (F := F) c 1 (pe c 1) ∗ recvs (F := F) c 2 (pe c 2) ∗ recvs (F := F) c 3 (pe c 3))
      ∗ ((semVal (barCell c) 0 ∗ memOut I c ∗ colsA I c ∗ (ended I c 1 (pe c 1) ∗ ended I c 2 (pe c 2) ∗ ended I c 3 (pe c 3)) ∗ ow c []) -∗ Q ⟨⟩))
      ⊢ WP c (ap (cc0_body (F := F))) Q := by
  unfold ap
  rw [cc0_body_eq_skeleton]
  unfold cc0_body_skel
  simp only [Prog.lift, Prog.bind_op, Prog.bind_ret, Prog.pure_eq_ret]
  iintro ⟨#HR, Hb, Hm, Hs, Hr, Hk⟩
  iapply (part50 I K c)
  iframe HR Hb Hm Hs Hr
  iintro ⟨Hb, Hm, Hc, ⟨E₁, E₂, Q₃, R₃, ⟨G₃, D₃⟩, E₃⟩, HO⟩
  iapply (waitSent I K c (.gs 3 1) rfl (by decide) rfl)
  iframe HR D₃ HO
  iintro ⟨D₃, HO⟩
  unfold WP
  rw [wp_ret]
  imodintro
  iapply Hk
  isplitl [Hb]; · iexact Hb
  isplitl [Hm]; · iexact Hm
  isplitl [Hc]; · iexact Hc
  isplitr [HO]
  · isplitl [E₁]; · iexact E₁
    isplitl [E₂]; · iexact E₂
    isplitl [Q₃]; · iexact Q₃
    isplitl [R₃]; · iexact R₃
    isplitl [G₃ D₃]; · isplitl [G₃]; · iexact G₃
                       iexact D₃
    iexact E₃
  iexact HO

end

end Cert.KernelIdeal.Mesh
-- ==== Proof.Deal.lean ====
/- Handing out and taking back: the cells by distance, the opening of the copy cells, and the whole buffers as the pieces the
   body works on. -/
module

public import proofs.«01_k».proof.Proof.Body

@[expose] public section

noncomputable section

namespace Cert.KernelIdeal.Mesh

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (I : Dev nD → Inp F)

section

variable (K : GSem nD τ sig → ℕ) (c : Dev nD)

/-! ## The cells by distance -/

/-- The copy cells of device `c` that belong to distance `t`. -/
def kth (t : Fin 4) : Fin 14 → CK :=
  ![.ks t, .vs t, .ss t, .rs t 0, .rs t 1, .gs t 0, .gs t 1, .kr t, .vr t, .sr t, .rr (pe c t.val) 0, .rr (pe c t.val) 1,
    .gr (pe c t.val) 0, .gr (pe c t.val) 1]

set_option maxRecDepth 4000 in
/-- Each copy cell belongs to one distance. -/
theorem kth_bij : Function.Bijective fun p : Fin 4 × Fin 14 => kth c p.1 p.2 := by
  refine (Fintype.bijective_iff_injective_and_card _).mpr ⟨?_, by decide +kernel⟩
  have h : ∀ (c : Dev nD) (p q : Fin 4 × Fin 14), kth c p.1 p.2 = kth c q.1 q.2 → p = q := by decide +kernel
  exact fun p q => h c p q

/-- What is had for the cells of distance `t`. -/
abbrev grp (Φ : CK → sProp (MT nD τ sig Unit (Elt F) ℕ UU ℕ)) (t : Fin 4) : sProp (MT nD τ sig Unit (Elt F) ℕ UU ℕ) :=
  iprop(sQ Φ t ∗ sR Φ t ∗ sG Φ t ∗ rQ Φ t ∗ rR Φ (pe c t.val) ∗ rG Φ (pe c t.val))

/-- The fourteen cells that device `c` meets at distance `t`, one after another. -/
theorem grp_eq (Φ : CK → sProp (MT nD τ sig Unit (Elt F) ℕ UU ℕ)) (t : Fin 4) :
    bigSep Finset.univ (fun i => Φ (kth c t i)) = grp c Φ t := by
  rw [bigSep_univ_eq_bigSepL [0, 1, 2, 3, 4, 5, 6, 7, 8, 9, 10, 11, 12, 13] (by decide) (by decide)]
  have h : ∀ A B C : sProp (MT nD τ sig Unit (Elt F) ℕ UU ℕ), iprop((A ∗ B) ∗ C) = iprop(A ∗ B ∗ C) :=
    fun _ _ _ => equiv_iff.mp ⟨sep_assoc, sep_assoc'⟩
  simp only [grp, h]
  rfl

/-- What is had for every copy cell is had distance by distance. -/
theorem by_distance (Φ : CK → sProp (MT nD τ sig Unit (Elt F) ℕ UU ℕ)) :
    bigSep Finset.univ Φ = iprop(grp c Φ 0 ∗ grp c Φ 1 ∗ grp c Φ 2 ∗ grp c Φ 3) := by
  rw [bigSep_univ_equiv (Equiv.ofBijective _ (kth_bij c)) Φ]
  rw [show (fun p : Fin 4 × Fin 14 => Φ (Equiv.ofBijective _ (kth_bij c) p)) = fun p : Fin 4 × Fin 14 => Φ (kth c p.1 p.2) from rfl,
    bigSep_univ_prod (fun p : Fin 4 × Fin 14 => Φ (kth c p.1 p.2)), four]
  simp only [grp_eq]

/-! ## Opening the copy cells -/

/-- A copy cell once opened: its position where it is used, its semaphore still down where it is not. -/
def ready (k : CK) : sProp (MT nD τ sig Unit (Elt F) ℕ UU ℕ) := if act c k then atc c k else zero c k

/-- A dormant cell is opened; one that is not used is closed again. -/
theorem open_cell (k : CK) :
    iprop(cellInv ER (Rd I) (K (cell c k)) (cell c k) ∗ openTok ER (cell c k) ∗ semVal (cell c k) 0)
      ⊢ (|={Set.univ}=> (ready c k ∗ reached ER (cell c k) 0) : sProp (MT nD τ sig Unit (Elt F) ℕ UU ℕ)) := by
  iintro ⟨#HI, Ho, Hv⟩
  imod (Rounds.cell_open ER (Rd I) (g := cell c k) (Set.mem_univ (K (cell c k)))) $$ [Ho Hv] with ⟨Ha, #Hr⟩
  · iframe HI Ho Hv
  unfold ready
  by_cases h : act c k = true
  · rw [if_pos h]
    imodintro
    iframe Ha Hr
  · rw [if_neg h]
    imod (Rounds.cell_close ER (Rd I) (g := cell c k) (Set.mem_univ (K (cell c k))) id (R := 0)
      (fun r _ => duties_idle I c k (Bool.eq_false_iff.mpr h) r)) $$ [Ha] with Hv
    · iframe HI Ha
    imodintro
    iframe Hv Hr

/-- All the copy cells of a device are opened. -/
theorem open_cells :
    iprop(records I K ∗ (bigSep Finset.univ fun k => openTok ER (cell c k)) ∗ bigSep Finset.univ fun k => semVal (cell c k) 0)
      ⊢ (|={Set.univ}=> (bigSep Finset.univ (ready c) ∗ bigSep Finset.univ fun k => reached ER (cell c k) 0)
          : sProp (MT nD τ sig Unit (Elt F) ℕ UU ℕ)) := by
  iintro ⟨#HI, Ho, Hv⟩
  imod ((bigSep_with_persistent (S := Finset.univ) (R := records I K)
      (Φ := fun k : CK => iprop(openTok ER (cell c k) ∗ semVal (cell c k) 0))
      (Ψ := fun k => iprop(|={Set.univ}=> (ready c k ∗ reached ER (cell c k) 0)))
      (fun k _ => (sep_mono_left (inv_of I K (cell_mem c k))).trans (open_cell I K c k))).trans (bigSep_fupd _ _)) $$ [Ho Hv] with H
  · isplitr; · iexact HI
    iapply (Entails.of_eq (bigSep_sep' Finset.univ (fun k : CK => openTok ER (cell c k)) (fun k => semVal (cell c k) 0)).symm); iframe Ho Hv
  imodintro
  iapply (Entails.of_eq (bigSep_sep' Finset.univ (ready c) (fun k => reached ER (cell c k) 0))) $$ H

/-- The cells of distance 0 are idle, -/
theorem ready_idle : grp c (ready (F := F) c) 0 = grp c (zero (F := F) c) 0 := by
  have h : ∀ b : Fin 2, act c (.rr (pe c (0 : Fin 4).val) b) = false ∧ act c (.gr (pe c (0 : Fin 4).val) b) = false := by revert c; decide
  unfold grp sQ sR sG rQ rR rG ready
  rw [(h 0).1, (h 1).1, (h 0).2, (h 1).2]
  rfl

/-- those of the others are in use. -/
theorem ready_used (t : Fin 4) (ht : t ≠ 0) : grp c (ready (F := F) c) t = grp c (atc (F := F) c) t := by
  have h : act c (.ks t) = true := decide_eq_true ht
  unfold grp sQ sR sG rQ rR rG ready
  rw [(act_r c t ht 0).1, (act_r c t ht 1).1, (act_r c t ht 0).2, (act_r c t ht 1).2]
  simp only [show act c (.ks t) = true from h, show act c (.vs t) = true from h, show act c (.ss t) = true from h,
    show act c (.kr t) = true from h, show act c (.vr t) = true from h, show act c (.sr t) = true from h,
    show ∀ b, act c (.rs t b) = true from fun _ => h, show ∀ b, act c (.gs t b) = true from fun _ => h, if_true]

end

end Cert.KernelIdeal.Mesh
-- ==== Proof.Pieces.lean ====
/- The whole buffers as the pieces the body works on, and back. -/
module

public import proofs.«01_k».proof.Proof.Deal

@[expose] public section

noncomputable section

namespace Cert.KernelIdeal.Mesh

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (I : Dev nD → Inp F)

section

variable (c : Dev nD)

/-! ## Slabs of a whole buffer -/

/-- A whole buffer is its slabs, -/
theorem slabs {κ : Type} [Fintype κ] [DecidableEq κ] (ℓ : Loc nD τ sig) (key : Idx ℓ → κ) (q : PosShare TreeShare) (f : Buf (Elt F) ℓ) :
    (ℓ ↦{q} f : sProp (MT nD τ sig Unit (Elt F) ℕ UU ℕ)) = bigSep Finset.univ fun k => ℓ ↦[slab key k]{q} f :=
  by rw [← pointsTo_biUnion Finset.univ (slab key) (fun k _ k' _ h => slab_disj key k k' h), slab_cover]

/-- also at contents not chosen, -/
theorem any_slabs {κ : Type} [Fintype κ] [DecidableEq κ] (ℓ : Loc nD τ sig) (key : Idx ℓ → κ) :
    iprop(∃ f : Buf (Elt F) ℓ, ℓ ↦{fullShare} f)
      ⊢ (bigSep Finset.univ fun k => iprop(∃ f : Buf (Elt F) ℓ, ℓ ↦[slab key k]{fullShare} f) : sProp (MT nD τ sig Unit (Elt F) ℕ UU ℕ)) := by
  iintro ⟨%f, H⟩
  iapply (show (bigSep Finset.univ fun k => ℓ ↦[slab key k]{fullShare} f)
    ⊢ (bigSep Finset.univ fun k => iprop(∃ f : Buf (Elt F) ℓ, ℓ ↦[slab key k]{fullShare} f) : sProp (MT nD τ sig Unit (Elt F) ℕ UU ℕ))
    from bigSep_mono fun k _ => exists_intro (Φ := fun f : Buf (Elt F) ℓ => (ℓ ↦[slab key k]{fullShare} f : sProp (MT nD τ sig Unit (Elt F) ℕ UU ℕ))) f)
  iapply (Entails.of_eq (slabs ℓ key fullShare f)) $$ H

/-- and slabs at contents of their own make up the buffer. -/
theorem slabs_any {κ : Type} [Fintype κ] [DecidableEq κ] (ℓ : Loc nD τ sig) (key : Idx ℓ → κ) (f₀ : Buf (Elt F) ℓ) :
    (bigSep Finset.univ fun k => iprop(∃ f : Buf (Elt F) ℓ, ℓ ↦[slab key k]{fullShare} f) : sProp (MT nD τ sig Unit (Elt F) ℕ UU ℕ))
      ⊢ iprop(∃ f : Buf (Elt F) ℓ, ℓ ↦{fullShare} f) :=
  by
  have : Nonempty (Buf (Elt F) ℓ) := ⟨f₀⟩
  refine (bigSep_exists_pi Finset.univ (fun k (f : Buf (Elt F) ℓ) => (ℓ ↦[slab key k]{fullShare} f : sProp (MT nD τ sig Unit (Elt F) ℕ UU ℕ)))).trans ?_
  iintro ⟨%fs, H⟩
  icases (pointsTo_biUnion_join Finset.univ (slab key) fs f₀ (fun k _ k' _ h => slab_disj key k k' h)) $$ H with ⟨%g, -, H⟩
  rw [slab_cover]
  iexists g; iexact H

/-- Both batches. -/
theorem two (Φ : Fin 2 → sProp (MT nD τ sig Unit (Elt F) ℕ UU ℕ)) : bigSep Finset.univ Φ = iprop(Φ 0 ∗ Φ 1) :=
  bigSep_univ_eq_bigSepL [0, 1] (by decide) (by decide) Φ

/-- Every source and batch, from device `c` on. -/
theorem around_two (Φ : Fin 4 × Fin 2 → sProp (MT nD τ sig Unit (Elt F) ℕ UU ℕ)) :
    bigSep Finset.univ Φ = iprop((Φ (c, 0) ∗ Φ (c, 1)) ∗ (Φ (pe c 1, 0) ∗ Φ (pe c 1, 1)) ∗ (Φ (pe c 2, 0) ∗ Φ (pe c 2, 1)) ∗ (Φ (pe c 3, 0) ∗ Φ (pe c 3, 1))) := by
  rw [bigSep_univ_prod Φ, around c]
  simp only [two]

/-- Both rows and every column block, from device `c` on. -/
theorem two_around (Φ : Fin 2 × Fin 4 → sProp (MT nD τ sig Unit (Elt F) ℕ UU ℕ)) :
    bigSep Finset.univ Φ = iprop((Φ (0, c) ∗ Φ (0, pe c 1) ∗ Φ (0, pe c 2) ∗ Φ (0, pe c 3)) ∗ (Φ (1, c) ∗ Φ (1, pe c 1) ∗ Φ (1, pe c 2) ∗ Φ (1, pe c 3))) := by
  rw [bigSep_univ_prod Φ, two]
  simp only [around c]

/-! ## Each buffer -/

/-- The codes by key or value and the place of their heads. -/
theorem kv_split : (kvM.view.loc (c : Thread nD τ) ↦{fullShare} (I c).kv : sProp (MT nD τ sig Unit (Elt F) ℕ UU ℕ))
    = iprop((kvP I c 0 c ∗ kvP I c 0 (pe c 1) ∗ kvP I c 0 (pe c 2) ∗ kvP I c 0 (pe c 3)) ∗ (kvP I c 1 c ∗ kvP I c 1 (pe c 1) ∗ kvP I c 1 (pe c 2) ∗ kvP I c 1 (pe c 3))) :=
  (slabs (kvM.view.loc (c : Thread nD τ)) vKey fullShare (I c).kv).trans (two_around c _)

/-- A whole buffer in the four shares. -/
theorem shares (ℓ : Loc nD τ sig) (S : Finset (Idx ℓ)) (f : Buf (Elt F) ℓ) :
    (ℓ ↦[S]{fullShare} f : sProp (MT nD τ sig Unit (Elt F) ℕ UU ℕ)) = iprop((ℓ ↦[S]{sh 0} f) ∗ (ℓ ↦[S]{sh 1} f) ∗ (ℓ ↦[S]{sh 2} f) ∗ (ℓ ↦[S]{sh 3} f)) := by
  have cut : ∀ q : PosShare TreeShare, (ℓ ↦[S]{q} f : sProp (MT nD τ sig Unit (Elt F) ℕ UU ℕ)) = iprop((ℓ ↦[S]{q.left} f) ∗ (ℓ ↦[S]{q.right} f)) :=
    fun q => equiv_iff.mp ⟨(pointsTo_share (PosShare.mem_left_op_right q)).1, (pointsTo_share (PosShare.mem_left_op_right q)).2⟩
  rw [cut fullShare, cut fullShare.left, cut fullShare.right]
  exact equiv_iff.mp ⟨sep_assoc, sep_assoc'⟩

/-- The device's scales in four shares, three of them for the copies. -/
theorem sc_split : (scM.view.loc (c : Thread nD τ) ↦{fullShare} (I c).sc : sProp (MT nD τ sig Unit (Elt F) ℕ UU ℕ))
    = iprop(scP I c 0 ∗ scP I c 1 ∗ scP I c 2 ∗ scP I c 3) := shares _ _ _

/-- A batch of what was sent, its four shares back together. -/
theorem as_join (b : Fin 2) (f : S2x128x128.Idx → F .bf16) :
    iprop(asP c b (sh 0) f ∗ asP c b (sh 1) f ∗ asP c b (sh 2) f ∗ asP c b (sh 3) f) ⊢ asP c b fullShare f :=
  Entails.of_eq (shares _ _ _).symm

/-- Two batch entries of a slot of the all-gather's buffer are the slot, whatever they hold. -/
theorem ag_any (o : Fin 4) : iprop((∃ f, agP (F := F) c o 0 f) ∗ ∃ f, agP (F := F) c o 1 f) ⊢ iprop(∃ f, agO (F := F) c o f) := by
  iintro ⟨⟨%f, H0⟩, ⟨%f', H1⟩⟩
  icombine H0 H1 as H
  ihave H := (pointsTo_join (slab_disj rKey _ _ (fun e => absurd (congrArg Prod.snd e) (by decide : ¬ ((0 : Fin 2) = 1))))) $$ H
  rw [ag_union]
  iexists _; iexact H

/-- The column blocks copied out are the whole result, beside the gathered blocks they came from. -/
theorem cols_out : colsA I c ⊢ iprop((outM.view.loc (c : Thread nD τ) ↦{fullShare} OUT I c)
    ∗ agO c (pe c 1) (AG I c) ∗ agO c (pe c 2) (AG I c) ∗ agO c (pe c 3) (AG I c)) := by
  have h₁ : pe c 1 ≠ c := by revert c; decide
  have h₂ : pe c 2 ≠ c := by revert c; decide
  have h₃ : pe c 3 ≠ c := by revert c; decide
  have own : colA I c c = outG c c (OUT I c) := if_pos rfl
  have oth : ∀ n : ℕ, pe c n ≠ c → colA I c (pe c n) = iprop(agO c (pe c n) (AG I c) ∗ outG c (pe c n) (OUT I c)) :=
    fun n hn => if_neg hn
  unfold colsA
  rw [← four (colA I c), around c, own, oth 1 h₁, oth 2 h₂, oth 3 h₃]
  iintro ⟨O₀, ⟨A₁, O₁⟩, ⟨A₂, O₂⟩, A₃, O₃⟩
  isplitl [O₀ O₁ O₂ O₃]
  · iapply (Entails.of_eq ((slabs (outM.view.loc (c : Thread nD τ)) gKey fullShare (OUT I c)).trans (around c _)).symm)
    iframe O₀ O₁ O₂ O₃
  · iframe A₁ A₂ A₃

/-! ## All of them -/

/-- The scratch buffers, each whole at contents not chosen. -/
abbrev scratch : sProp (MT nD τ sig Unit (Elt F) ℕ UU ℕ) :=
  iprop((∃ f, kgM.view.loc (c : Thread nD τ) ↦{fullShare} (f : S4x4x2x128x64.Idx → BitVec 8))
    ∗ (∃ f, vgM.view.loc (c : Thread nD τ) ↦{fullShare} (f : S4x4x2x128x64.Idx → BitVec 8))
    ∗ (∃ f, sgM.view.loc (c : Thread nD τ) ↦{fullShare} (f : S4x2x128.Idx → F .f32))
    ∗ (∃ f, pbM.view.loc (c : Thread nD τ) ↦{fullShare} (f : S2x128x512.Idx → F .bf16))
    ∗ (∃ f, rsM.view.loc (c : Thread nD τ) ↦{fullShare} (f : S4x2x128x128.Idx → F .bf16))
    ∗ (∃ f, rdM.view.loc (c : Thread nD τ) ↦{fullShare} (f : S2x128x128.Idx → F .f32))
    ∗ (∃ f, asM.view.loc (c : Thread nD τ) ↦{fullShare} (f : S2x128x128.Idx → F .bf16))
    ∗ (∃ f, agM.view.loc (c : Thread nD τ) ↦{fullShare} (f : S4x2x128x128.Idx → F .bf16)))

/-- The staged operands. -/
abbrev staged : sProp (MT nD τ sig Unit (Elt F) ℕ UU ℕ) :=
  iprop(xP I c ∗ wqP I c ∗ (kvM.view.loc (c : Thread nD τ) ↦{fullShare} (I c).kv) ∗ woP I c ∗ (scM.view.loc (c : Thread nD τ) ↦{fullShare} (I c).sc))

/-- The places of copy cells that no copy goes to. -/
abbrev unused : sProp (MT nD τ sig Unit (Elt F) ℕ UU ℕ) := iprop(space (F := F) c (.sr 0) ∗ rR (space (F := F) c) c ∗ rG (space (F := F) c) c)

/-- The places for the copies of the device at `o`, at distance `t` before. -/
abbrev places (t o : Fin 4) : sProp (MT nD τ sig Unit (Elt F) ℕ UU ℕ) := iprop(rQ (space (F := F) c) t ∗ rR (space (F := F) c) o ∗ rG (space (F := F) c) o)

/-- What the waits of one distance return. -/
abbrev back (t o : Fin 4) : sProp (MT nD τ sig Unit (Elt F) ℕ UU ℕ) :=
  iprop(sQ (ckPay I c) t ∗ sR (ckPay I c) t ∗ sG (ckPay I c) t ∗ rQ (ckPay I c) t ∗ rR (ckPay I c) o)

/-- The buffers of a device, cut as the body wants them. -/
theorem mem_in : iprop(staged I c ∗ (∃ f, outM.view.loc (c : Thread nD τ) ↦{fullShare} (f : S2x128x512.Idx → F .f32)) ∗ scratch (F := F) c)
    ⊢ iprop(memIn I c ∗ (places (F := F) c 1 (pe c 1) ∗ places (F := F) c 2 (pe c 2) ∗ places (F := F) c 3 (pe c 3)) ∗ unused (F := F) c) := by
  unfold staged
  rw [kv_split, sc_split]
  unfold scratch
  iintro ⟨⟨Hx, Hq, ⟨⟨V₀, V₁, V₂, V₃⟩, W₀, W₁, W₂, W₃⟩, Ho, S⟩, O, KG, VG, SG, PB, RS, RD, AS, AG⟩
  ihave O := ((any_slabs (outM.view.loc (c : Thread nD τ)) pKey).trans (Entails.of_eq (two_around c _))) $$ O
  icases O with ⟨⟨O₀, O₁, O₂, O₃⟩, P₀, P₁, P₂, P₃⟩
  ihave KG := ((any_slabs (kgM.view.loc (c : Thread nD τ)) kKey).trans (Entails.of_eq (four _))) $$ KG
  icases KG with ⟨K₀, K₁, K₂, K₃⟩
  ihave VG := ((any_slabs (vgM.view.loc (c : Thread nD τ)) kKey).trans (Entails.of_eq (four _))) $$ VG
  icases VG with ⟨G₀, G₁, G₂, G₃⟩
  ihave SG := ((any_slabs (sgM.view.loc (c : Thread nD τ)) sKey).trans (Entails.of_eq (four _))) $$ SG
  icases SG with ⟨S₀, S₁, S₂, S₃⟩
  ihave PB := ((any_slabs (pbM.view.loc (c : Thread nD τ)) bKey).trans (Entails.of_eq (two _))) $$ PB
  ihave RS := ((any_slabs (rsM.view.loc (c : Thread nD τ)) rKey).trans (Entails.of_eq (around_two c _))) $$ RS
  icases RS with ⟨R₀, R₁, R₂, R₃⟩
  ihave RD := ((any_slabs (rdM.view.loc (c : Thread nD τ)) aKey).trans (Entails.of_eq (two _))) $$ RD
  icases RD with ⟨D₀, D₁⟩
  ihave AS := ((any_slabs (asM.view.loc (c : Thread nD τ)) aKey).trans (Entails.of_eq (two _))) $$ AS
  ihave AG := ((any_slabs (agM.view.loc (c : Thread nD τ)) rKey).trans (Entails.of_eq (around_two c _))) $$ AG
  icases AG with ⟨A₀, A₁, A₂, A₃⟩
  ihave D₀ := (upto_zero c (rdP c 0 (RD I c)) iprop(∃ f, rdP (F := F) c 0 f)) $$ D₀
  ihave D₁ := (upto_zero c (rdP c 1 (RD I c)) iprop(∃ f, rdP (F := F) c 1 f)) $$ D₁
  ihave O₀ := (upto_zero c (outP c 0 c (OUT I c)) iprop(∃ f, outP (F := F) c 0 c f)) $$ O₀
  ihave P₀ := (upto_zero c (outP c 1 c (OUT I c)) iprop(∃ f, outP (F := F) c 1 c f)) $$ P₀
  isplitr [K₁ K₂ K₃ G₁ G₂ G₃ S₀ S₁ S₂ S₃ R₀ R₁ R₂ R₃ A₀ A₁ A₂ A₃]
  · unfold memIn codes ownCodes noCodes spare rdU outU
    iframe V₁ W₁ V₂ W₂ V₃ W₃ V₀ W₀ S K₀ G₀ Hx Hq Ho PB D₀ D₁ AS O₀ P₀ O₁ P₁ O₂ P₂ O₃ P₃
  isplitr [S₀ R₀ A₀]
  · unfold places rQ rR rG space
    iframe K₁ G₁ S₁ R₁ A₁ K₂ G₂ S₂ R₂ A₂ K₃ G₃ S₃ R₃ A₃
  · unfold unused rR rG space
    iframe S₀ R₀ A₀

/-- The pieces after the body make up the buffers: the operands as they were, the result complete. -/
theorem mem_out : iprop(memOut I c ∗ colsA I c ∗ (back I c 1 (pe c 1) ∗ back I c 2 (pe c 2) ∗ back I c 3 (pe c 3)) ∗ unused (F := F) c)
    ⊢ iprop(staged I c ∗ (outM.view.loc (c : Thread nD τ) ↦{fullShare} OUT I c) ∗ scratch (F := F) c) := by
  unfold memOut ownCodes gotCodes back unused sQ sR sG rQ rR rG ckPay space
  iintro ⟨⟨⟨V₀, W₀⟩, S₀, ⟨K₀, G₀⟩, ⟨Hx, Hq, Ho⟩, ⟨B₀, C₀⟩, RD, A₀, Z₀⟩, O,
    ⟨⟨⟨V₁, W₁, S₁⟩, ⟨B₁, C₁⟩, ⟨A₁, Z₁⟩, ⟨K₁, G₁, T₁⟩, R₁, U₁⟩, ⟨⟨V₂, W₂, S₂⟩, ⟨B₂, C₂⟩, ⟨A₂, Z₂⟩, ⟨K₂, G₂, T₂⟩, R₂, U₂⟩,
      ⟨V₃, W₃, S₃⟩, ⟨B₃, C₃⟩, ⟨A₃, Z₃⟩, ⟨K₃, G₃, T₃⟩, R₃, U₃⟩, ⟨%tf, T₀⟩, R₀, AG₀⟩
  ihave O := (cols_out I c) $$ O
  icases O with ⟨O, AG₁, AG₂, AG₃⟩
  isplitl [V₀ V₁ V₂ V₃ W₀ W₁ W₂ W₃ S₀ S₁ S₂ S₃ Hx Hq Ho]
  · unfold staged
    rw [kv_split, sc_split]
    iframe Hx Hq V₀ V₁ V₂ V₃ W₀ W₁ W₂ W₃ Ho S₀ S₁ S₂ S₃
  isplitl [O]; · iexact O
  unfold scratch
  isplitl [K₀ K₁ K₂ K₃]
  · iexists (KG I c)
    iapply (Entails.of_eq ((slabs (kgM.view.loc (c : Thread nD τ)) kKey fullShare (KG I c)).trans (four _)).symm)
    iframe K₀ K₁ K₂ K₃
  isplitl [G₀ G₁ G₂ G₃]
  · iexists (VG I c)
    iapply (Entails.of_eq ((slabs (vgM.view.loc (c : Thread nD τ)) kKey fullShare (VG I c)).trans (four _)).symm)
    iframe G₀ G₁ G₂ G₃
  isplitl [T₀ T₁ T₂ T₃]
  · iapply ((Entails.of_eq (four _).symm).trans (slabs_any (sgM.view.loc (c : Thread nD τ)) sKey (SG I c)))
    isplitl [T₀]; · iexists tf; iexact T₀
    isplitl [T₁]; · iexists (SG I c); iexact T₁
    isplitl [T₂]; · iexists (SG I c); iexact T₂
    iexists (SG I c); iexact T₃
  isplitl [B₀ B₁ B₂ B₃ C₀ C₁ C₂ C₃]
  · iexists (PB I c)
    iapply (Entails.of_eq ((slabs (pbM.view.loc (c : Thread nD τ)) pKey fullShare (PB I c)).trans (two_around c _)).symm)
    iframe B₀ B₁ B₂ B₃ C₀ C₁ C₂ C₃
  isplitl [R₀ R₁ U₁ R₂ U₂ R₃ U₃]
  · have any : ∀ (o : Fin 4) (b : Fin 2), rsP c o b (RS I c) ⊢ iprop(∃ f, rsP (F := F) c o b f) :=
      fun o b => exists_intro (Φ := fun f => rsP (F := F) c o b f) (RS I c)
    iapply ((Entails.of_eq (around_two c _).symm).trans (slabs_any (rsM.view.loc (c : Thread nD τ)) rKey (RS I c)))
    isplitl [R₀]; · iexact R₀
    isplitl [R₁ U₁]
    · isplitl [R₁]
      · iapply (any (pe c 1) 0) $$ R₁
      · iapply (any (pe c 1) 1) $$ U₁
    isplitl [R₂ U₂]
    · isplitl [R₂]
      · iapply (any (pe c 2) 0) $$ R₂
      · iapply (any (pe c 2) 1) $$ U₂
    isplitl [R₃]
    · iapply (any (pe c 3) 0) $$ R₃
    · iapply (any (pe c 3) 1) $$ U₃
  isplitl [RD]
  · iexists (RD I c)
    iapply (Entails.of_eq ((slabs (rdM.view.loc (c : Thread nD τ)) aKey fullShare (RD I c)).trans (two _)).symm) $$ RD
  isplitl [A₀ A₁ A₂ A₃ Z₀ Z₁ Z₂ Z₃]
  · iexists (AS I c)
    iapply (Entails.of_eq ((slabs (asM.view.loc (c : Thread nD τ)) aKey fullShare (AS I c)).trans (two _)).symm)
    isplitl [A₀ A₁ A₂ A₃]
    · iapply (as_join c 0 (AS I c)); iframe A₀ A₁ A₂ A₃
    · iapply (as_join c 1 (AS I c)); iframe Z₀ Z₁ Z₂ Z₃
  · have any : ∀ o : Fin 4, agO c o (AG I c) ⊢ iprop(∃ f, agO (F := F) c o f) :=
      fun o => exists_intro (Φ := fun f => agO (F := F) c o f) (AG I c)
    iapply ((Entails.of_eq (around c _).symm).trans (slabs_any (agM.view.loc (c : Thread nD τ)) oKey (AG I c)))
    isplitl [AG₀]; · iapply (ag_any (F := F) c c) $$ AG₀
    isplitl [AG₁]; · iapply (any (pe c 1)) $$ AG₁
    isplitl [AG₂]; · iapply (any (pe c 2)) $$ AG₂
    iapply (any (pe c 3)) $$ AG₃

end

end Cert.KernelIdeal.Mesh
-- ==== Proof.Device.lean ====
/- One device over its whole body: from the opened cells and whole buffers to whole buffers and cells at rest. -/
module

public import proofs.«01_k».proof.Proof.Pieces

@[expose] public section

noncomputable section

namespace Cert.KernelIdeal.Mesh

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (I : Dev nD → Inp F)

section

variable (c : Dev nD)

/-- The copy cells on which the device at distance `t` makes copies arrive. -/
abbrev arrive (Φ : CK → sProp (MT nD τ sig Unit (Elt F) ℕ UU ℕ)) (t : Fin 4) : sProp (MT nD τ sig Unit (Elt F) ℕ UU ℕ) :=
  iprop(rQ Φ t ∗ rR Φ (pe c t.val) ∗ rG Φ (pe c t.val))

/-- What a device has of the protocol when its body starts. -/
def start (c : Dev nD) : sProp (MT nD τ sig Unit (Elt F) ℕ UU ℕ) :=
  iprop(∃ K, Rec I K c ∗ (dutyTok ER (barCell (pe c 1)) 0 2 ∗ dutyTok ER (barCell (pe c 2)) 0 1 ∗ dutyTok ER (barCell (pe c 3)) 0 0)
    ∗ cred (tallyAt (barCell c) () 3) ∗ atPos ER (barCell c) 0 ∅ 0 ∗ bigSep Finset.univ (ready (F := F) c) ∗ bigSep Finset.univ (tok (F := F) c)
    ∗ arrive c (crd (F := F) c) 1 ∗ arrive c (crd (F := F) c) 2 ∗ arrive c (crd (F := F) c) 3)

/-- A place with its duty is a landing: its cell is open. -/
theorem land_of (K : GSem nD τ sig → ℕ) (k : CK) : iprop(Rec I K c ∗ space (F := F) c k ∗ tok (F := F) c k) ⊢ land (F := F) c k := by
  unfold land
  iintro ⟨#HR, Hs, Ht⟩
  isplitl [Hs]; · iexact Hs
  isplitl [Ht]; · iexact Ht
  iapply (Rec_open I K c k); iexact HR

/-- The gift to the device at `o`: the places for its codes, at distance `t`, and for its blocks. -/
theorem gift_of (K : GSem nD τ sig → ℕ) (t o : Fin 4) :
    iprop(Rec I K c ∗ (rQ (space (F := F) c) t ∗ rR (space (F := F) c) o ∗ rG (space (F := F) c) o)
      ∗ rQ (tok (F := F) c) t ∗ rR (tok (F := F) c) o ∗ rG (tok (F := F) c) o) ⊢ gift (F := F) c o t := by
  unfold gift
  iintro ⟨#HR, ⟨⟨A₁, A₂, A₃⟩, ⟨A₄, A₅⟩, A₆, A₇⟩, ⟨B₁, B₂, B₃⟩, ⟨B₄, B₅⟩, B₆, B₇⟩
  isplitl [A₁ B₁]; · iapply (land_of I c K (.kr t)); iframe HR A₁ B₁
  isplitl [A₂ B₂]; · iapply (land_of I c K (.vr t)); iframe HR A₂ B₂
  isplitl [A₃ B₃]; · iapply (land_of I c K (.sr t)); iframe HR A₃ B₃
  isplitl [A₄ B₄]; · iapply (land_of I c K (.rr o 0)); iframe HR A₄ B₄
  isplitl [A₅ B₅]; · iapply (land_of I c K (.rr o 1)); iframe HR A₅ B₅
  isplitl [A₆ B₆]; · iapply (land_of I c K (.gr o 0)); iframe HR A₆ B₆
  iapply (land_of I c K (.gr o 1)); iframe HR A₇ B₇

/-- The cells to be waited on: credit and position, cell by cell. -/
theorem recvs_of (t o : Fin 4) :
    iprop((rQ (crd (F := F) c) t ∗ rR (crd (F := F) c) o ∗ rG (crd (F := F) c) o) ∗ rQ (atc (F := F) c) t ∗ rR (atc (F := F) c) o ∗ rG (atc (F := F) c) o)
      ⊢ recvs (F := F) c t o := by
  iintro ⟨⟨⟨A₁, A₂, A₃⟩, ⟨A₄, A₅⟩, A₆, A₇⟩, ⟨B₁, B₂, B₃⟩, ⟨B₄, B₅⟩, B₆, B₇⟩
  isplitl [A₁ A₂ A₃ B₁ B₂ B₃]
  · isplitl [A₁ B₁]; · iframe A₁ B₁
    isplitl [A₂ B₂]; · iframe A₂ B₂
    iframe A₃ B₃
  isplitl [A₄ A₅ B₄ B₅]
  · isplitl [A₄ B₄]; · iframe A₄ B₄
    iframe A₅ B₅
  isplitl [A₆ B₆]; · iframe A₆ B₆
  iframe A₇ B₇

/-- The send cells: tokens and positions. -/
theorem sends_of (t : Fin 4) : iprop((sQ (tok (F := F) c) t ∗ sR (tok (F := F) c) t ∗ sG (tok (F := F) c) t)
    ∗ sQ (atc (F := F) c) t ∗ sR (atc (F := F) c) t ∗ sG (atc (F := F) c) t) ⊢ sends (F := F) c t := by
  iintro ⟨⟨A, B, C⟩, D, E, G⟩
  isplitl [A]; · iexact A
  isplitl [B]; · iexact B
  isplitl [C]; · iexact C
  isplitl [D]; · iexact D
  isplitl [E]; · iexact E
  iexact G

/-- What the waits of one distance returned: cells at rest, and the pieces. -/
theorem ended_split (t o : Fin 4) : ended I c t o ⊢
    iprop((sQ (zero (F := F) c) t ∗ sR (zero (F := F) c) t ∗ sG (zero (F := F) c) t ∗ rQ (zero (F := F) c) t ∗ rR (zero (F := F) c) o ∗ rG (zero (F := F) c) o)
      ∗ back I c t o) := by
  iintro ⟨⟨⟨A₁, B₁⟩, ⟨A₂, B₂⟩, A₃, B₃⟩, ⟨⟨A₄, B₄⟩, A₅, B₅⟩, ⟨⟨A₆, B₆⟩, A₇, B₇⟩, ⟨⟨A₈, B₈⟩, ⟨A₉, B₉⟩, C₁, D₁⟩, ⟨⟨C₂, D₂⟩, C₃, D₃⟩, G⟩
  isplitl [A₁ A₂ A₃ A₄ A₅ A₆ A₇ A₈ A₉ C₁ C₂ C₃ G]
  · iframe A₁ A₂ A₃ A₄ A₅ A₆ A₇ A₈ A₉ C₁ C₂ C₃ G
  · unfold back
    iframe B₁ B₂ B₃ B₄ B₅ B₆ B₇ B₈ B₉ D₁ D₂ D₃

/-- The body of one device, from whole buffers to whole buffers. -/
theorem device_run {Q : PUnit → sProp (MT nD τ sig Unit (Elt F) ℕ UU ℕ)} :
    iprop(start I c ∗ (staged I c ∗ (∃ f, outM.view.loc (c : Thread nD τ) ↦{fullShare} (f : S2x128x512.Idx → F .f32)) ∗ scratch (F := F) c) ∗ ow c lB
      ∗ ((semVal (barCell c) 0 ∗ bigSep Finset.univ (zero (F := F) c)
          ∗ (staged I c ∗ (outM.view.loc (c : Thread nD τ) ↦{fullShare} OUT I c) ∗ scratch (F := F) c) ∗ ow c []) -∗ Q ⟨⟩))
      ⊢ WP c (ap (cc0_body (F := F))) Q := by
  unfold start
  rw [by_distance c (ready (F := F) c), by_distance c (tok (F := F) c), by_distance c (zero (F := F) c), ready_idle, ready_used c 1 (by decide),
    ready_used c 2 (by decide), ready_used c 3 (by decide)]
  iintro ⟨⟨%K, #HR, Hbt, Hbc, Hba, ⟨Z₀, ⟨A₁, A₂, A₃, A₄⟩, ⟨B₁, B₂, B₃, B₄⟩, ⟨C₁, C₂, C₃, C₄⟩⟩, ⟨T₀, ⟨D₁, D₂, D₃, E₁, E₂, E₃⟩, ⟨G₁, G₂, G₃, H₁, H₂, H₃⟩, ⟨J₁, J₂, J₃, K₁, K₂, K₃⟩⟩, X₁, X₂, X₃⟩, Hmem, HO, Hk⟩
  ihave Hmem := (mem_in I c) $$ Hmem
  icases Hmem with ⟨Hm, ⟨⟨S₁, S₂⟩, ⟨U₁, U₂⟩, ⟨V₁, V₂⟩⟩, Hun⟩
  iapply (body_run I K c)
  isplitr; · iexact HR
  isplitl [Hbt Hbc Hba HO S₁ S₂ U₁ U₂ V₁ V₂ E₁ E₂ E₃ H₁ H₂ H₃ K₁ K₂ K₃]
  · isplitl [Hbt]; · iexact Hbt
    isplitl [S₁ S₂ U₁ U₂ V₁ V₂ E₁ E₂ E₃ H₁ H₂ H₃ K₁ K₂ K₃]
    · isplitl [V₁ S₂ K₁ E₂ E₃]
      · iapply (gift_of I c K 3 (pe c 1))
        isplitr; · iexact HR
        isplitl [V₁ S₂]
        · isplitl [V₁]; · iexact V₁
          iexact S₂
        isplitl [K₁]; · iexact K₁
        isplitl [E₂]; · iexact E₂
        iexact E₃
      isplitl [U₁ U₂ H₁ H₂ H₃]
      · iapply (gift_of I c K 2 (pe c 2))
        isplitr; · iexact HR
        isplitl [U₁ U₂]
        · isplitl [U₁]; · iexact U₁
          iexact U₂
        isplitl [H₁]; · iexact H₁
        isplitl [H₂]; · iexact H₂
        iexact H₃
      · iapply (gift_of I c K 1 (pe c 3))
        isplitr; · iexact HR
        isplitl [S₁ V₂]
        · isplitl [S₁]; · iexact S₁
          iexact V₂
        isplitl [E₁]; · iexact E₁
        isplitl [K₂]; · iexact K₂
        iexact K₃
    isplitl [Hbc]; · iexact Hbc
    isplitl [Hba]; · iexact Hba
    iexact HO
  isplitl [Hm]; · iexact Hm
  isplitl [A₁ A₂ A₃ B₁ B₂ B₃ C₁ C₂ C₃ D₁ D₂ D₃ G₁ G₂ G₃ J₁ J₂ J₃]
  · isplitl [A₁ A₂ A₃ D₁ D₂ D₃]; · iapply (sends_of c 1); iframe D₁ D₂ D₃ A₁ A₂ A₃
    isplitl [B₁ B₂ B₃ G₁ G₂ G₃]; · iapply (sends_of c 2); iframe G₁ G₂ G₃ B₁ B₂ B₃
    iapply (sends_of c 3); iframe J₁ J₂ J₃ C₁ C₂ C₃
  isplitl [A₄ B₄ C₄ X₁ X₂ X₃]
  · isplitl [A₄ X₁]
    · iapply (recvs_of c 1 (pe c 1)); isplitl [X₁]; · iexact X₁
      iexact A₄
    isplitl [B₄ X₂]
    · iapply (recvs_of c 2 (pe c 2)); isplitl [X₂]; · iexact X₂
      iexact B₄
    · iapply (recvs_of c 3 (pe c 3)); isplitl [X₃]; · iexact X₃
      iexact C₄
  iintro ⟨Hb, Hm, Hc, ⟨E₁, E₂, E₃⟩, HO⟩
  ihave E₁ := (ended_split I c 1 (pe c 1)) $$ E₁
  ihave E₂ := (ended_split I c 2 (pe c 2)) $$ E₂
  ihave E₃ := (ended_split I c 3 (pe c 3)) $$ E₃
  icases E₁ with ⟨Z₁, M₁⟩
  icases E₂ with ⟨Z₂, M₂⟩
  icases E₃ with ⟨Z₃, M₃⟩
  iapply Hk
  isplitl [Hb]; · iexact Hb
  isplitl [Z₀ Z₁ Z₂ Z₃]
  · isplitl [Z₀]; · iexact Z₀
    isplitl [Z₁]; · iexact Z₁
    isplitl [Z₂]; · iexact Z₂
    iexact Z₃
  isplitr [HO]
  · iapply (mem_out I c)
    iframe Hm Hc M₁ M₂ M₃ Hun
  iexact HO

end

end Cert.KernelIdeal.Mesh
-- ==== Proof.Credit.lean ====
/- What the launch provides: the invariants, the tokens dealt to the devices that use them, and the credits. -/
module

public import proofs.«01_k».proof.Proof.Device
public import proofs.«01_k».proof.Proof.Gen.KernelIdeal.Frame
public import Idealize.ShloMosaic.Lib.Pipeline.Regions
public import Idealize.ShloMosaic.Lib.Pipeline.Kit
public import Idealize.ShloMosaic.Lib.Pipeline.RegionTalk

@[expose] public section

noncomputable section

namespace Cert.KernelIdeal.Mesh

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (I : Dev nD → Inp F)

section

variable (c : Dev nD)

/-! ## The credits -/

/-- How many units of cell `g` are among those that device `d` owes in the list. -/
def units (d : Dev nD) (g : GSem nD τ sig) : List It → ℕ
  | [] => 0
  | x :: l => units d g l + if g = x.cell d then x.amt else 0

/-- What a list of debts owes on a cell is the number of units that it lists for the cell. -/
theorem owedL_units (d : Dev nD) (g : GSem nD τ sig) (l : List It) : owedL d l g () = units d g l := by
  induction l with
  | nil => rfl
  | cons x l ih =>
    show owedL d l g () + tallyAt (x.cell d) () x.amt g () = _
    rw [ih, tallyAt_apply]
    simp only [units, and_true]

/-- The copy cells on which the device at distance `t` makes copies arrive, as a list. -/
def rth (c : Dev nD) (t : Fin 3) : Fin 7 → CK :=
  ![.kr t.succ, .vr t.succ, .sr t.succ, .rr (pe c t.succ.val) 0, .rr (pe c t.succ.val) 1, .gr (pe c t.succ.val) 0, .gr (pe c t.succ.val) 1]

set_option maxRecDepth 8000 in
/-- Together the devices owe three units on each barrier. -/
theorem units_bar : ∀ c : Dev nD, ∑ d : Dev nD, units d (barCell c) lB = 3 := by decide +kernel
set_option maxRecDepth 8000 in
/-- Together the devices owe on each receive cell that is used the amount of its copy. -/
theorem units_cell : ∀ (c : Dev nD) (t : Fin 3) (i : Fin 7), ∑ d : Dev nD, units d (cell c (rth c t i)) lB = amt (rth c t i) := by decide +kernel

/-- All that the devices owe at the start. -/
abbrev O₀ (d : Dev nD) : CellTallies nD τ sig Unit := owedL d lB

/-- The launch credit of a cell, when the devices together owe it `n` units. -/
theorem launch_at (g : GSem nD τ sig) (n : ℕ) (h : ∑ d : Dev nD, units d g lB = n) :
    tallyOn g (launchCredit (Pipeline.owing O₀) 0 g) = (tallyAt g () n : CellTallies nD τ sig Unit) := by
  unfold tallyAt; refine congrArg _ (Finsupp.ext fun u => ?_); cases u
  rw [Pipeline.launchCredit_owing, Finsupp.single_eq_same, Finset.sum_congr rfl fun d _ => owedL_units d g lB, h]

/-- The semaphores of the receipt cells. -/
def rEmb (c : Dev nD) : Fin 3 × Fin 7 ↪ SemLoc sig :=
  ⟨fun p => .dma (csem (rth c p.1 p.2)), fun p q h => by
    have h' : rth c p.1 p.2 = rth c q.1 q.2 := csem_inj (SemLoc.dma.inj h)
    have hd : ∀ (c : Dev nD) (p q : Fin 3 × Fin 7), rth c p.1 p.2 = rth c q.1 q.2 → p = q := by decide +kernel
    exact hd c p q h'⟩

/-- The credits of a device at launch: three signals, and every copy it receives. -/
theorem credits : (Pipeline.launchCred O₀ c : sProp (MT nD τ sig Unit (Elt F) ℕ UU ℕ))
    ⊢ iprop(cred (tallyAt (barCell c) () 3) ∗ arrive c (crd (F := F) c) 1 ∗ arrive c (crd (F := F) c) 2 ∗ arrive c (crd (F := F) c) 3) := by
  unfold Pipeline.launchCred
  rw [bigSep_univ_at _ (SemLoc.reg barS), launch_at (barCell c) 3 (units_bar c)]
  refine sep_mono_right ?_
  refine (bigSep_subset (t := Finset.univ.map (rEmb c)) (fun sm hs => ?_)).trans ?_
  · obtain ⟨p, -, rfl⟩ := Finset.mem_map.mp hs
    exact Finset.mem_erase.mpr ⟨(fun h => by cases h), Finset.mem_univ _⟩
  rw [bigSep_map, bigSep_univ_prod, bigSep_univ_eq_bigSepL [0, 1, 2] (by decide) (by decide)]
  have h : ∀ t : Fin 3, (bigSep Finset.univ fun i : Fin 7 =>
        (cred (tallyOn ((c.tc : Thread nD τ), rEmb c (t, i)) (launchCredit (Pipeline.owing O₀) 0 ((c.tc : Thread nD τ), rEmb c (t, i))))
          : sProp (MT nD τ sig Unit (Elt F) ℕ UU ℕ))) = arrive c (crd (F := F) c) t.succ := fun t => by
    have h₁ : ∀ i : Fin 7, (cred (tallyOn ((c.tc : Thread nD τ), rEmb c (t, i)) (launchCredit (Pipeline.owing O₀) 0 ((c.tc : Thread nD τ), rEmb c (t, i))))
          : sProp (MT nD τ sig Unit (Elt F) ℕ UU ℕ)) = crd (F := F) c (rth c t i) :=
      fun i => congrArg cred (launch_at (cell c (rth c t i)) _ (units_cell c t i))
    rw [bigSep_congr (s := Finset.univ) fun i _ => h₁ i, bigSep_univ_eq_bigSepL [0, 1, 2, 3, 4, 5, 6] (by decide) (by decide)]
    have e : ∀ A B C : sProp (MT nD τ sig Unit (Elt F) ℕ UU ℕ), iprop((A ∗ B) ∗ C) = iprop(A ∗ B ∗ C) :=
      fun _ _ _ => equiv_iff.mp ⟨sep_assoc, sep_assoc'⟩
    simp only [arrive, e]
    rfl
  simp only [h]
  exact BI.Entails.refl _

/-! ## The tokens -/

/-- Every duty of the protocol: three on a barrier cell, one on a copy cell. -/
def tokEmb : Dev nD × (Fin 3 ⊕ CK) ↪ GSem nD τ sig × ℕ × Fin 3 :=
  ⟨fun p => match p.2 with | .inl d => (barCell p.1, 0, d) | .inr k => (cell p.1 k, 0, 0), fun p q h => by
    obtain ⟨c, x⟩ := p
    obtain ⟨d, y⟩ := q
    rcases x with x | x <;> rcases y with y | y
    · exact Prod.ext (congrArg (fun t : GSem nD τ sig × ℕ × Fin 3 => t.1.1.1) h) (congrArg Sum.inl (congrArg (fun t : GSem nD τ sig × ℕ × Fin 3 => t.2.2) h))
    · exact absurd (congrArg (fun t : GSem nD τ sig × ℕ × Fin 3 => t.1.2) h) (fun h => by cases h)
    · exact absurd (congrArg (fun t : GSem nD τ sig × ℕ × Fin 3 => t.1.2) h) (fun h => by cases h)
    · exact Prod.ext (congrArg (fun t : GSem nD τ sig × ℕ × Fin 3 => t.1.1.1) h)
        (congrArg Sum.inr (csem_inj (SemLoc.dma.inj (congrArg (fun t : GSem nD τ sig × ℕ × Fin 3 => t.1.2) h))))⟩

def toks : Finset (GSem nD τ sig × ℕ × Fin 3) := Finset.univ.map tokEmb

/-- The device `n` places after, as a permutation. -/
def shift (n : ℕ) : Dev nD ≃ Dev nD :=
  ⟨fun c => pe c n, fun c => pe c (3 * n), fun c => by show pe (pe c n) (3 * n) = c; rw [pe_pe]; apply Fin.ext; show (c.val + (n + 3 * n)) % 4 = c.val; have h : c.val < 4 := c.isLt; omega,
    fun c => by show pe (pe c (3 * n)) n = c; rw [pe_pe]; apply Fin.ext; show (c.val + (3 * n + n)) % 4 = c.val; have h : c.val < 4 := c.isLt; omega⟩

/-- The barrier tokens a device pays with. -/
abbrev barToks (c : Dev nD) : sProp (MT nD τ sig Unit (Elt F) ℕ UU ℕ) :=
  iprop(dutyTok ER (barCell (pe c 1)) 0 2 ∗ dutyTok ER (barCell (pe c 2)) 0 1 ∗ dutyTok ER (barCell (pe c 3)) 0 0)

/-- Each barrier token goes to the device that pays it; the copy cells' stay where the cell is. -/
theorem deal_toks : bigSep toks (fun x => (dutyTok ER x.1 x.2.1 x.2.2 : sProp (MT nD τ sig Unit (Elt F) ℕ UU ℕ)))
    ⊢ bigSep Finset.univ fun c : Dev nD => iprop(barToks (F := F) c ∗ bigSep Finset.univ (tok (F := F) c)) := by
  refine Entails.of_eq ?_
  have e : ∀ d : Fin 3, ∀ n, (bigSep Finset.univ fun c : Dev nD => (dutyTok ER (barCell c) 0 d : sProp (MT nD τ sig Unit (Elt F) ℕ UU ℕ)))
      = bigSep Finset.univ fun c : Dev nD => dutyTok ER (barCell (pe c n)) 0 d :=
    fun d n => bigSep_univ_equiv (shift n) (fun c : Dev nD => (dutyTok ER (barCell c) 0 d : sProp (MT nD τ sig Unit (Elt F) ℕ UU ℕ)))
  have h : ∀ c : Dev nD, (bigSep Finset.univ fun x : Fin 3 ⊕ CK =>
        (dutyTok ER (tokEmb (c, x)).1 (tokEmb (c, x)).2.1 (tokEmb (c, x)).2.2 : sProp (MT nD τ sig Unit (Elt F) ℕ UU ℕ)))
      = iprop((dutyTok ER (barCell c) 0 2 ∗ dutyTok ER (barCell c) 0 1 ∗ dutyTok ER (barCell c) 0 0) ∗ bigSep Finset.univ (tok (F := F) c)) := fun c => by
    have three : ∀ Φ : Fin 3 → sProp (MT nD τ sig Unit (Elt F) ℕ UU ℕ), bigSep Finset.univ Φ = iprop(Φ 2 ∗ Φ 1 ∗ Φ 0) :=
      bigSep_univ_eq_bigSepL [2, 1, 0] (by decide) (by decide)
    have e₁ : ∀ d, tokEmb (c, Sum.inl d) = (barCell c, 0, d) := fun _ => rfl
    have e₂ : ∀ k, tokEmb (c, Sum.inr k) = (cell c k, 0, 0) := fun _ => rfl
    rw [BI.bigSep_univ_sum, three]
    simp only [e₁, e₂]
    rfl
  unfold toks
  rw [bigSep_map, bigSep_univ_prod, bigSep_congr (s := Finset.univ) fun c _ => h c, bigSep_sep', bigSep_sep', bigSep_sep', bigSep_sep', bigSep_sep', bigSep_sep',
    e 2 1, e 1 2, e 0 3]

end

end Cert.KernelIdeal.Mesh
-- ==== Proof.Region.lean ====
/- The region: what its windows hold, and the body as the region runs it. -/
module

public import proofs.«01_k».proof.Proof.Credit

@[expose] public section

noncomputable section

namespace Cert.KernelIdeal.Mesh

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

open Idealize.ShloMosaic.Pipeline (BodyObligation Dat)

section

variable (m : (ℓ : Loc nD τ sig) → Buf (Elt F) ℓ) (c : Dev nD)

/-- What the body finds in its five inputs' staging buffers. -/
def inp (c : Dev nD) : Inp F where
  x := iblk m c 0 t0_0
  wq := iblk m c 1 t0_0
  kv := iblk m c 2 t0_0
  wo := iblk m c 3 t0_0
  sc := iblk m c 4 t0_0

/-- The region's proof data: arrays as the host operations left them, the inputs' blocks left in place, the result's block written. -/
def dat0 (c : Dev nD) : Dat τ (Elt F) Unit ℕ UU ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => OUT (inp m) c
  Φ t := if t.val = 0 then iprop(start (inp m) c ∗ scratch (F := F) c ∗ ∃ r, prngReg c r)
    else iprop(semVal (barCell c) 0 ∗ bigSep Finset.univ (zero (F := F) c) ∗ scratch (F := F) c ∗ ∃ r, prngReg c r)
  q _ := fullShare
  owed t := if t.val = 0 then O₀ c else 0

abbrev adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c
  | 0 => dat0 m

/-- An input window's staging buffer holds its block when the body runs. -/
theorem before_of (w : Fin cfg0.W) (hw : w.val < 5) (d) : (dat0 m c).before w t0_0 d = (dat0 m c).after w t0_0 := by
  have h : ∀ w : Fin 6, w.val < 5 → (cfg0.win w).fetch t0_0 = true := by decide
  unfold Dat.before
  rw [if_pos (h w hw)]
  match w, hw with
  | ⟨0, _⟩, _ | ⟨1, _⟩, _ | ⟨2, _⟩, _ | ⟨3, _⟩, _ | ⟨4, _⟩, _ => rfl

/-- Owning a whole buffer through its view is owning the buffer. -/
theorem owns_whole (b : Ref sig .tc) (X : b.ty.Contents (Elt F)) :
    (owns (Ix := Unit) (Name := ℕ) (U := UU) (Lvl := ℕ) (c : Thread nD τ) (Memref.whole b) fullShare X : sProp (MT nD τ sig Unit (Elt F) ℕ UU ℕ))
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- At the start of the region a device owes all that it will send. -/
theorem owed_first : (dat0 m c).owed t0_0.castSucc = O₀ c := by
  show (if (t0_0.castSucc : Fin (cfg0.N + 1)).val = 0 then O₀ c else 0) = O₀ c; exact if_pos rfl
/-- At the end of the region a device owes nothing. -/
theorem owed_last : (dat0 m c).owed t0_0.succ = owedL c [] := by
  show (if (t0_0.succ : Fin (cfg0.N + 1)).val = 0 then O₀ c else 0) = 0; exact if_neg (by decide)

/-- The body's debts are the region's, where the two lists agree. -/
theorem owesAt_of (dat : Dat τ (Elt F) Unit ℕ UU ℕ cfg0 c) (t : Fin (cfg0.N + 1)) (l : List It) (h : dat.owed t = owedL c l)
    (hr : dat.recorded t = Set.univ) :
    ow (F := F) c l ⊢ (dat.owesAt () t : sProp (MT nD τ sig Unit (Elt F) ℕ UU ℕ)) := by
  unfold ow Dat.owesAt Pipeline.owesWithin Dat.bound; rw [h, hr]
  iintro ⟨%W, HO⟩; iexists W; isplitr; · ipureintro; exact fun _ _ => Or.inl trivial
  iexact HO
/-- The region's debts are the body's, where the two lists agree. -/
theorem owesAt_to (dat : Dat τ (Elt F) Unit ℕ UU ℕ cfg0 c) (t : Fin (cfg0.N + 1)) (l : List It) (h : dat.owed t = owedL c l) :
    (dat.owesAt () t : sProp (MT nD τ sig Unit (Elt F) ℕ UU ℕ)) ⊢ ow (F := F) c l := by
  unfold ow Dat.owesAt Pipeline.owesWithin; rw [h]
  iintro ⟨%W, -, HO⟩; iexists W; iexact HO

set_option maxRecDepth 8000 in
/-- The body as the region runs it. -/
theorem body0 : BodyObligation (dat0 m c) (defs₀ (F := F)) 𝒱₀ () Set.univ := fun t => by
  obtain rfl := fin_N0 t
  rw [bigSep_W0, bigSep_W0]
  simp only [owns_whole]
  rw [show (dat0 m c).Φ t0_0.castSucc = iprop(start (inp m) c ∗ scratch (F := F) c ∗ ∃ r, prngReg c r) from rfl,
    show (dat0 m c).Φ t0_0.succ = iprop(semVal (barCell c) 0 ∗ bigSep Finset.univ (zero (F := F) c) ∗ scratch (F := F) c ∗ ∃ r, prngReg c r) from rfl]
  iintro ⟨⟨Hst, Hscr, Hp⟩, HO, ⟨%d0, %f0, %h0, H0⟩, ⟨%d1, %f1, %h1, H1⟩, ⟨%d2, %f2, %h2, H2⟩, ⟨%d3, %f3, %h3, H3⟩, ⟨%d4, %f4, %h4, H4⟩, ⟨%d5, %f5, %h5, H5⟩⟩
  rw [before_of m c 0 (by decide)] at h0
  rw [before_of m c 1 (by decide)] at h1
  rw [before_of m c 2 (by decide)] at h2
  rw [before_of m c 3 (by decide)] at h3
  rw [before_of m c 4 (by decide)] at h4
  subst h0 h1 h2 h3 h4
  ihave HO := (owesAt_to c (dat0 m c) _ lB (owed_first m c)) $$ HO
  iapply (device_run (inp m) c)
  isplitl [Hst]; · iexact Hst
  isplitl [Hscr H0 H1 H2 H3 H4 H5]
  · isplitl [H0 H1 H2 H3 H4]
    · isplitl [H0]; · iexact H0
      isplitl [H1]; · iexact H1
      isplitl [H2]; · iexact H2
      isplitl [H3]; · iexact H3
      iexact H4
    isplitl [H5]; · iexists f5; iexact H5
    iexact Hscr
  isplitl [HO]; · iexact HO
  iintro ⟨Hb, Hz, ⟨⟨H0, H1, H2, H3, H4⟩, H5, Hscr⟩, HO⟩
  isplitl [Hb Hz Hscr Hp]
  · isplitl [Hb]; · iexact Hb
    isplitl [Hz]; · iexact Hz
    isplitl [Hscr]; · iexact Hscr
    iexact Hp
  isplitl [HO]; · iapply (owesAt_of c (dat0 m c) t0_0.succ [] (owed_last m c) rfl); iexact HO
  isplitl [H0]; · iexists _; isplitr; swap; (· iexact H0); ipureintro; rfl
  isplitl [H1]; · iexists _; isplitr; swap; (· iexact H1); ipureintro; rfl
  isplitl [H2]; · iexists _; isplitr; swap; (· iexact H2); ipureintro; rfl
  isplitl [H3]; · iexists _; isplitr; swap; (· iexact H3); ipureintro; rfl
  isplitl [H4]; · iexists _; isplitr; swap; (· iexact H4); ipureintro; rfl
  iexists _; isplitr; swap; (· iexact H5); ipureintro; rfl

end

end Cert.KernelIdeal.Mesh
-- ==== Proof.Run.lean ====
/- The run of the whole program: the host operations, then the region; what it leaves in memory. -/
module

public import proofs.«01_k».proof.Proof.Region
public import Idealize.ShloMosaic.Lib.Pipeline.ValueKit

@[expose] public section

noncomputable section

namespace Cert.KernelIdeal.Mesh

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

open Idealize.ShloMosaic.Pipeline (Dat)

section

variable (m : (ℓ : Loc nD τ sig) → Buf (Elt F) ℓ) (c : Dev nD)

/-! ## What the buffers hold -/

abbrev Va (c : Dev nD) : Valuation τ sig (Elt F) := fun b => m (c, b)
abbrev Vb (c : Dev nD) : Valuation τ sig (Elt F) := StableHlo.after hostOps0 (Va m c)
abbrev Vc (c : Dev nD) : Valuation τ sig (Elt F) := StableHlo.after hostOps0_1 (Vb m c)
abbrev Vd (c : Dev nD) : Valuation τ sig (Elt F) := StableHlo.after hostOps0_2 (Vc m c)
abbrev Ve (c : Dev nD) : Valuation τ sig (Elt F) := StableHlo.after hostOps0_3 (Vd m c)
/-- After the host operations, -/
abbrev Vf (c : Dev nD) : Valuation τ sig (Elt F) := StableHlo.after hostOps0_4 (Ve m c)
/-- and after the region. -/
abbrev Vg (c : Dev nD) : Valuation τ sig (Elt F) := Function.update (Vf m c) (Proc.devRef .tc main_v20) (OUT (inp m) c)

/-- The buffers before the region are those after all host operations. -/
theorem Vf_eq : Vf m c = StableHlo.after (List.flatten [hostOps0, hostOps0_1, hostOps0_2, hostOps0_3, hostOps0_4]) (Va m c) := rfl

/-- The one block of the result's window is its array. -/
theorem blk5 (y : S2x128x512.Idx) : ((cfg0.win 5).blk t0_0).view.emb y = y := by
  funext a; apply Fin.ext
  match a with
  | ⟨0, _⟩ => show 0 + 1 * (y 0).val = (y 0).val; omega
  | ⟨1, _⟩ => show 0 + 1 * (y 1).val = (y 1).val; omega
  | ⟨2, _⟩ => show 0 + 1 * (y 2).val = (y 2).val; omega

/-- The region's result array ends at the body's result. -/
theorem final5 : (dat0 m c).arrAt 5 cfg0.N = OUT (inp m) c := by
  refine Dat.arrAt_eq_of_covers (dat0 m c) 5 (OUT (inp m) c) (by decide +kernel) fun t hf y => ?_
  obtain rfl := fin_N0 t
  exact congrArg (OUT (inp m) c) (blk5 y).symm

/-- Each window's array starts with what the host prefix left in it. -/
theorem arr_start (w : Fin 6) : (dat0 m c).arrAt w 0 = Vf m c (Proc.devRef .tc (Pipeline.arrRef spec0 w)) := rfl

/-- Each window's array ends with what the buffers hold after the region. -/
theorem arr_end (w : Fin 6) : (dat0 m c).arrAt w cfg0.N = Vg m c (Proc.devRef .tc (Pipeline.arrRef spec0 w)) := by
  have h : ∀ w : Fin 6, w.val < 5 → (Proc.devRef .tc (Pipeline.arrRef spec0 w) : DevRef τ sig) ≠ Proc.devRef .tc main_v20 ∧ (cfg0.win w).isOut = false := by
    decide
  by_cases hw : w.val < 5
  · exact ((dat0 m c).arrAt_in w (h w hw).2 _).trans (show Vf m c (Proc.devRef .tc (Pipeline.arrRef spec0 w)) = Vg m c (Proc.devRef .tc (Pipeline.arrRef spec0 w)) from
      (Function.update_of_ne (h w hw).1 (OUT (inp m) c) (Vf m c)).symm)
  · obtain rfl : w = 5 := Fin.ext (by have := w.isLt; show w.val = 5; omega)
    rw [final5]
    exact (show Vg m c (Proc.devRef .tc main_v20) = OUT (inp m) c from Function.update_self (Proc.devRef .tc main_v20) (OUT (inp m) c) (Vf m c)).symm

/-! ## The segments -/

/-- What a device has of the protocol from the launch on. -/
def Tk (c : Dev nD) : sProp (MT nD τ sig Unit (Elt F) ℕ UU ℕ) :=
  iprop((∃ K, records (inp m) K) ∗ (bigSep Finset.univ fun k => openTok ER (cell c k)) ∗ barToks (F := F) c
    ∗ cred (tallyAt (barCell c) () 3) ∗ atPos ER (barCell c) 0 ∅ 0 ∗ bigSep Finset.univ (tok (F := F) c)
    ∗ arrive c (crd (F := F) c) 1 ∗ arrive c (crd (F := F) c) 2 ∗ arrive c (crd (F := F) c) 3)

/-- What rides beside the buffers through the host operations. -/
def Rh (c : Dev nD) : sProp (MT nD τ sig Unit (Elt F) ℕ UU ℕ) := iprop(Tk m c ∗ (∃ r, prngReg c r) ∗ ow (F := F) c lB)

/-- The kernel's own semaphores. -/
abbrev osem : CK → SemLoc sig := fun k => .dma (csem k)

/-- The region's own semaphores, all at zero. -/
theorem osem_eq : (Pipeline.ownSems0 osem c : sProp (MT nD τ sig Unit (Elt F) ℕ UU ℕ)) = bigSep Finset.univ (zero (F := F) c) := rfl

/-- From its tokens and semaphores a device opens all its cells. -/
theorem open_all : iprop(Tk m c ∗ Pipeline.ownSems0 osem c ∗ levAts L lv) ⊢ (|={Set.univ}=> start (inp m) c : sProp (MT nD τ sig Unit (Elt F) ℕ UU ℕ)) := by
  rw [osem_eq]
  unfold Tk start
  iintro ⟨⟨⟨%K, #HR⟩, Ho, Hbt, Hc, Ha, Ht, C₁, C₂, C₃⟩, Hz, #Hl⟩
  imod (open_cells (inp m) K c) $$ [Ho Hz] with ⟨Hr, #Hre⟩
  · isplitr; · iexact HR
    isplitl [Ho]; · iexact Ho
    iexact Hz
  imodintro
  iexists K
  isplitr
  · unfold Rec
    isplitr; · iexact HR
    isplitr; · iexact Hre
    iexact Hl
  isplitl [Hbt]; · iexact Hbt
  isplitl [Hc]; · iexact Hc
  isplitl [Ha]; · iexact Ha
  isplitl [Hr]; · iexact Hr
  isplitl [Ht]; · iexact Ht
  isplitl [C₁]; · iexact C₁
  isplitl [C₂]; · iexact C₂
  iexact C₃

/-- The facts of the launch that its printed form fixes. -/
theorem kitP : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

/-- The other buffers the program has between kernels. -/
abbrev others : Finset (DevRef τ sig) := Pipeline.ucRefs τ sig \ Pipeline.arrRefs (τ := τ) spec0

/-- A buffer outside the region is unchanged by it. -/
theorem others_ne (b : DevRef τ sig) (hb : b ∈ others) : Vg m c b = Vf m c b :=
  Function.update_of_ne (fun h => (Finset.mem_sdiff.mp hb).2 (by
    subst h
    exact Finset.mem_map_of_mem _ (Finset.mem_image_of_mem (Pipeline.arrRef spec0) (Finset.mem_univ (5 : Fin 6))))) _ _

/-- Whatever is owed has a level, and a positive one. -/
theorem cut : ∀ (t : Fin ((Pipeline.pin (pcfgs (F := F)) adm 0).N + 1)) (g : GSem nD τ sig) (i : Unit), 0 < (pdats m 0 c).owed t g i → i ∈ L g ∧ 0 < lv g i := by
  intro t g i h
  have e : (pdats m 0 c).owed t = if t.val = 0 then O₀ c else 0 := rfl
  rw [e] at h
  split at h
  · obtain ⟨x, -, rfl⟩ := owed_pos c lB g i h
    rw [L_it, show i = () from rfl, lv_it]
    exact ⟨Finset.mem_singleton_self _, by cases x <;> exact Nat.succ_pos _⟩
  · exact absurd h (Nat.lt_irrefl 0)

/-- A staging buffer's semaphore is none of the protocol's. -/
theorem stage_low : ∀ (w : Fin 6) (s : Fin ((cfg0.win w).nbuf)), (((cfg0.win w).sem s).val < 6) := by decide

/-- A device enters the region with its scratch buffers and its start. -/
theorem hin0 : iprop(Pipeline.scopedRest (Pipeline.pin (pcfgs (F := F)) adm 0).spec c ∗ (∃ r, prngReg c r) ∗ StableHlo.held (c.tc : Thread nD τ) ∅ (Vf m c) ∗ start (inp m) c)
    ⊢ (pdats m 0 c).Φ 0 := by
  rw [show (pdats m 0 c).Φ 0 = iprop(start (inp m) c ∗ scratch (F := F) c ∗ ∃ r, prngReg c r) from rfl,
    show (Pipeline.scopedRest (Pipeline.pin (pcfgs (F := F)) adm 0).spec c : sProp (MT nD τ sig Unit (Elt F) ℕ UU ℕ)) = scratch (F := F) c from scopedRest0_eq c]
  iintro ⟨Hs, Hp, -, Hst⟩
  isplitl [Hst]; · iexact Hst
  isplitl [Hs]; · iexact Hs
  iexact Hp

/-- A device leaves the region with its scratch buffers. -/
theorem hout0 : (pdats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) ∅ (Vg m c)
      ∗ Pipeline.ownSems0 osem c ∗ semVal (barCell c) 0) := by
  rw [show (pdats m 0 c).Φ (Fin.last _) = iprop(semVal (barCell c) 0 ∗ bigSep Finset.univ (zero (F := F) c) ∗ scratch (F := F) c ∗ ∃ r, prngReg c r) from rfl,
    show (Pipeline.scopedRest (Pipeline.pin (pcfgs (F := F)) adm 0).spec c : sProp (MT nD τ sig Unit (Elt F) ℕ UU ℕ)) = scratch (F := F) c from scopedRest0_eq c, osem_eq,
    show (StableHlo.held (c.tc : Thread nD τ) ∅ (Vg m c) : sProp (MT nD τ sig Unit (Elt F) ℕ UU ℕ)) = BI.emp from BI.bigSep_empty]
  iintro ⟨Hb, Hz, Hs, Hp⟩
  isplitl [Hs]; · iexact Hs
  isplitl [Hp]; · iexact Hp
  isplitr; · iempintro
  isplitl [Hz]; · iexact Hz
  iexact Hb

set_option backward.isDefEq.respectTransparency.types false in
/-- The region. -/
def reg0 : Pipeline.RegionSeg (pcfgs (F := F)) adm (pdats m) () defs₀ 𝒱₀ L lv 0 :=
  Pipeline.RegionSeg.ofTalk (pcfgs (F := F)) adm (pdats m) () defs₀ 𝒱₀ L lv 0 osem (by decide : Pipeline.OwnSemFacts spec0 osem)
    ∅ others (Finset.empty_subset _) kitP rfl (fun c => (body0 m c).loose)
    (fun _ => 0) O₀ (fun c => (owed_first m c).trans (zero_add _).symm) (fun c => owed_last m c) (fun _ => rfl)
    (fun _ w => by match w with | ⟨0, _⟩ | ⟨1, _⟩ | ⟨2, _⟩ | ⟨3, _⟩ | ⟨4, _⟩ | ⟨5, _⟩ => rfl)
    (Vf m) (Vg m) (fun c b hb => others_ne m c b (by rw [Finset.sdiff_empty] at hb; exact hb))
    (Tk m) (fun c => semVal (barCell c) 0) (fun c => start (inp m) c) (fun c => semVal (barCell c) 0) (open_all m) (hin0 m) (hout0 m)
    (fun c => by iintro H; imodintro; iexact H)
    (fun _ => 0)
    ⟨fun c w s => by rw [L_tc]; exact Finset.mem_singleton_self _, fun c w s => le_of_eq (by
        show (match kind (.dma ((cfg0.win w).sem s)) with | .bar => 1 | .ck (.kr _) => 2 | .ck (.vr _) => 2 | .ck (.sr _) => 2 | .ck (.rr _ _) => 3 | .ck (.gr _ _) => 4 | _ => 0) = 0
        rw [show kind (.dma ((cfg0.win w).sem s)) = .no from if_pos (stage_low w s)]), fun c t g i h => cut m c t g i h⟩
    (fun _ => iprop(emp))
    (fun c w => arr_start m c w) (fun c w => arr_end m c w)

abbrev seg (ops : List (HloOp τ sig (Elt F))) (hs : ops.Forall fun op => op.bufs ⊆ StableHlo.tcRefs τ sig) (hf : ops.Forall fun op => op.fresh = ∅)
    (W : Dev nD → Valuation τ sig (Elt F)) : Pipeline.HostSeg (Name := ℕ) (U := UU) (pcfgs (F := F)) defs₀ 𝒱₀ L lv :=
  Pipeline.HostSeg.ofOps _ _ _ _ _ (Pipeline.ucRefs τ sig) ops (fun op h => Pipeline.sub_ucRefs op (List.forall_iff_forall_mem.mp hs op h))
    (fun op h => List.forall_iff_forall_mem.mp hf op h) W (Rh m)

/-- The program: five stretches of host operations and the region. -/
def segs : List (Pipeline.Seg (pcfgs (F := F)) adm (pdats m) () defs₀ 𝒱₀ L lv) :=
  [.host (seg m hostOps0 hostOps0_sub hostOps0_fresh (Va m)), .host (seg m hostOps0_1 hostOps0_1_sub hostOps0_1_fresh (Vb m)),
    .host (seg m hostOps0_2 hostOps0_2_sub hostOps0_2_fresh (Vc m)), .host (seg m hostOps0_3 hostOps0_3_sub hostOps0_3_fresh (Vd m)),
    .host (seg m hostOps0_4 hostOps0_4_sub hostOps0_4_fresh (Ve m)), .region (reg0 m)]

/-- The program is its host operations followed by the region. -/
theorem main_eq : main (F := F) c = Pipeline.Seg.run (segs m) := by
  rw [main_chain]
  rfl

/-- The windows' arrays are buffers of the program. -/
theorem arr_sub : Pipeline.arrRefs (τ := τ) spec0 ⊆ Pipeline.ucRefs τ sig := Pipeline.arrRefs_sub_ucRefs spec0 (by decide)

/-- The buffers and what rides beside them are what the region starts from, -/
theorem reg0_pre : iprop(StableHlo.held (c.tc : Thread nD τ) (Pipeline.ucRefs τ sig) (Vf m c) ∗ Rh m c) ⊢ (reg0 m).pre c := by
  show _ ⊢ iprop(StableHlo.held (c.tc : Thread nD τ) (Pipeline.arrRefs (τ := τ) spec0) (Vf m c) ∗ (∃ r, prngReg c r)
    ∗ (StableHlo.held (c.tc : Thread nD τ) others (Vf m c) ∗ emp) ∗ Tk m c ∗ ∃ Wd, owes (c : Thread nD τ) (0 + O₀ c) Wd)
  rw [StableHlo.held_sub_split (c.tc : Thread nD τ) arr_sub (Vf m c), zero_add]
  unfold Rh ow
  iintro ⟨⟨Ha, Ho⟩, HT, Hp, HO⟩
  isplitl [Ha]; · iexact Ha
  isplitl [Hp]; · iexact Hp
  isplitl [Ho]
  · isplitl [Ho]; · iexact Ho
    iempintro
  isplitl [HT]; · iexact HT
  iexact HO

/-- and what it ends with: the result's buffer new, the barrier's semaphore down. -/
theorem reg0_post : (reg0 m).post c ⊢ iprop((StableHlo.held (c.tc : Thread nD τ) (Pipeline.ucRefs τ sig) (Vg m c) ∗ semVal (barCell c) 0)
    ∗ ∃ W, owes (c : Thread nD τ) (0 : CellTallies nD τ sig Unit) W) := by
  show iprop(StableHlo.held (c.tc : Thread nD τ) (Pipeline.arrRefs (τ := τ) spec0) (Vg m c) ∗ (∃ r, prngReg c r)
    ∗ (StableHlo.held (c.tc : Thread nD τ) others (Vg m c) ∗ emp) ∗ semVal (barCell c) 0 ∗ ∃ Wd, owes (c : Thread nD τ) (0 : CellTallies nD τ sig Unit) Wd) ⊢ _
  rw [StableHlo.held_sub_split (c.tc : Thread nD τ) arr_sub (Vg m c)]
  iintro ⟨Ha, -, ⟨Ho, -⟩, Hb, HO⟩
  isplitr [HO]
  · isplitl [Ha Ho]
    · isplitl [Ha]; · iexact Ha
      iexact Ho
    iexact Hb
  iexact HO

end

end Cert.KernelIdeal.Mesh
-- ==== Proof.Main.lean ====
/- The launch: what every device is given at the start, and the run of the whole program from any memory. -/
module

public import proofs.«01_k».proof.Proof.Run

@[expose] public section

noncomputable section

namespace Cert.KernelIdeal.Mesh

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

section

variable (m : (ℓ : Loc nD τ sig) → Buf (Elt F) ℓ) (ρ : Dev nD → PrngReg) (c : Dev nD)

/-- The barriers and the copy cells are different semaphores. -/
theorem disjoint_cells : Disjoint (barCells : Finset (GSem nD τ sig)) scCells := by
  rw [Finset.disjoint_left]
  rintro g h₁ h₂
  obtain ⟨c, -, rfl⟩ := Finset.mem_map.mp h₁
  obtain ⟨p, -, h⟩ := Finset.mem_map.mp h₂
  exact absurd (congrArg Prod.snd h) (fun h => by cases h)

/-- The launch element: the staging cells', and the protocol's. -/
def u₀ : UU :=
  (initOf (Pipeline.cells (Pipeline.pin (pcfgs (F := F)) adm) cellOf_inj) (Pipeline.launchToks (Pipeline.pin (pcfgs (F := F)) adm) cellOf_inj),
    launchOf barCells scCells toks)

/-- The protocol's launch element, kept on device 0 until it is dealt. -/
def G (c : Dev nD) : sProp (MT nD τ sig Unit (Elt F) ℕ UU ℕ) := if c = 0 then BI.own (ER (launchOf barCells scCells toks)) else iprop(emp)

/-- The devices' shares of the ghost state are together the launch's ghost state. -/
theorem all_G : bigSep Finset.univ (G (F := F)) = BI.own (ER (launchOf barCells scCells toks)) := by
  rw [bigSep_univ_at _ (0 : Dev nD), bigSep_congr (s := Finset.univ.erase 0) (Ψ := fun _ => (BI.emp : sProp (MT nD τ sig Unit (Elt F) ℕ UU ℕ)))
      fun c hc => by unfold G; rw [if_neg (Finset.ne_of_mem_erase hc)]; rfl, BI.bigSep_emp_const]
  unfold G; rw [if_pos rfl]
  exact BI.equiv_iff.mp sep_emp

/-- What a device has before its first operation. -/
abbrev T₀ (c : Dev nD) : sProp (MT nD τ sig Unit (Elt F) ℕ UU ℕ) := iprop(StableHlo.held (c.tc : Thread nD τ) (Pipeline.ucRefs τ sig) (Va m c) ∗ Rh m c)
/-- What a device ends with. -/
abbrev Tₙ (c : Dev nD) : sProp (MT nD τ sig Unit (Elt F) ℕ UU ℕ) := iprop(StableHlo.held (c.tc : Thread nD τ) (Pipeline.ucRefs τ sig) (Vg m c) ∗ semVal (barCell c) 0)

/-- Of a device's share at launch, what is not the protocol's ghost state, -/
def plain (c : Dev nD) : sProp (MT nD τ sig Unit (Elt F) ℕ UU ℕ) :=
  iprop(StableHlo.held (c.tc : Thread nD τ) (Pipeline.ucRefs τ sig) (Va m c)
    ∗ (cred (tallyAt (barCell c) () 3) ∗ arrive c (crd (F := F) c) 1 ∗ arrive c (crd (F := F) c) 2 ∗ arrive c (crd (F := F) c) 3)
    ∗ owes (c : Thread nD τ) (O₀ c) ∅ ∗ ∃ r, prngReg c r)
/-- and what is. -/
def ghost (c : Dev nD) : sProp (MT nD τ sig Unit (Elt F) ℕ UU ℕ) :=
  iprop(atPos ER (barCell c) 0 ∅ 0 ∗ (bigSep Finset.univ fun k => openTok ER (cell c k)) ∗ barToks (F := F) c ∗ bigSep Finset.univ (tok (F := F) c))

/-- The records, a device's ghost state and its plain resources are what the device starts from. -/
theorem T₀_of (K : GSem nD τ sig → ℕ) : iprop(records (inp m) K ∗ ghost (F := F) c ∗ plain m c) ⊢ T₀ m c := by
  unfold ghost plain T₀ Rh Tk ow
  iintro ⟨#HR, ⟨Ha, Ho, Hb, Ht⟩, Hh, ⟨Hc, C₁, C₂, C₃⟩, HO, Hp⟩
  isplitl [Hh]; · iexact Hh
  isplitr [Hp HO]
  · isplitr; · iexists K; iexact HR
    isplitl [Ho]; · iexact Ho
    isplitl [Hb]; · iexact Hb
    isplitl [Hc]; · iexact Hc
    isplitl [Ha]; · iexact Ha
    isplitl [Ht]; · iexact Ht
    isplitl [C₁]; · iexact C₁
    isplitl [C₂]; · iexact C₂
    iexact C₃
  isplitl [Hp]; · iexact Hp
  iexists ∅; iexact HO

/-- The program's only semaphore outside the kernel is the barrier's. -/
theorem unscoped_bar : (unscopedSems0 c : sProp (MT nD τ sig Unit (Elt F) ℕ UU ℕ)) = semVal (barCell c) 0 := by
  unfold unscopedSems0
  rw [show (Finset.univ.filter fun sm : SemLoc sig => ¬ sm.isScoped .tc) = {SemLoc.reg barS} from by decide, BI.bigSep_singleton]

/-- One device's share at launch, sorted. -/
theorem sort_one : iprop(unscopedBufs c (fun b => m ((c : Thread nD τ).loc b)) ∗ unscopedSems0 c
      ∗ owes (c : Thread nD τ) (O₀ c) ∅ ∗ Pipeline.launchCred O₀ c ∗ prngReg c (ρ c) ∗ G (F := F) c)
    ⊢ iprop(plain m c ∗ semVal (barCell c) 0 ∗ G (F := F) c) := by
  rw [show unscopedBufs c (fun b => m ((c : Thread nD τ).loc b)) = StableHlo.held (c.tc : Thread nD τ) (Pipeline.ucRefs τ sig) (Va m c) from Pipeline.unscopedBufs_held c (Va m c),
    unscoped_bar]
  unfold plain
  iintro ⟨Hh, Hs, HO, Hc, Hp, HG⟩
  ihave Hc := (credits (F := F) c) $$ Hc
  isplitr [Hs HG]
  · isplitl [Hh]; · iexact Hh
    isplitl [Hc]; · iexact Hc
    isplitl [HO]; · iexact HO
    iexists (ρ c); iexact Hp
  isplitl [Hs]; · iexact Hs
  iexact HG

/-- The launch dealt: every invariant allocated, every device given its start. -/
theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G (F := F) c)) ∗ levAts L lv)
      ⊢ (|={Set.univ}=> bigSep Finset.univ (T₀ m) : sProp (MT nD τ sig Unit (Elt F) ℕ UU ℕ)) := by
  have hv : bigSep Finset.univ (fun c : Dev nD => (semVal (barCell c) 0 : sProp (MT nD τ sig Unit (Elt F) ℕ UU ℕ))) ⊢ bigSep barCells (fun g => (semVal g 0 : sProp (MT nD τ sig Unit (Elt F) ℕ UU ℕ))) :=
    Entails.of_eq (bigSep_map (s := Finset.univ) barEmb (Φ := fun g : GSem nD τ sig => (semVal g 0 : sProp (MT nD τ sig Unit (Elt F) ℕ UU ℕ)))).symm
  have ha : bigSep barCells (fun g => (atPos ER g 0 ∅ 0 : sProp (MT nD τ sig Unit (Elt F) ℕ UU ℕ))) ⊢ bigSep Finset.univ (fun c : Dev nD => (atPos ER (barCell c) 0 ∅ 0 : sProp (MT nD τ sig Unit (Elt F) ℕ UU ℕ))) :=
    Entails.of_eq (bigSep_map (s := Finset.univ) barEmb (Φ := fun g : GSem nD τ sig => (atPos ER g 0 ∅ 0 : sProp (MT nD τ sig Unit (Elt F) ℕ UU ℕ))))
  have ho : bigSep scCells (fun g => (openTok ER g : sProp (MT nD τ sig Unit (Elt F) ℕ UU ℕ)))
      ⊢ bigSep Finset.univ (fun c : Dev nD => bigSep Finset.univ fun k : CK => openTok ER (cell c k)) :=
    Entails.of_eq (by rw [bigSep_map, bigSep_univ_prod]; rfl)
  iintro ⟨H, -⟩
  ihave H := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G (F := F) c))
      ⊢ (iprop(bigSep Finset.univ (plain m) ∗ bigSep Finset.univ (fun c : Dev nD => semVal (barCell c) 0) ∗ bigSep Finset.univ (G (F := F)))
        : sProp (MT nD τ sig Unit (Elt F) ℕ UU ℕ)) from
    (bigSep_mono fun c _ => sort_one m ρ c).trans (Entails.of_eq ((bigSep_sep' Finset.univ (plain m) (fun c : Dev nD => iprop(semVal (barCell c) 0 ∗ G (F := F) c))).trans
      (congrArg (fun X => iprop(bigSep Finset.univ (plain m) ∗ X)) (bigSep_sep' Finset.univ (fun c : Dev nD => (semVal (barCell c) 0 : sProp (MT nD τ sig Unit (Elt F) ℕ UU ℕ))) (G (F := F))))))) $$ H
  icases H with ⟨HB, Hv, HG⟩
  ihave Hu := (Entails.of_eq (all_G (F := F))) $$ HG
  imod (Rounds.fund_launch ER (Rd (inp m)) disjoint_cells (fun g _ h => h) toks) $$ [Hv Hu] with ⟨%K, -, #Hinv, #Hr, Hat, Hopen, Htok⟩
  · isplitl [Hv]
    · iapply hv $$ Hv
    · iexact Hu
  imodintro
  iapply (bigSep_with_persistent (R := records (inp m) K) (Φ := fun c => iprop(ghost (F := F) c ∗ plain m c)) fun c _ => T₀_of m c K)
  isplitr
  · unfold records
    isplitr; · iexact Hinv
    iexact Hr
  iapply (Entails.of_eq (bigSep_sep' Finset.univ (ghost (F := F)) (plain m)).symm)
  isplitr [HB]
  · unfold ghost
    iapply (Entails.of_eq (bigSep_sep' Finset.univ (fun c : Dev nD => (atPos ER (barCell c) 0 ∅ 0 : sProp (MT nD τ sig Unit (Elt F) ℕ UU ℕ))) _).symm)
    isplitl [Hat]; · iapply ha $$ Hat
    iapply (Entails.of_eq (bigSep_sep' Finset.univ (fun c : Dev nD => bigSep Finset.univ fun k : CK => (openTok ER (cell c k) : sProp (MT nD τ sig Unit (Elt F) ℕ UU ℕ))) _).symm)
    isplitl [Hopen]; · iapply ho $$ Hopen
    iapply (deal_toks (F := F)) $$ Htok
  · iexact HB

/-- The buffers held by a device at the end are what memory holds there. -/
theorem read_all (S : Finset (DevRef τ sig)) (V : Valuation τ sig (Elt F)) (s' : Phys nD τ sig (Elt F)) :
    iprop(StableHlo.held (c.tc : Thread nD τ) S V ∗ SI s') ⊢ (<pers> ⌜∀ b ∈ S, s'.mem.mem (c, b) = V b⌝ : sProp (MT nD τ sig Unit (Elt F) ℕ UU ℕ)) := by
  have one : ∀ b ∈ S, iprop(StableHlo.held (c.tc : Thread nD τ) S V ∗ SI s') ⊢ (⌜s'.mem.mem (c, b) = V b⌝ : sProp (MT nD τ sig Unit (Elt F) ℕ UU ℕ)) := fun b hb => by
    refine (sep_mono (bigSep_elim hb) .rfl).trans ?_
    iintro ⟨Hx, HSI⟩
    icombine HSI Hx gives %hx
    ipureintro
    exact Buf.eq_of_forall_mem_univ hx
  exact (show iprop(StableHlo.held (c.tc : Thread nD τ) S V ∗ SI s') ⊢ (⌜∀ b ∈ S, s'.mem.mem (c, b) = V b⌝ : sProp (MT nD τ sig Unit (Elt F) ℕ UU ℕ)) from
    fun x hx b hb => one b hb x hx).trans Laws.persistently_pure.2

/-- The barrier's semaphore is the only one of a device that outlives the kernel. -/
theorem unscoped_eq : ∀ sm : SemLoc sig, sm.isScoped .tc = false → sm = .reg barS := by decide

set_option backward.isDefEq.respectTransparency.types false in
/-- Every run of the program from any memory ends, with the buffers between kernels as computed and every semaphore down. -/
theorem run_main : θ_run (defs (F := F)) (onTc (τ := τ) (main (F := F))) ⟨m, fun _ => 0, ρ⟩
    (fun r => (∀ c : Dev nD, ∀ b : DevRef τ sig, b ∈ Pipeline.ucRefs τ sig → r.2.mem (c, b) = Vg m c b) ∧ r.2.sem = fun _ => 0) :=
  Pipeline.θ_run_regions_kit_sems (pcfgs (F := F)) adm (pdats m) () cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := O₀) (hL := L_of_ne) (G := G) (u₀ := u₀)
    (hu₀ := by
      unfold u₀
      iintro Hu
      ihave H := (ownU_pair _ _) $$ Hu
      icases H with ⟨HP, HX⟩
      imodintro
      isplitl [HP]; · iexact HP
      rw [all_G]; iexact HX)
    (T₀ := T₀ m) (Tₙ := Tₙ m)
    (hch := ⟨fun _ => .rfl, fun _ => .rfl, fun _ => .rfl, fun _ => .rfl, fun _ => .rfl, fun c => reg0_pre m c, fun c => reg0_post m c⟩)
    (hinit := init m ρ)
    (QY := fun c s => (∀ b ∈ Pipeline.ucRefs τ sig, s.mem (c, b) = Vg m c b) ∧ s.sem (barCell c) = 0)
    (hfin := fun c s' => by
      iintro ⟨⟨Hh, Hb⟩, HSI⟩
      icombine HSI Hb gives %hb
      ihave #Hm := (read_all c (Pipeline.ucRefs τ sig) (Vg m c) s') $$ [Hh HSI]
      · isplitl [Hh]
        · iexact Hh
        iexact HSI
      icases Hm with %hm
      imodintro
      isplitr
      · ipureintro
        exact ⟨hm, by simpa using hb⟩
      iexact HSI)
    (hQ := fun s h hs => ⟨fun c => (h c).1, sem_eq_zero hs fun c sm hsm => by
        obtain rfl := unscoped_eq sm hsm
        exact (h c).2⟩)

/-- The result buffer of every device ends holding what the devices computed together. -/
theorem Vg_out : Vg m c (Proc.devRef .tc main_v20) = OUT (inp m) c := Function.update_self _ _ _

/-- A buffer no operation before the kernel writes, and not the result, ends as it began. -/
theorem Vg_arg (b : Ref sig .tc) (hb : b ≠ main_v20) (h : Vf m c (Proc.devRef .tc b) = m (c, Proc.devRef .tc b)) :
    Vg m c (Proc.devRef .tc b) = m (c, Proc.devRef .tc b) :=
  (Function.update_of_ne (StableHlo.devRef_ne_of_ne hb) _ _).trans h

/-- The run, in the words of the claims: result and arguments of every device, and every semaphore down. -/
theorem run_kernel : θ_run (defs (F := F)) (onTc (τ := τ) (main (F := F))) ⟨m, fun _ => 0, ρ⟩
    (fun r => (∀ c : Dev nD, r.2.mem ((c.tc : Thread nD τ).loc main_v20) = OUT (inp m) c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run _ _ _).mono (fun r h => ⟨fun c =>
    ⟨(h.1 c (Proc.devRef .tc main_v20) (by decide)).trans (Vg_out m c),
      (h.1 c (Proc.devRef .tc main_arg0) (by decide)).trans (Vg_arg m c main_arg0 (by decide) (Gen.V_main_arg0 m c)),
      (h.1 c (Proc.devRef .tc main_arg1) (by decide)).trans (Vg_arg m c main_arg1 (by decide) (Gen.V_main_arg1 m c)),
      (h.1 c (Proc.devRef .tc main_arg2) (by decide)).trans (Vg_arg m c main_arg2 (by decide) (Gen.V_main_arg2 m c)),
      (h.1 c (Proc.devRef .tc main_arg3) (by decide)).trans (Vg_arg m c main_arg3 (by decide) (Gen.V_main_arg3 m c)),
      (h.1 c (Proc.devRef .tc main_arg4) (by decide)).trans (Vg_arg m c main_arg4 (by decide) (Gen.V_main_arg4 m c))⟩, h.2⟩) (run_main m ρ)

end

end Cert.KernelIdeal.Mesh
-- ==== Proof.Frames.lean ====
/- The frames: each program runs, leaves its arguments alone, and ends with every semaphore down. -/
module

public import proofs.«01_k».proof.Defs
public import proofs.«01_k».proof.Proof.Main
public import proofs.«01_k».proof.Proof.Gen.Kernel
public import proofs.«01_k».proof.Proof.Gen.ReferenceIdeal.Run
public import proofs.«01_k».proof.Proof.Gen.Pre_finite_KernelIdeal
public import proofs.«01_k».proof.Proof.Gen.Pre_finite_ReferenceIdeal
public import Idealize.ShloMosaic.Lib.Quiescent

@[expose] public section

noncomputable section

namespace Cert.Proof

open Idealize.ShloMosaic Idealize.SL.Sem

/-- The two printed programs have one body table: their text is the same. -/
theorem same_table : @Cert.Kernel.defs₀ Bits _ _ = @Cert.KernelIdeal.defs₀ Bits _ _ := by
  unfold Cert.Kernel.defs₀ Cert.KernelIdeal.defs₀
  refine congrArg Defs.onTc (funext fun l => funext fun a => ?_)
  match l, a with
  | 0, (t, s) => rfl
  | ⟨_ + 1, h⟩, _ => exact absurd h (Nat.not_lt.2 (Nat.le_add_left _ _))

/-- So the definitions the two programs run with are the same. -/
theorem same_defs : Cert.Kernel.defs (F := Bits) = Cert.KernelIdeal.defs (F := Bits) :=
  congrArg (Pipeline.defs (Cert.KernelIdeal.pcfgs (F := Bits))) same_table

/-- The kernel as it is compiled: the run is stated over any float values, and taken here at the machine's own. -/
theorem frame_kernel : Cert.quiescent_Kernel := fun m ρ _ => by
  rw [same_defs]
  exact (θ_run Cert.KernelIdeal.defs _ _).mono (fun _ h => ⟨fun c => (h.1 c).2, h.2⟩) (Cert.KernelIdeal.Mesh.run_kernel (F := Bits) m ρ)

/-- The kernel over the extended reals. -/
theorem frame_ideal : Cert.quiescent_KernelIdeal := fun m ρ _ =>
  (θ_run Cert.KernelIdeal.defs _ _).mono (fun _ h => ⟨fun c => (h.1 c).2, h.2⟩) (Cert.KernelIdeal.Mesh.run_kernel (F := Ideal) m ρ)

/-- The reference, which declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same, of the inputs the value claim speaks of. -/
theorem frame_ideal_pre : Cert.quiescent_KernelIdeal_pre_finite_KernelIdeal := fun m ρ _ => frame_ideal m ρ trivial

/-- The same, of the inputs the value claim speaks of. -/
theorem frame_reference_pre : Cert.quiescent_ReferenceIdeal_pre_finite_ReferenceIdeal := fun m ρ _ => frame_reference m ρ trivial

end Cert.Proof
-- ==== Proof.Spec.lean ====
/- The mathematics of the kernel and of its reference on plain arrays of extended reals, and their equation: four devices hold
   four blocks of every sharded array; the codes and scales are those of each device's own block. -/
module

public import Idealize.ShloMosaic.PureOps.Ideal
public import Idealize.ShloMosaic.PureOps.Reduce
public import Idealize.ShloMosaic.Lib.Pointwise.Index
public import Idealize.ShloMosaic.Lib.ValueIdx
public import Mathlib.Data.EReal.Inv

@[expose] public section

noncomputable section

namespace Cert.Attn

open Idealize.ShloMosaic
open scoped BigOperators

/-! ## Real values among the extended reals -/

/-- The extended real is a real number. -/
def IsReal (x : EReal) : Prop := ∃ r : ℝ, x = (r : EReal)

/-- The product of two reals is real. -/
theorem isReal_mul {x y : EReal} (hx : IsReal x) (hy : IsReal y) : IsReal (x * y) := by
  obtain ⟨a, rfl⟩ := hx
  obtain ⟨b, rfl⟩ := hy
  exact ⟨a * b, (EReal.coe_mul a b).symm⟩

/-- A finite sum of real numbers, taken among the extended reals, is the real sum. -/
theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- A sum of reals is real. -/
theorem isReal_sum {ι : Type} (s : Finset ι) (f : ι → EReal) (h : ∀ i ∈ s, IsReal (f i)) : IsReal (∑ i ∈ s, f i) := by
  classical
  induction s using Finset.induction_on with
  | empty => exact ⟨0, by simp⟩
  | insert a s ha ih =>
    rw [Finset.sum_insert ha]
    obtain ⟨u, hu⟩ := h a (Finset.mem_insert_self a s)
    obtain ⟨w, hw⟩ := ih fun i hi => h i (Finset.mem_insert_of_mem hi)
    exact ⟨u + w, by rw [hu, hw, EReal.coe_add]⟩

/-- A finite sum times a real number that is not negative: the factor goes inside, whatever the terms. -/
theorem sum_mul_real {ι : Type} (s : Finset ι) (f : ι → EReal) {r : ℝ} (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha, ← ih]
    exact EReal.right_distrib_of_nonneg_of_ne_top (by exact_mod_cast hr) (EReal.coe_ne_top r) _ _

/-- The exponential of a real. -/
theorem exp_coe (r : ℝ) : Ideal.exp (r : EReal) = (Real.exp r : EReal) := rfl
/-- The exponential of minus infinity is zero. -/
theorem exp_bot : Ideal.exp ⊥ = 0 := rfl

/-- The two constants of the programs are real, and the divisor is not zero. -/
theorem c127 : Ideal.ofBits .f32 0x42FE0000#32 = ((127 : ℝ) : EReal) := by
  simp [Ideal.ofBits, Ideal.ieee, -EReal.coe_mul]; norm_num
/-- The factor of the scores is real. -/
theorem c18 : IsReal (Ideal.ofBits .f32 0x3E000000#32) := by
  refine ⟨1 / 8, ?_⟩
  simp [Ideal.ofBits, Ideal.ieee, -EReal.coe_mul]; norm_num
/-- The programs' one is the number 1. -/
theorem c1 : Ideal.ofBits .f32 0x3F800000#32 = ((1 : ℝ) : EReal) := by
  simp [Ideal.ofBits, Ideal.ieee, -EReal.coe_mul]; norm_num
/-- The reference's mask value is minus infinity. -/
theorem cinf : Ideal.ofBits .f32 0xFF800000#32 = ⊥ := by
  simp [Ideal.ofBits, Ideal.ieee, -EReal.coe_mul]

/-! ## Maxima and sums over sets of indices -/

/-- A host maximum from minus infinity is the least upper bound over the indices that drop to the result's. -/
theorem hostMax_eq {s t u : Shape} {axes : List (Fin s.rank)} (x : s.Idx → EReal) (init : u.Idx → EReal) (h : s.ReducesTo axes t)
    (hu : 0 < u.numel) (j : t.Idx) (hi : init (Shape.Idx.first hu) = ⊥) :
    Host.reduce (FloatOps.maximumf (F := Ideal) (φ := .f32)) x init h hu j = (Finset.univ.filter fun i => h.drop i = j).sup x := by
  show Host.reduce (max : EReal → EReal → EReal) x init h hu j = _
  rw [Host.reduce_eq_fold, hi]
  rfl

/-- A host disjunction over indices one of which holds. -/
theorem hostOr_eq {s t u : Shape} {axes : List (Fin s.rank)} (x : s.Idx → BitVec 1) (init : u.Idx → BitVec 1) (h : s.ReducesTo axes t)
    (hu : 0 < u.numel) (j : t.Idx) (i : s.Idx) (hd : h.drop i = j) (hi : x i = 1#1) : Host.reduce IntOp.ori x init h hu j = 1#1 := by
  classical
  have hm : i ∈ Finset.univ.filter fun i => h.drop i = j := Finset.mem_filter.2 ⟨Finset.mem_univ _, hd⟩
  rw [Host.reduce_eq_fold, ← Finset.insert_erase hm, Finset.fold_insert (Finset.notMem_erase _ _), hi]
  generalize Finset.fold IntOp.ori (init (Shape.Idx.first hu)) x _ = y
  revert y
  decide

/-- A host conjunction that holds: every element dropping there does. -/
theorem hostAnd_eq {s t u : Shape} {axes : List (Fin s.rank)} (x : s.Idx → BitVec 1) (init : u.Idx → BitVec 1) (h : s.ReducesTo axes t)
    (hu : 0 < u.numel) (j : t.Idx) (hr : Host.reduce IntOp.andi x init h hu j = 1#1) (i : s.Idx) (hd : h.drop i = j) : x i = 1#1 := by
  classical
  have hm : i ∈ Finset.univ.filter fun i => h.drop i = j := Finset.mem_filter.2 ⟨Finset.mem_univ _, hd⟩
  rw [Host.reduce_eq_fold, ← Finset.insert_erase hm, Finset.fold_insert (Finset.notMem_erase _ _)] at hr
  revert hr
  generalize Finset.fold IntOp.andi (init (Shape.Idx.first hu)) x _ = y
  generalize x i = z
  revert y z
  decide

/-- A least upper bound over a set is the one over any family that runs through exactly that set. -/
theorem sup_over {ι κ : Type} [Fintype κ] (s : Finset ι) (f : ι → EReal) (g : κ → ι) (hg : ∀ k, g k ∈ s)
    (hs : ∀ i ∈ s, ∃ k, g k = i) : s.sup f = Finset.univ.sup fun k => f (g k) := by
  refine le_antisymm (Finset.sup_le fun i hi => ?_) (Finset.sup_le fun k _ => Finset.le_sup (f := f) (hg k))
  obtain ⟨k, rfl⟩ := hs i hi
  exact Finset.le_sup (f := fun k => f (g k)) (Finset.mem_univ k)

/-- Place `j` of block `p` among 512 columns, as a correspondence. -/
def colE : Fin 4 × Fin 128 ≃ Fin 512 where
  toFun j := ⟨128 * j.1.val + j.2.val, by omega⟩
  invFun n := (⟨n.val / 128, by omega⟩, ⟨n.val % 128, by omega⟩)
  left_inv j := by
    have := j.2.isLt
    exact Prod.ext (Fin.ext (by show (128 * j.1.val + j.2.val) / 128 = _; omega)) (Fin.ext (by show (128 * j.1.val + j.2.val) % 128 = _; omega))
  right_inv n := Fin.ext (by show 128 * (n.val / 128) + n.val % 128 = _; omega)

/-- Channel `d` of head `h` of device `c`, among 1024, as a correspondence. -/
def chanE : Fin 4 × Fin 4 × Fin 64 ≃ Fin 1024 where
  toFun q := ⟨256 * q.1.val + 64 * q.2.1.val + q.2.2.val, by omega⟩
  invFun n := (⟨n.val / 256, by omega⟩, ⟨n.val / 64 % 4, by omega⟩, ⟨n.val % 64, by omega⟩)
  left_inv q := by
    have := q.2.1.isLt
    have := q.2.2.isLt
    refine Prod.ext (Fin.ext ?_) (Prod.ext (Fin.ext ?_) (Fin.ext ?_))
    · show (256 * q.1.val + 64 * q.2.1.val + q.2.2.val) / 256 = _; omega
    · show (256 * q.1.val + 64 * q.2.1.val + q.2.2.val) / 64 % 4 = _; omega
    · show (256 * q.1.val + 64 * q.2.1.val + q.2.2.val) % 64 = _; omega
  right_inv n := Fin.ext (by show 256 * (n.val / 256) + 64 * (n.val / 64 % 4) + n.val % 64 = _; omega)

/-! ## The quantiser -/

/-- A block of keys or of values: batch, place, head, channel. -/
abbrev Blk : Type := (⟨4, ![2, 128, 16, 64]⟩ : Shape).Idx → EReal

/-- The greatest absolute value of a block. -/
def peak (B : Blk) : EReal := Finset.univ.sup fun i => max (B i) (-(B i))
/-- Its scale: that peak over 127. -/
def scale (B : Blk) : EReal := Ideal.div (peak B) (Ideal.ofBits .f32 0x42FE0000#32)
/-- The signed code of a value at a scale: divide, round half to even, clip to ±127, take the low eight bits. -/
def code1 (s v : EReal) : BitVec 8 :=
  (Ideal.fptosi 32 (min (((127#32 : BitVec 32).toInt : ℝ) : EReal)
    (max (((4294967169#32 : BitVec 32).toInt : ℝ) : EReal) (Ideal.liftRound Ideal.roundHalfEven (Ideal.div v s))))).setWidth 8
/-- The code of an element of a block. -/
def code (B : Blk) (i : (⟨4, ![2, 128, 16, 64]⟩ : Shape).Idx) : BitVec 8 := code1 (scale B) (B i)
/-- The number a code stands for. -/
def num (k : BitVec 8) : EReal := ((k.toInt : ℝ) : EReal)

/-- A code's number is real. -/
theorem isReal_num (k : BitVec 8) : IsReal (num k) := ⟨_, rfl⟩

/-- A block's scale is a real number or infinite. -/
theorem scale_cases (B : Blk) : IsReal (scale B) ∨ scale B = ⊤ := by
  obtain ⟨i, -, hi⟩ := Finset.exists_mem_eq_sup (Finset.univ : Finset (⟨4, ![2, 128, 16, 64]⟩ : Shape).Idx)
    ⟨ix4 0 0 0 0, Finset.mem_univ _⟩ fun i => max (B i) (-(B i))
  have hp : IsReal (peak B) ∨ peak B = ⊤ := by
    unfold peak
    rw [hi]
    induction B i with
    | bot => right; simp
    | top => right; simp
    | coe r => exact .inl ⟨max r (-r), by rw [← EReal.coe_neg]; exact (EReal.coe_strictMono.monotone.map_max (a := r) (b := -r)).symm⟩
  unfold scale
  rw [c127, Ideal.div_coe (by norm_num)]
  rcases hp with hp | hp
  · exact .inl (isReal_mul hp ⟨_, rfl⟩)
  · rw [hp]
    exact .inr (EReal.top_mul_coe_of_pos (by norm_num))

/-- Under an infinite scale every code is zero. -/
theorem num_code_top (B : Blk) (h : scale B = ⊤) (i : (⟨4, ![2, 128, 16, 64]⟩ : Shape).Idx) : num (code B i) = 0 := by
  have hd : Ideal.div (B i) ⊤ = ((0 : ℝ) : EReal) := by simp [Ideal.div]
  have hr : Ideal.liftRound Ideal.roundHalfEven ((0 : ℝ) : EReal) = ((0 : ℝ) : EReal) := by
    refine Eq.trans (b := ((Ideal.roundHalfEven 0 : ℝ) : EReal)) rfl ?_
    simp [Ideal.roundHalfEven]
  have hc : min (((127#32 : BitVec 32).toInt : ℝ) : EReal) (max (((4294967169#32 : BitVec 32).toInt : ℝ) : EReal) ((0 : ℝ) : EReal))
      = ((0 : ℝ) : EReal) := by
    have h1 : (4294967169#32 : BitVec 32).toInt = -127 := by decide
    have h2 : (127#32 : BitVec 32).toInt = 127 := by decide
    rw [h1, h2, max_eq_right (EReal.coe_le_coe_iff.2 (by norm_num)), min_eq_right (EReal.coe_le_coe_iff.2 (by norm_num))]
  have hz : (Ideal.fptosi 32 ((0 : ℝ) : EReal)).setWidth 8 = 0#8 := by
    have ht : Ideal.fptosi 32 ((0 : ℝ) : EReal)
        = BitVec.ofInt 32 (max (-(2 ^ (32 - 1) : Nat)) (min ((2 ^ (32 - 1) : Nat) - 1) (if (0 : ℝ) ≤ 0 then ⌊(0 : ℝ)⌋ else ⌈(0 : ℝ)⌉))) := rfl
    rw [ht, if_pos le_rfl, Int.floor_zero]
    decide
  unfold code code1
  rw [h, hd, hr, hc, hz]
  simp [num]

/-! ## Softmax with and without the maximum taken off -/

/-- Normalising exponentials of scores less their greatest, and scaling a sum of plain exponentials by one over theirs, weigh
    any extended-real values alike, when the scores are real and some key is seen. -/
theorem softmax {ι : Type} [Fintype ι] (seen : ι → Prop) [DecidablePred seen] (s : ι → ℝ) (v : ι → EReal) (hx : ∃ i, seen i) :
    let S : ι → EReal := fun i => if seen i then (s i : EReal) else ⊥
    let w : ι → EReal := fun i => Ideal.exp (S i - Finset.univ.sup S)
    let e : ι → EReal := fun i => if seen i then Ideal.exp (s i : EReal) else 0
    (∑ i, v i * Ideal.div (w i) (∑ j, w j)) = (∑ i, e i * v i) * Ideal.div 1 (∑ j, e j) := by
  intro S w e
  obtain ⟨i₁, h₁⟩ := hx
  obtain ⟨i₀, -, h₀⟩ := Finset.exists_mem_eq_sup (Finset.univ : Finset ι) ⟨i₁, Finset.mem_univ _⟩ S
  have hs : seen i₀ := by
    by_contra hn
    have hle : S i₁ ≤ Finset.univ.sup S := Finset.le_sup (Finset.mem_univ i₁)
    rw [h₀] at hle
    simp only [S, if_pos h₁, if_neg hn] at hle
    exact EReal.coe_ne_bot _ (le_bot_iff.1 hle)
  have hM : Finset.univ.sup S = ((s i₀ : ℝ) : EReal) := by rw [h₀]; simp only [S, if_pos hs]
  let er : ι → ℝ := fun i => if seen i then Real.exp (s i) else 0
  have her : ∀ i, 0 ≤ er i := fun i => by
    by_cases h : seen i
    · simp only [er, if_pos h]; exact (Real.exp_pos _).le
    · simp only [er, if_neg h]; exact le_refl _
  have hw : ∀ i, w i = ((er i * Real.exp (-(s i₀)) : ℝ) : EReal) := fun i => by
    simp only [w, hM, S, er]
    by_cases h : seen i
    · rw [if_pos h, if_pos h, ← EReal.coe_sub, exp_coe, ← Real.exp_add, sub_eq_add_neg]
    · rw [if_neg h, if_neg h, EReal.bot_sub, exp_bot]; simp
  have he : ∀ i, e i = (er i : EReal) := fun i => by
    simp only [e, er]
    by_cases h : seen i
    · rw [if_pos h, if_pos h, exp_coe]
    · rw [if_neg h, if_neg h]; simp
  have hE : 0 < ∑ i, er i :=
    Finset.sum_pos' (fun i _ => her i) ⟨i₁, Finset.mem_univ _, by simp only [er, if_pos h₁]; exact Real.exp_pos _⟩
  have hpos : 0 < Real.exp (-(s i₀)) := Real.exp_pos _
  have hW : ∑ j, w j = (((∑ i, er i) * Real.exp (-(s i₀)) : ℝ) : EReal) := by
    rw [Finset.sum_congr rfl fun i _ => hw i, coe_sum, Finset.sum_mul]
  have hE' : ∑ j, e j = ((∑ i, er i : ℝ) : EReal) := by
    rw [Finset.sum_congr rfl fun i _ => he i, coe_sum]
  rw [hW, hE', Ideal.div_coe hE.ne', one_mul, sum_mul_real _ _ (one_div_nonneg.2 hE.le)]
  refine Finset.sum_congr rfl fun i _ => ?_
  have hr : er i * Real.exp (-(s i₀)) * (1 / ((∑ i, er i) * Real.exp (-(s i₀)))) = er i * (1 / ∑ i, er i) := by
    field_simp
  rw [hw, he, Ideal.div_coe (mul_pos hE hpos).ne', ← EReal.coe_mul, hr, EReal.coe_mul, mul_comm (er i : EReal) (v i), mul_assoc]

/-! ## The two computations -/

/-- What the four devices hold: one copy of the activations and four blocks of each sharded array. -/
structure Args where
  x : (⟨3, ![2, 128, 512]⟩ : Shape).Idx → EReal
  wq : Fin 4 → (⟨2, ![512, 256]⟩ : Shape).Idx → EReal
  k : Fin 4 → Blk
  v : Fin 4 → Blk
  wo : Fin 4 → (⟨2, ![256, 512]⟩ : Shape).Idx → EReal

/-- Head `h` of device `c`, among the sixteen. -/
def hd (c h : Fin 4) : Fin 16 := ⟨4 * c.val + h.val, by omega⟩
/-- Channel `d` of head `h`, among one device's 256. -/
def ch (h : Fin 4) (d : Fin 64) : Fin 256 := ⟨64 * h.val + d.val, by omega⟩

variable (A : Args)

/-- The query of device `c`'s head `h`. -/
def qry (c : Fin 4) (b : Fin 2) (h : Fin 4) (i : Fin 128) (d : Fin 64) : EReal :=
  ∑ n : Fin 512, A.x (ix3 b i n) * A.wq c (ix2 n (ch h d))
/-- The key and value codes, as numbers, at place `j.2` of block `j.1`. -/
def kc (b : Fin 2) (g : Fin 16) (j : Fin 4 × Fin 128) (d : Fin 64) : EReal := num (code (A.k j.1) (ix4 b j.2 g d))
def vc (b : Fin 2) (g : Fin 16) (j : Fin 4 × Fin 128) (d : Fin 64) : EReal := num (code (A.v j.1) (ix4 b j.2 g d))
/-- Query `i` sees key `j`. -/
def seen (i : Fin 128) (j : Fin 4 × Fin 128) : Prop := 128 * j.1.val + j.2.val ≤ i.val + 128 ∨ i.val < 32

instance (i : Fin 128) : DecidablePred (seen i) := fun _ => instDecidableOr

/-- The score factor, one over eight. -/
def eighth : EReal := Ideal.ofBits .f32 0x3E000000#32

/-- The kernel's weight, denominator and context. -/
def kw (c : Fin 4) (b : Fin 2) (h : Fin 4) (i : Fin 128) (j : Fin 4 × Fin 128) : EReal :=
  if seen i j then Ideal.exp ((∑ d, qry A c b h i d * kc A b (hd c h) j d) * (scale (A.k j.1) * eighth)) else 0
def kden (c : Fin 4) (b : Fin 2) (h : Fin 4) (i : Fin 128) : EReal := ∑ j, kw A c b h i j
def kctx (c : Fin 4) (b : Fin 2) (h : Fin 4) (i : Fin 128) (d : Fin 64) : EReal :=
  (∑ j, (kw A c b h i j * scale (A.v j.1)) * vc A b (hd c h) j d) * Ideal.div 1 (kden A c b h i)

/-- The reference's score, weight, weight over its sum, and context. -/
def rs (c : Fin 4) (b : Fin 2) (h : Fin 4) (i : Fin 128) (j : Fin 4 × Fin 128) : EReal :=
  if seen i j then (∑ d, qry A c b h i d * (kc A b (hd c h) j d * scale (A.k j.1))) * eighth else ⊥
def rw' (c : Fin 4) (b : Fin 2) (h : Fin 4) (i : Fin 128) (j : Fin 4 × Fin 128) : EReal :=
  Ideal.exp (rs A c b h i j - Finset.univ.sup (rs A c b h i))
def rctx (c : Fin 4) (b : Fin 2) (h : Fin 4) (i : Fin 128) (d : Fin 64) : EReal :=
  ∑ j, (vc A b (hd c h) j d * scale (A.v j.1)) * Ideal.div (rw' A c b h i j) (∑ j', rw' A c b h i j')

/-- An output from the contexts: over the devices, over each one's 256 rows of the output weights. -/
def out (ctx : Fin 4 → Fin 2 → Fin 4 → Fin 128 → Fin 64 → EReal) (b : Fin 2) (i : Fin 128) (o : Fin 512) : EReal :=
  ∑ c, ∑ h, ∑ d, ctx c b h i d * A.wo c (ix2 (ch h d) o)

/-- Every query sees the key at its own place in the first block. -/
theorem seen_self (i : Fin 128) : seen i (0, i) := Or.inl (by show 128 * 0 + i.val ≤ i.val + 128; omega)

/-- On real activations and query weights the two contexts are one, whatever the keys and values. -/
theorem kctx_eq_rctx (hx : ∀ i, IsReal (A.x i)) (hw : ∀ c i, IsReal (A.wq c i)) : kctx A = rctx A := by
  funext c b h i d
  have hq : ∀ d, IsReal (qry A c b h i d) := fun d => isReal_sum _ _ fun n _ => isReal_mul (hx _) (hw _ _)
  choose q hq using hq
  obtain ⟨u, hu⟩ := c18
  have hs : ∀ j : Fin 4 × Fin 128, ∃ s : ℝ, (∑ d, qry A c b h i d * kc A b (hd c h) j d) * (scale (A.k j.1) * eighth) = (s : EReal)
      ∧ (∑ d, qry A c b h i d * (kc A b (hd c h) j d * scale (A.k j.1))) * eighth = (s : EReal) := fun j => by
    rcases scale_cases (A.k j.1) with ⟨sc, hsc⟩ | hsc
    · refine ⟨(∑ d, q d * ((code (A.k j.1) (ix4 b j.2 (hd c h) d)).toInt : ℝ)) * (sc * u), ?_, ?_⟩
      · simp only [hq, hsc, eighth, hu, kc, num, ← EReal.coe_mul, coe_sum]
      · simp only [hq, hsc, eighth, hu, kc, num, ← EReal.coe_mul, coe_sum]
        congr 1
        rw [← mul_assoc (∑ d, _), Finset.sum_mul (s := Finset.univ) (a := sc)]
        congr 1
        exact Finset.sum_congr rfl fun d _ => by ring
    · refine ⟨0, ?_, ?_⟩ <;> simp [kc, num_code_top _ hsc]
  choose s hs1 hs2 using hs
  have key := softmax (seen i) s (fun j => vc A b (hd c h) j d * scale (A.v j.1)) ⟨(0, i), seen_self i⟩
  have hrs : rs A c b h i = fun j => if seen i j then (s j : EReal) else ⊥ := funext fun j => by simp only [rs, hs2]
  unfold kctx rctx kden
  simp only [rw', kw, hs1, hrs]
  refine Eq.trans ?_ key.symm
  congr 1
  refine Finset.sum_congr rfl fun j _ => ?_
  rw [mul_assoc, mul_comm (scale _)]

end Cert.Attn
-- ==== Proof.KerHost.lean ====
/- What the kernel's host operations hand the region, read at an index: codes and scales of a device's own block. -/
module

public import proofs.«01_k».proof.Proof.Run
public import proofs.«01_k».proof.Proof.Spec
public import Idealize.ShloMosaic.Lib.Pipeline.Value

@[expose] public section

set_option maxRecDepth 8192

noncomputable section

namespace Cert.Attn

open Cert.KernelIdeal Cert.KernelIdeal.Gen
open Idealize.ShloMosaic Idealize.ShloMosaic.TcCoe

/-! ## The host operations as functions of the keys and values -/

/-- Keys and values, one after the other. -/
def both (k v : S2x128x16x64.Idx → EReal) : S2x2x128x16x64.Idx → EReal :=
  concatenate S2x2x128x16x64 0
    [⟨S1x2x128x16x64, broadcastInDim S1x2x128x16x64 ![1, 2, 3, 4] bcast_S2x128x16x64_S1x2x128x16x64_1_2_3_4 k⟩,
     ⟨S1x2x128x16x64, broadcastInDim S1x2x128x16x64 ![1, 2, 3, 4] bcast_S2x128x16x64_S1x2x128x16x64_1_2_3_4 v⟩]
    concatenates_S1x2x128x16x64_S1x2x128x16x64_S2x2x128x16x64_d0

/-- The two scales. -/
def scales (k v : S2x128x16x64.Idx → EReal) : S2.Idx → EReal :=
  Host.divf (F := Ideal) (φ := .f32)
    (Host.reduce (FloatOps.maximumf (F := Ideal) (φ := .f32)) (Host.absf (F := Ideal) (φ := .f32) (both k v)) (constant (F := Ideal) S_ .f32 0xFF800000#32)
      reducesTo_S2x2x128x16x64_S2_d1_2_3_4 h_S_)
    (broadcastInDim S2 ![] bcast_S_S2 (constant (F := Ideal) S_ .f32 0x42FE0000#32))

/-- Everything over its scale. -/
def ratios (k v : S2x128x16x64.Idx → EReal) : S2x2x128x16x64.Idx → EReal :=
  Host.divf (F := Ideal) (φ := .f32) (both k v)
    (broadcastInDim S2x2x128x16x64 ![0, 1, 2, 3, 4] bcast_S2x1x1x1x1_S2x2x128x16x64_0_1_2_3_4
      (broadcastInDim S2x1x1x1x1 ![0] bcast_S2_S2x1x1x1x1_0 (scales k v)))

/-- A bound of the clip, everywhere. -/
def bound (w : BitVec 32) : S2x2x128x16x64.Idx → EReal :=
  broadcastInDim S2x2x128x16x64 ![] bcast_S_S2x2x128x16x64 (sitofp (F := Ideal) .f32 (constantI S_ 32 w))

/-- The clipped, rounded ratios. -/
def clipped (k v : S2x128x16x64.Idx → EReal) : S2x2x128x16x64.Idx → EReal :=
  minimumf (F := Ideal) (φ := .f32) (bound 127#32)
    (maximumf (F := Ideal) (φ := .f32) (bound 4294967169#32) (Host.roundeven (F := Ideal) (φ := .f32) (ratios k v)))

/-- The codes, head by head. -/
def codes (k v : S2x128x16x64.Idx → EReal) : S2x16x2x128x64.Idx → BitVec 8 :=
  trunci 8 (fptosi (F := Ideal) (φ := .f32) 32 (transpose S2x16x2x128x64 [0, 3, 1, 2, 4] (clipped k v)
    transposes_S2x2x128x16x64_S2x16x2x128x64_0_3_1_2_4)) natLt_8_32

/-- The scales, one row each. -/
def rows (k v : S2x128x16x64.Idx → EReal) : S2x128.Idx → EReal :=
  broadcastInDim S2x128 ![0, 1] bcast_S2x1_S2x128_0_1 (broadcastInDim S2x1 ![0] bcast_S2_S2x1_0 (scales k v))

/-! ## Each read at an index -/

variable (B : Fin 2 → Blk)

/-- Which of the two is which. -/
theorem both_apply (r b : Fin 2) (s : Fin 128) (g : Fin 16) (d : Fin 64) : both (B 0) (B 1) (ix5 r b s g d) = B r (ix4 b s g d) := by
  unfold both
  match r with
  | 0 =>
    refine (concatenate_pair_apply_left (t := S2x2x128x16x64) (s₁ := S1x2x128x16x64) (s₂ := S1x2x128x16x64) 0 _ _ _ _ rfl (ix5 0 b s g d : S1x2x128x16x64.Idx) fun a => ?_).trans
      (broadcastInDim_apply _ _ _ _ (ix4 b s g d : S2x128x16x64.Idx) fun a => ?_)
    · match a with
      | ⟨0, _⟩ => rfl
      | ⟨1, _⟩ => rfl
      | ⟨2, _⟩ => rfl
      | ⟨3, _⟩ => rfl
      | ⟨4, _⟩ => rfl
    · match a with
      | ⟨0, _⟩ => rfl
      | ⟨1, _⟩ => rfl
      | ⟨2, _⟩ => rfl
      | ⟨3, _⟩ => rfl
  | 1 =>
    refine (concatenate_pair_apply_right (t := S2x2x128x16x64) (s₁ := S1x2x128x16x64) (s₂ := S1x2x128x16x64) 0 _ _ _ _ rfl rfl (ix5 0 b s g d : S1x2x128x16x64.Idx) (fun a ha => ?_) rfl).trans
      (broadcastInDim_apply _ _ _ _ (ix4 b s g d : S2x128x16x64.Idx) fun a => ?_)
    · match a with
      | ⟨0, _⟩ => exact absurd rfl ha
      | ⟨1, _⟩ => rfl
      | ⟨2, _⟩ => rfl
      | ⟨3, _⟩ => rfl
      | ⟨4, _⟩ => rfl
    · match a with
      | ⟨0, _⟩ => rfl
      | ⟨1, _⟩ => rfl
      | ⟨2, _⟩ => rfl
      | ⟨3, _⟩ => rfl

/-- The scale of each is the plain scale. -/
theorem scales_apply (r : Fin 2) : scales (B 0) (B 1) (ix1 r) = scale (B r) := by
  unfold scales
  show Ideal.div (Host.reduce _ _ _ _ _ _) _ = Ideal.div _ _
  refine congrArg₂ Ideal.div ?_ rfl
  rw [hostMax_eq _ _ _ _ _ cinf, sup_over _ _ (fun i : (⟨4, ![2, 128, 16, 64]⟩ : Shape).Idx => (ix5 r (i 0) (i 1) (i 2) (i 3) : S2x2x128x16x64.Idx))
    (fun i => Finset.mem_filter.2 ⟨Finset.mem_univ _, ?_⟩) fun i hi => ?_]
  · unfold peak
    refine Finset.sup_congr rfl fun i _ => ?_
    have hi : ix4 (n0 := 2) (n1 := 128) (n2 := 16) (n3 := 64) (i 0) (i 1) (i 2) (i 3) = i := ix4_eta i
    refine (congrArg (FloatOps.hostAbsf (F := Ideal)) (both_apply B r (i 0) (i 1) (i 2) (i 3))).trans ?_
    rw [hi]
    rfl
  · funext a
    match a with
    | ⟨0, _⟩ => rfl
  · have hp : (i 0 : Fin 2) = r := Fin.ext (congrArg (fun j : S2.Idx => (j 0).val) (Finset.mem_filter.1 hi).2)
    refine ⟨ix4 (i 1) (i 2) (i 3) (i 4), ?_⟩
    subst hp
    exact ix5_eta i

/-- The codes are the plain codes. -/
theorem codes_apply (r b : Fin 2) (s : Fin 128) (g : Fin 16) (d : Fin 64) :
    codes (B 0) (B 1) (ix5 r g b s d) = code (B r) (ix4 b s g d) := by
  have ht : transpose S2x16x2x128x64 [0, 3, 1, 2, 4] (clipped (B 0) (B 1)) transposes_S2x2x128x16x64_S2x16x2x128x64_0_3_1_2_4
      (ix5 r g b s d) = clipped (B 0) (B 1) (ix5 r b s g d) :=
    transpose_apply _ _ _ _ (ix5 r b s g d) fun a => by
      match a with
      | ⟨0, _⟩ => rfl
      | ⟨1, _⟩ => rfl
      | ⟨2, _⟩ => rfl
      | ⟨3, _⟩ => rfl
      | ⟨4, _⟩ => rfl
  have hs : broadcastInDim S2x2x128x16x64 ![0, 1, 2, 3, 4] bcast_S2x1x1x1x1_S2x2x128x16x64_0_1_2_3_4
      (broadcastInDim S2x1x1x1x1 ![0] bcast_S2_S2x1x1x1x1_0 (scales (B 0) (B 1))) (ix5 r b s g d) = scale (B r) :=
    (broadcastInDim_apply _ _ _ _ (ix5 r 0 0 0 0 : S2x1x1x1x1.Idx) fun a => by
      match a with
      | ⟨0, _⟩ => rfl
      | ⟨1, _⟩ => rfl
      | ⟨2, _⟩ => rfl
      | ⟨3, _⟩ => rfl
      | ⟨4, _⟩ => rfl).trans
    ((broadcastInDim_apply _ _ _ _ (ix1 r : S2.Idx) fun a => by
      match a with
      | ⟨0, _⟩ => rfl).trans (scales_apply B r))
  have hq : ratios (B 0) (B 1) (ix5 r b s g d) = Ideal.div (B r (ix4 b s g d)) (scale (B r)) := by
    show Ideal.div (both (B 0) (B 1) (ix5 r b s g d)) _ = _
    exact congrArg₂ Ideal.div (both_apply B r b s g d) hs
  unfold codes code code1
  show (Ideal.fptosi 32 (transpose S2x16x2x128x64 [0, 3, 1, 2, 4] _ _ _)).setWidth 8 = _
  rw [ht, ← hq]
  rfl

/-- Every place of a scale's row holds it. -/
theorem rows_apply (r : Fin 2) (l : Fin 128) : rows (B 0) (B 1) (ix2 r l) = scale (B r) :=
  (broadcastInDim_apply _ _ _ _ (ix2 r 0 : S2x1.Idx) fun a => by
    match a with
    | ⟨0, _⟩ => rfl
    | ⟨1, _⟩ => rfl).trans
  ((broadcastInDim_apply _ _ _ _ (ix1 r : S2.Idx) fun a => by
    match a with
    | ⟨0, _⟩ => rfl).trans (scales_apply B r))

/-! ## The region's inputs -/

open Cert.KernelIdeal.Mesh

variable (m : (ℓ : Loc nD τ sig) → Buf (Elt Ideal) ℓ) (c : Dev nD)

/-- The host operations leave the codes of the device's own keys and values, -/
theorem host_codes : V m c main_v17 = codes (m (c.tc.loc main_arg2)) (m (c.tc.loc main_arg3)) := by
  unfold V
  simp only [hostOps0, hostOps0_1, hostOps0_2, hostOps0_3, hostOps0_4, List.flatten_cons, List.flatten_nil, List.cons_append, List.nil_append,
    List.append_nil, StableHlo.TRef.unary, StableHlo.TRef.binary, StableHlo.TRef.toBuf, StableHlo.TRef.ofBuf, cast_eq]
  after_results_simp <;> rfl
/-- their scales, -/
theorem host_rows : V m c main_v19 = rows (m (c.tc.loc main_arg2)) (m (c.tc.loc main_arg3)) := by
  unfold V
  simp only [hostOps0, hostOps0_1, hostOps0_2, hostOps0_3, hostOps0_4, List.flatten_cons, List.flatten_nil, List.cons_append, List.nil_append,
    List.append_nil, StableHlo.TRef.unary, StableHlo.TRef.binary, StableHlo.TRef.toBuf, StableHlo.TRef.ofBuf, cast_eq]
  after_results_simp <;> rfl

/-- The keys and values of a device's launch. -/
def own (m : (ℓ : Loc nD τ sig) → Buf (Elt Ideal) ℓ) (c : Dev nD) : Fin 2 → Blk
  | ⟨0, _⟩ => m (c.tc.loc main_arg2)
  | ⟨1, _⟩ => m (c.tc.loc main_arg3)

/-- The one block of an input's window is its array. -/
theorem blk0 (y : S2x128x512.Idx) : ((cfg0.win 0).blk t0_0).view.emb y = y := by
  funext a; apply Fin.ext
  match a with
  | ⟨0, _⟩ => show 0 + 1 * (y 0).val = (y 0).val; omega
  | ⟨1, _⟩ => show 0 + 1 * (y 1).val = (y 1).val; omega
  | ⟨2, _⟩ => show 0 + 1 * (y 2).val = (y 2).val; omega
/-- The one block of the query weights' window is the whole array. -/
theorem blk1 (y : S512x256.Idx) : ((cfg0.win 1).blk t0_0).view.emb y = y := by
  funext a; apply Fin.ext
  match a with
  | ⟨0, _⟩ => show 0 + 1 * (y 0).val = (y 0).val; omega
  | ⟨1, _⟩ => show 0 + 1 * (y 1).val = (y 1).val; omega
/-- The one block of the codes' window is the whole array. -/
theorem blk2 (y : S2x16x2x128x64.Idx) : ((cfg0.win 2).blk t0_0).view.emb y = y := by
  funext a; apply Fin.ext
  match a with
  | ⟨0, _⟩ => show 0 + 1 * (y 0).val = (y 0).val; omega
  | ⟨1, _⟩ => show 0 + 1 * (y 1).val = (y 1).val; omega
  | ⟨2, _⟩ => show 0 + 1 * (y 2).val = (y 2).val; omega
  | ⟨3, _⟩ => show 0 + 1 * (y 3).val = (y 3).val; omega
  | ⟨4, _⟩ => show 0 + 1 * (y 4).val = (y 4).val; omega
/-- The one block of the output weights' window is the whole array. -/
theorem blk3 (y : S256x512.Idx) : ((cfg0.win 3).blk t0_0).view.emb y = y := by
  funext a; apply Fin.ext
  match a with
  | ⟨0, _⟩ => show 0 + 1 * (y 0).val = (y 0).val; omega
  | ⟨1, _⟩ => show 0 + 1 * (y 1).val = (y 1).val; omega
/-- The one block of the scales' window is the whole array. -/
theorem blk4 (y : S2x128.Idx) : ((cfg0.win 4).blk t0_0).view.emb y = y := by
  funext a; apply Fin.ext
  match a with
  | ⟨0, _⟩ => show 0 + 1 * (y 0).val = (y 0).val; omega
  | ⟨1, _⟩ => show 0 + 1 * (y 1).val = (y 1).val; omega

/-- The region's inputs: activations and weights as launched, -/
theorem inp_x : (inp m c).x = m (c.tc.loc main_arg0) :=
  funext fun y => (congrArg (V m c main_arg0) (blk0 y)).trans (congrFun (V_main_arg0 m c) y)
/-- The kernel's query weights are the device's argument. -/
theorem inp_wq : (inp m c).wq = m (c.tc.loc main_arg1) :=
  funext fun y => (congrArg (V m c main_arg1) (blk1 y)).trans (congrFun (V_main_arg1 m c) y)
/-- The kernel's output weights are the device's argument. -/
theorem inp_wo : (inp m c).wo = m (c.tc.loc main_arg4) :=
  funext fun y => (congrArg (V m c main_arg4) (blk3 y)).trans (congrFun (V_main_arg4 m c) y)
/-- the codes of the device's own keys and values, -/
theorem inp_kv (r b : Fin 2) (s : Fin 128) (g : Fin 16) (d : Fin 64) :
    (inp m c).kv (ix5 r g b s d) = code (own m c r) (ix4 b s g d) :=
  (congrArg (V m c main_v17) (blk2 (ix5 r g b s d))).trans ((congrFun (host_codes m c) _).trans (codes_apply (own m c) r b s g d))
/-- and their scales. -/
theorem inp_sc (r : Fin 2) (l : Fin 128) : (inp m c).sc (ix2 r l) = scale (own m c r) :=
  (congrArg (V m c main_v19) (blk4 (ix2 r l))).trans ((congrFun (host_rows m c) _).trans (rows_apply (own m c) r l))

end Cert.Attn
-- ==== Proof.RefVal.lean ====
/- The reference's result at an index: the plain attention of `Spec`, on the blocks of the whole arrays. -/
module

public import proofs.«01_k».proof.Proof.Spec
public import proofs.«01_k».proof.Proof.Gen.ReferenceIdeal.Read

@[expose] public section

noncomputable section

namespace Cert.Attn

open Cert.ReferenceIdeal Cert.ReferenceIdeal.Gen Cert.ReferenceIdeal.Read
open Idealize.ShloMosaic
open scoped BigOperators

/-- Block `p` of a whole array of keys or values: a quarter of its places. -/
def blkOf (T : S2x512x16x64.Idx → EReal) (p : Fin 4) : Blk := fun i => T (ix4 (i 0) (colE (p, i 1)) (i 2) (i 3))

/-- The four devices' blocks of the whole arrays. -/
def argsOf (x0 : S2x128x512.Idx → EReal) (x1 : S512x1024.Idx → EReal) (x2 x3 : S2x512x16x64.Idx → EReal) (x4 : S1024x512.Idx → EReal) :
    Args where
  x := x0
  wq c := fun i => x1 (ix2 (i 0) ⟨256 * c.val + (i 1).val, by have h : (i 1).val < 256 := (i 1).isLt; omega⟩)
  k := blkOf x2
  v := blkOf x3
  wo c := fun i => x4 (ix2 ⟨256 * c.val + (i 0).val, by have h : (i 0).val < 256 := (i 0).isLt; omega⟩ (i 1))

/-! ## Keys and values -/

/-- The array cut into blocks reads the block. -/
theorem cut_apply (x2 : S2x512x16x64.Idx → EReal) (b : Fin 2) (p : Fin 4) (s : Fin 128) (g : Fin 16) (d : Fin 64) :
    val_main_v1 (F := Ideal) x2 (ix5 b p s g d) = blkOf x2 p (ix4 b s g d) := by
  rw [val_main_v1_apply, val_main_v0_apply]
  show x2 _ = x2 _
  congr 1
  funext a
  match a with
  | ⟨0, _⟩ => exact Fin.ext (by show ((((b.val * 4 + p.val) * 128 + s.val) * 16 + g.val) * 64 + d.val) / 524288 = b.val; omega)
  | ⟨1, _⟩ => exact Fin.ext (by show ((((b.val * 4 + p.val) * 128 + s.val) * 16 + g.val) * 64 + d.val) / 1024 % 512 = 128 * p.val + s.val; omega)
  | ⟨2, _⟩ => exact Fin.ext (by show ((((b.val * 4 + p.val) * 128 + s.val) * 16 + g.val) * 64 + d.val) / 64 % 16 = g.val; omega)
  | ⟨3, _⟩ => exact Fin.ext (by show ((((b.val * 4 + p.val) * 128 + s.val) * 16 + g.val) * 64 + d.val) % 64 = d.val; omega)

/-- The reference's peak of a block. -/
theorem peak_apply (x2 : S2x512x16x64.Idx → EReal) (p : Fin 4) : val_main_v3 (F := Ideal) x2 (ix1 p) = peak (blkOf x2 p) := by
  unfold val_main_v3
  rw [hostMax_eq _ _ _ _ _ cinf, sup_over _ _ (fun i : (⟨4, ![2, 128, 16, 64]⟩ : Shape).Idx => (ix5 (i 0) p (i 1) (i 2) (i 3) : S2x4x128x16x64.Idx))
    (fun i => Finset.mem_filter.2 ⟨Finset.mem_univ _, ?_⟩) fun i hi => ?_]
  · unfold peak
    refine Finset.sup_congr rfl fun i _ => ?_
    have hi : ix4 (n0 := 2) (n1 := 128) (n2 := 16) (n3 := 64) (i 0) (i 1) (i 2) (i 3) = i := ix4_eta i
    rw [val_main_v2_apply]
    refine (congrArg (FloatOps.hostAbsf (F := Ideal)) (cut_apply x2 (i 0) p (i 1) (i 2) (i 3))).trans ?_
    rw [hi]
    rfl
  · funext a
    match a with
    | ⟨0, _⟩ => rfl
  · have hp : (i 1 : Fin 4) = p := Fin.ext (congrArg (fun j : S4.Idx => (j 0).val) (Finset.mem_filter.1 hi).2)
    refine ⟨ix4 (i 0) (i 2) (i 3) (i 4), ?_⟩
    subst hp
    exact ix5_eta i

/-- Its scale. -/
theorem scale_apply (x2 : S2x512x16x64.Idx → EReal) (p : Fin 4) : val_main_v5 (F := Ideal) x2 (ix1 p) = scale (blkOf x2 p) := by
  rw [val_main_v5_apply, peak_apply, val_main_v4_apply, val_main_cst_0_apply]
  rfl

/-- The number a code stands for does not change by widening it. -/
theorem num_ext (k : BitVec 8) : (FloatOps.sitofp (F := Ideal) .f32 (k.signExtend 32) : EReal) = num k := by
  show (((k.signExtend 32).toInt : ℝ) : EReal) = ((k.toInt : ℝ) : EReal)
  rw [BitVec.toInt_signExtend_of_le (by decide)]

/-- The dequantised array: code times scale of the block. -/
theorem back_apply (x2 : S2x512x16x64.Idx → EReal) (b : Fin 2) (p : Fin 4) (s : Fin 128) (g : Fin 16) (d : Fin 64) :
    val_main_v18 (F := Ideal) x2 (ix4 b (colE (p, s)) g d) = num (code (blkOf x2 p) (ix4 b s g d)) * scale (blkOf x2 p) := by
  have hi : idx_main_v17 (ix4 b (colE (p, s)) g d : S2x512x16x64.Idx) = (ix5 b p s g d : S2x4x128x16x64.Idx) := by
    funext a
    match a with
    | ⟨0, _⟩ => exact Fin.ext (by show (((b.val * 512 + (128 * p.val + s.val)) * 16 + g.val) * 64 + d.val) / 524288 = b.val; omega)
    | ⟨1, _⟩ => exact Fin.ext (by show (((b.val * 512 + (128 * p.val + s.val)) * 16 + g.val) * 64 + d.val) / 131072 % 4 = p.val; omega)
    | ⟨2, _⟩ => exact Fin.ext (by show (((b.val * 512 + (128 * p.val + s.val)) * 16 + g.val) * 64 + d.val) / 1024 % 128 = s.val; omega)
    | ⟨3, _⟩ => exact Fin.ext (by show (((b.val * 512 + (128 * p.val + s.val)) * 16 + g.val) * 64 + d.val) / 64 % 16 = g.val; omega)
    | ⟨4, _⟩ => exact Fin.ext (by show (((b.val * 512 + (128 * p.val + s.val)) * 16 + g.val) * 64 + d.val) % 64 = d.val; omega)
  have h7 : idx_main_v6 (idx_main_v7 (ix5 b p s g d : S2x4x128x16x64.Idx)) = ix1 p := by
    funext a
    match a with
    | ⟨0, _⟩ => rfl
  have h15 : idx_main_v6 (idx_main_v15 (ix5 b p s g d : S2x4x128x16x64.Idx)) = ix1 p := h7
  rw [val_main_v18_apply, val_main_v17_apply, hi, val_main_v16_apply, val_main_v14_apply, val_main_v13_apply, val_main_v15_apply,
    val_main_v6_apply, h15, scale_apply, num_ext]
  refine congrArg (fun k => num k * scale (blkOf x2 p)) ?_
  rw [val_main_v12_apply, val_main_v11_apply, val_main_v10_apply, val_main_call1_v2_apply, val_main_call1_v4_apply, val_main_call1_v1_apply,
    val_main_call1_v3_apply, val_main_call1_v0_apply, val_main_v9_apply, val_main_v8_apply, val_main_v7_apply, val_main_v6_apply, h7,
    scale_apply, cut_apply]
  rfl

/-- The value array goes through the same operations. -/
theorem back_value (x3 : S2x512x16x64.Idx → EReal) : val_main_v37 (F := Ideal) x3 = val_main_v18 (F := Ideal) x3 := rfl

/-! ## Queries, mask, scores -/

variable (x0 : S2x128x512.Idx → EReal) (x1 : S512x1024.Idx → EReal) (x2 x3 : S2x512x16x64.Idx → EReal) (x4 : S1024x512.Idx → EReal)

/-- The queries. -/
theorem qry_apply (c : Fin 4) (b : Fin 2) (h : Fin 4) (i : Fin 128) (d : Fin 64) :
    val_main_v40 (F := Ideal) x0 x1 (ix4 b i (hd c h) d) = qry (argsOf x0 x1 x2 x3 x4) c b h i d := by
  have hi : idx_main_v40 (ix4 b i (hd c h) d : S2x128x16x64.Idx) = (ix3 b i ⟨256 * c.val + (64 * h.val + d.val), by omega⟩ : S2x128x1024.Idx) := by
    funext a
    match a with
    | ⟨0, _⟩ => exact Fin.ext (by show (((b.val * 128 + i.val) * 16 + (4 * c.val + h.val)) * 64 + d.val) / 131072 = b.val; omega)
    | ⟨1, _⟩ => exact Fin.ext (by show (((b.val * 128 + i.val) * 16 + (4 * c.val + h.val)) * 64 + d.val) / 1024 % 128 = i.val; omega)
    | ⟨2, _⟩ => exact Fin.ext (by show (((b.val * 128 + i.val) * 16 + (4 * c.val + h.val)) * 64 + d.val) % 1024 = 256 * c.val + (64 * h.val + d.val); omega)
  rw [val_main_v40_apply, hi, val_main_v39_apply]
  show val_main_v38 (F := Ideal) x0 x1 _ = _
  rw [val_main_v38_apply]
  refine Finset.sum_congr rfl fun n _ => ?_
  show x0 _ * x1 _ = x0 _ * x1 _
  congr 2
  · funext a
    match a with
    | ⟨0, _⟩ => rfl
    | ⟨1, _⟩ => rfl
    | ⟨2, _⟩ => rfl
  · funext a
    match a with
    | ⟨0, _⟩ => rfl
    | ⟨1, _⟩ => rfl

/-- A word of a small number, as a signed number. -/
theorem toInt_word (n : ℕ) (h : n < 2 ^ 31) : (BitVec.ofNat 32 n).toInt = n := by
  have hn : (BitVec.ofNat 32 n).toNat = n := by rw [BitVec.toNat_ofNat, Nat.mod_eq_of_lt (by omega)]
  rw [BitVec.toInt_eq_toNat_of_lt (by rw [hn]; omega), hn]

/-- Comparisons of words of small numbers. -/
theorem sle_word (m n : ℕ) (hm : m < 2 ^ 31) (hn : n < 2 ^ 31) :
    IntOp.cmpi .sle (BitVec.ofNat 32 m) (BitVec.ofNat 32 n) = if m ≤ n then 1#1 else 0#1 := by
  show BitVec.ofBool ((BitVec.ofNat 32 m).sle (BitVec.ofNat 32 n)) = _
  rw [BitVec.sle, toInt_word m hm, toInt_word n hn]
  by_cases h : m ≤ n <;> simp [h]
/-- The signed comparison of two small numbers as words is their comparison. -/
theorem slt_word (m n : ℕ) (hm : m < 2 ^ 31) (hn : n < 2 ^ 31) :
    IntOp.cmpi .slt (BitVec.ofNat 32 m) (BitVec.ofNat 32 n) = if m < n then 1#1 else 0#1 := by
  show BitVec.ofBool ((BitVec.ofNat 32 m).slt (BitVec.ofNat 32 n)) = _
  rw [BitVec.slt, toInt_word m hm, toInt_word n hn]
  by_cases h : m < n <;> simp [h]

/-- The distance of two small numbers, as words. -/
theorem abs_word (m n : ℕ) (hm : m < 2 ^ 31) (hn : n < 2 ^ 31) :
    IntOp.absi (IntOp.subi (BitVec.ofNat 32 m) (BitVec.ofNat 32 n)) = BitVec.ofNat 32 (if n ≤ m then m - n else n - m) := by
  have hs : (BitVec.ofNat 32 m - BitVec.ofNat 32 n).toNat = (2 ^ 32 - n + m) % 2 ^ 32 := by
    rw [BitVec.toNat_sub, BitVec.toNat_ofNat, BitVec.toNat_ofNat, Nat.mod_eq_of_lt (show m < 2 ^ 32 by omega), Nat.mod_eq_of_lt (show n < 2 ^ 32 by omega)]
  unfold IntOp.absi IntOp.subi
  rw [BitVec.msb_eq_decide, hs]
  apply BitVec.eq_of_toNat_eq
  by_cases h : n ≤ m
  · rw [if_neg (by simp only [decide_eq_true_eq]; omega), if_pos h, hs, BitVec.toNat_ofNat]
    omega
  · rw [if_pos (by simp only [decide_eq_true_eq]; omega), if_neg h, BitVec.toNat_neg, hs, BitVec.toNat_ofNat]
    omega

/-- The reference's mask. -/
theorem mask_apply (i : Fin 128) (j : Fin 4 × Fin 128) :
    val_main_v58 (F := Ideal) (ix2 i (colE j)) = if seen i j then 1#1 else 0#1 := by
  have hj := j.1.isLt
  have hk := j.2.isLt
  have hi := i.isLt
  have hc : (colE j).val = 128 * j.1.val + j.2.val := rfl
  rw [val_main_v58_apply, val_main_v57_apply, val_main_v50_apply, val_main_v55_apply, val_main_v56_apply, val_main_v52_apply,
    val_main_v54_apply, val_main_v48_apply, val_main_v47_apply, val_main_v45_apply, val_main_v46_apply, val_main_v44_apply,
    val_main_v42_apply, val_main_v49_apply, val_main_v51_apply, val_main_v53_apply]
  show IntOp.ori (IntOp.cmpi .sle (IntOp.absi (IntOp.subi (BitVec.ofNat 32 i.val) (BitVec.ofNat 32 (colE j).val))) (BitVec.ofNat 32 128))
    (IntOp.ori (IntOp.cmpi .slt (BitVec.ofNat 32 (colE j).val) (BitVec.ofNat 32 32)) (IntOp.cmpi .slt (BitVec.ofNat 32 i.val) (BitVec.ofNat 32 32))) = _
  rw [hc, abs_word _ _ (by omega) (by omega), sle_word _ _ (by split <;> omega) (by omega), slt_word _ _ (by omega) (by omega),
    slt_word _ _ (by omega) (by omega)]
  by_cases hs : seen i j
  · have h1 : 128 * j.1.val + j.2.val ≤ i.val + 128 ∨ i.val < 32 := hs
    rw [if_pos hs]
    by_cases h2 : i.val < 32
    · rw [if_pos h2]
      split <;> split <;> split <;> rfl
    · rw [if_pos (show (if 128 * j.1.val + j.2.val ≤ i.val then i.val - (128 * j.1.val + j.2.val) else 128 * j.1.val + j.2.val - i.val) ≤ 128 by
        split <;> omega), if_neg h2]
      split <;> rfl
  · have h1 : ¬(128 * j.1.val + j.2.val ≤ i.val + 128 ∨ i.val < 32) := hs
    rw [if_neg hs, if_neg (by split <;> omega), if_neg (by omega), if_neg (by omega)]
    rfl

/-- Every row of it has a set bit, so the reference's row test is always one. -/
theorem row_apply (i : Fin 128) : val_main_v69 (F := Ideal) (ix1 i) = 1#1 := by
  unfold val_main_v69
  refine hostOr_eq _ _ _ _ _ (ix2 i (colE (0, i)) : S128x512.Idx) ?_ ?_
  · funext a
    match a with
    | ⟨0, _⟩ => rfl
  · rw [mask_apply, if_pos (seen_self i)]

/-- The scores. -/
theorem score_apply (c : Fin 4) (b : Fin 2) (h : Fin 4) (i : Fin 128) (j : Fin 4 × Fin 128) :
    val_main_v63 (F := Ideal) x0 x1 x2 (ix4 b (hd c h) i (colE j)) = rs (argsOf x0 x1 x2 x3 x4) c b h i j := by
  have hm : idx_main_v62 (idx_main_call4_v1 (ix4 b (hd c h) i (colE j) : S2x16x128x512.Idx)) = (ix2 i (colE j) : S128x512.Idx) := by
    funext a
    match a with
    | ⟨0, _⟩ => rfl
    | ⟨1, _⟩ => rfl
  rw [val_main_v63_apply, val_main_call4_v1_apply, val_main_v62_apply, hm, mask_apply, val_main_v61_apply, val_main_call4_v2_apply,
    val_main_call4_v0_apply, val_main_cst_10_apply, val_main_v60_apply, val_main_cst_9_apply, val_main_v59_apply]
  have hs : (∑ d : Fin 64, val_main_v40 (F := Ideal) x0 x1 (lidx_main_v59 (ix4 b (hd c h) i (colE j)) d)
      * val_main_v18 (F := Ideal) x2 (ridx_main_v59 (ix4 b (hd c h) i (colE j)) d))
      = ∑ d, qry (argsOf x0 x1 x2 x3 x4) c b h i d * (kc (argsOf x0 x1 x2 x3 x4) b (hd c h) j d * scale (blkOf x2 j.1)) := by
    refine Finset.sum_congr rfl fun d _ => ?_
    have hl : lidx_main_v59 (ix4 b (hd c h) i (colE j) : S2x16x128x512.Idx) d = (ix4 b i (hd c h) d : S2x128x16x64.Idx) := by
      funext a
      match a with
      | ⟨0, _⟩ => rfl
      | ⟨1, _⟩ => rfl
      | ⟨2, _⟩ => rfl
      | ⟨3, _⟩ => rfl
    have hr : ridx_main_v59 (ix4 b (hd c h) i (colE j) : S2x16x128x512.Idx) d = (ix4 b (colE (j.1, j.2)) (hd c h) d : S2x512x16x64.Idx) := by
      funext a
      match a with
      | ⟨0, _⟩ => rfl
      | ⟨1, _⟩ => rfl
      | ⟨2, _⟩ => rfl
      | ⟨3, _⟩ => rfl
    rw [hl, hr, back_apply, qry_apply x0 x1 x2 x3 x4]
    rfl
  rw [hs]
  unfold rs
  by_cases hse : seen i j
  · rw [if_pos hse, if_pos hse]
    rfl
  · rw [if_neg hse, if_neg hse]
    exact cinf

/-- Their greatest in a row. -/
theorem top_apply (c : Fin 4) (b : Fin 2) (h : Fin 4) (i : Fin 128) :
    val_main_v64 (F := Ideal) x0 x1 x2 (ix3 b (hd c h) i) = Finset.univ.sup (rs (argsOf x0 x1 x2 x3 x4) c b h i) := by
  unfold val_main_v64
  rw [hostMax_eq _ _ _ _ _ cinf, sup_over _ _ (fun j : Fin 4 × Fin 128 => (ix4 b (hd c h) i (colE j) : S2x16x128x512.Idx))
    (fun j => Finset.mem_filter.2 ⟨Finset.mem_univ _, ?_⟩) fun y hy => ?_]
  · exact Finset.sup_congr rfl fun j _ => score_apply x0 x1 x2 x3 x4 c b h i j
  · funext a
    match a with
    | ⟨0, _⟩ => rfl
    | ⟨1, _⟩ => rfl
    | ⟨2, _⟩ => rfl
  · have hd' := (Finset.mem_filter.1 hy).2
    refine ⟨colE.symm (y 3), ?_⟩
    funext a
    match a with
    | ⟨0, _⟩ => exact (congrFun hd' 0).symm
    | ⟨1, _⟩ => exact (congrFun hd' 1).symm
    | ⟨2, _⟩ => exact (congrFun hd' 2).symm
    | ⟨3, _⟩ => exact colE.apply_symm_apply (y 3)

/-- The exponentials. -/
theorem weight_apply (c : Fin 4) (b : Fin 2) (h : Fin 4) (i : Fin 128) (j : Fin 4 × Fin 128) :
    val_main_v68 (F := Ideal) x0 x1 x2 (ix4 b (hd c h) i (colE j)) = rw' (argsOf x0 x1 x2 x3 x4) c b h i j := by
  have hi : idx_main_v65 (idx_main_v66 (ix4 b (hd c h) i (colE j) : S2x16x128x512.Idx)) = (ix3 b (hd c h) i : S2x16x128.Idx) := by
    funext a
    match a with
    | ⟨0, _⟩ => rfl
    | ⟨1, _⟩ => rfl
    | ⟨2, _⟩ => rfl
  rw [val_main_v68_apply, val_main_v67_apply, score_apply x0 x1 x2 x3 x4, val_main_v66_apply, val_main_v65_apply, hi,
    top_apply x0 x1 x2 x3 x4]
  rfl

/-- Their sums. -/
theorem total_apply (c : Fin 4) (b : Fin 2) (h : Fin 4) (i : Fin 128) :
    val_main_v71 (F := Ideal) x0 x1 x2 (ix3 b (hd c h) i) = ∑ j, rw' (argsOf x0 x1 x2 x3 x4) c b h i j := by
  rw [val_main_v71_apply, val_main_cst_13_apply]
  show Ideal.ofBits .f32 0x00000000#32 + _ = _
  rw [Ideal.ofBits_zero_f32, zero_add, ← Equiv.sum_comp colE]
  refine Finset.sum_congr rfl fun j _ => ?_
  rw [← weight_apply]
  congr 1
  funext a
  match a with
  | ⟨0, _⟩ => rfl
  | ⟨1, _⟩ => rfl
  | ⟨2, _⟩ => rfl
  | ⟨3, _⟩ => rfl

/-- The probabilities. -/
theorem prob_apply (c : Fin 4) (b : Fin 2) (h : Fin 4) (i : Fin 128) (j : Fin 4 × Fin 128) :
    val_main_v77 (F := Ideal) x0 x1 x2 (ix4 b (hd c h) i (colE j))
      = Ideal.div (rw' (argsOf x0 x1 x2 x3 x4) c b h i j) (∑ j', rw' (argsOf x0 x1 x2 x3 x4) c b h i j') := by
  have h6 : idx_main_v76 (idx_main_call6_v1 (ix4 b (hd c h) i (colE j) : S2x16x128x512.Idx)) = (ix1 i : S128.Idx) := by
    funext a
    match a with
    | ⟨0, _⟩ => rfl
  have h5 : idx_main_v70 (idx_main_call5_v1 (idx_main_v74 (ix4 b (hd c h) i (colE j) : S2x16x128x512.Idx))) = (ix1 i : S128.Idx) := by
    funext a
    match a with
    | ⟨0, _⟩ => rfl
  have h7 : idx_main_v72 (idx_main_v74 (ix4 b (hd c h) i (colE j) : S2x16x128x512.Idx)) = (ix3 b (hd c h) i : S2x16x128.Idx) := by
    funext a
    match a with
    | ⟨0, _⟩ => rfl
    | ⟨1, _⟩ => rfl
    | ⟨2, _⟩ => rfl
  rw [val_main_v77_apply, val_main_call6_v1_apply, val_main_v76_apply, h6, row_apply, val_main_v75_apply, weight_apply x0 x1 x2 x3 x4,
    val_main_v74_apply, val_main_v73_apply, val_main_call5_v1_apply, val_main_v70_apply, h5, row_apply, val_main_v72_apply, h7,
    total_apply x0 x1 x2 x3 x4]
  rfl

/-- The contexts. -/
theorem ctx_apply (c : Fin 4) (b : Fin 2) (h : Fin 4) (i : Fin 128) (d : Fin 64) :
    val_main_v79 (F := Ideal) x0 x1 x2 x3 (ix4 b (hd c h) d i) = rctx (argsOf x0 x1 x2 x3 x4) c b h i d := by
  rw [val_main_v79_apply, ← Equiv.sum_comp colE]
  refine Finset.sum_congr rfl fun j _ => ?_
  have hl : lidx_main_v79 (ix4 b (hd c h) d i : S2x16x64x128.Idx) (colE j) = (ix4 b (colE (j.1, j.2)) (hd c h) d : S2x512x16x64.Idx) := by
    funext a
    match a with
    | ⟨0, _⟩ => rfl
    | ⟨1, _⟩ => rfl
    | ⟨2, _⟩ => rfl
    | ⟨3, _⟩ => rfl
  have hr : ridx_main_v79 (ix4 b (hd c h) d i : S2x16x64x128.Idx) (colE j) = (ix4 b (hd c h) i (colE j) : S2x16x128x512.Idx) := by
    funext a
    match a with
    | ⟨0, _⟩ => rfl
    | ⟨1, _⟩ => rfl
    | ⟨2, _⟩ => rfl
    | ⟨3, _⟩ => rfl
  rw [hl, hr, prob_apply x0 x1 x2 x3 x4, val_main_v78_apply, back_value]
  exact congrArg (· * _) (back_apply x3 b j.1 j.2 (hd c h) d)

/-- The result. -/
theorem ref_apply (b : Fin 2) (i : Fin 128) (o : Fin 512) :
    val_main_v83 (F := Ideal) x0 x1 x2 x3 x4 (ix3 b i o) = out (argsOf x0 x1 x2 x3 x4) (rctx (argsOf x0 x1 x2 x3 x4)) b i o := by
  rw [val_main_v83_apply, ← Equiv.sum_comp chanE, Fintype.sum_prod_type]
  unfold out
  refine Finset.sum_congr rfl fun c _ => ?_
  rw [Fintype.sum_prod_type]
  refine Finset.sum_congr rfl fun h _ => Finset.sum_congr rfl fun d _ => ?_
  have hl : idx_main_v80 (idx_main_v81 (lidx_main_v83 (ix3 b i o : S2x128x512.Idx) (chanE (c, h, d)))) = (ix4 b (hd c h) d i : S2x16x64x128.Idx) := by
    funext a
    match a with
    | ⟨0, _⟩ => exact Fin.ext (by show ((b.val * 128 + i.val) * 1024 + (256 * c.val + 64 * h.val + d.val)) / 131072 = b.val; omega)
    | ⟨1, _⟩ => exact Fin.ext (by show ((b.val * 128 + i.val) * 1024 + (256 * c.val + 64 * h.val + d.val)) / 64 % 16 = 4 * c.val + h.val; omega)
    | ⟨2, _⟩ => exact Fin.ext (by show ((b.val * 128 + i.val) * 1024 + (256 * c.val + 64 * h.val + d.val)) % 64 = d.val; omega)
    | ⟨3, _⟩ => exact Fin.ext (by show ((b.val * 128 + i.val) * 1024 + (256 * c.val + 64 * h.val + d.val)) / 1024 % 128 = i.val; omega)
  rw [val_main_v81_apply, val_main_v80_apply, hl, ctx_apply x0 x1 x2 x3 x4, val_main_v82_apply]
  refine congrArg (rctx (argsOf x0 x1 x2 x3 x4) c b h i d * ·) ?_
  show x4 _ = x4 _
  congr 1
  funext a
  match a with
  | ⟨0, _⟩ => exact Fin.ext (by show 256 * c.val + 64 * h.val + d.val = 256 * c.val + (64 * h.val + d.val); omega)
  | ⟨1, _⟩ => rfl

end Cert.Attn
-- ==== Proof.KerVal.lean ====
/- The kernel's result at an index: the attention of `Spec` with the kernel's order of operations, on the four devices' blocks. -/
module

public import proofs.«01_k».proof.Proof.Vals
public import proofs.«01_k».proof.Proof.RefVal
public import Idealize.ShloMosaic.Lib.Pipeline.Value
public import Idealize.ShloMosaic.Lib.Pointwise.Reshape

@[expose] public section

noncomputable section

namespace Cert.Attn

open Cert.KernelIdeal Cert.KernelIdeal.Gen Cert.KernelIdeal.Mesh
open Idealize.ShloMosaic Idealize.ShloMosaic.TcCoe
open scoped BigOperators

/-! ## Matrix products and row sums at an index -/

/-- A matrix product with one contracted axis is a sum over that axis, the operands read where the dimensions say. -/
theorem mm_apply {sl sr so : Shape} {φ₁ φ₂ : FTy} (d : DotDims sl sr so) (n : ℕ) (h1 : d.contr.rank = 1)
    (h2 : d.contr.size ⟨0, by omega⟩ = n) (x : FVec Ideal sl φ₁) (y : FVec Ideal sr φ₂) (j : so.Idx) (L : Fin n → sl.Idx) (R : Fin n → sr.Idx)
    (hL : ∀ k, d.lhsIdx j ((ValueIdx.contrEquiv1 d n h1 h2).symm k) = L k) (hR : ∀ k, d.rhsIdx j ((ValueIdx.contrEquiv1 d n h1 h2).symm k) = R k) :
    (matmul d none x y (constant (F := Ideal) so .f32 0x00000000#32) j : EReal) = ∑ k, (x (L k) : EReal) * y (R k) := by
  show FloatOps.matmul d none x y (constant so .f32 0x00000000#32) j = _
  rw [Ideal.matmul_constant_zero_apply, ← Equiv.sum_comp (ValueIdx.contrEquiv1 d n h1 h2).symm]
  exact Finset.sum_congr rfl fun k _ => by rw [hL, hR]

/-- Activations through query weights. -/
theorem mm_qry (x : FVec Ideal S128x512 .bf16) (y : FVec Ideal S512x256 .bf16) (i : Fin 128) (o : Fin 256) :
    (matmul dot_S128x512_S512x256_S128x256_1_0_0_1_n_n none x y (constant (F := Ideal) S128x256 .f32 0x00000000#32) (ix2 i o) : EReal)
      = ∑ n : Fin 512, (x (ix2 i n) : EReal) * y (ix2 n o) := by
  have hk := ValueIdx.contrEquiv1_symm_val dot_S128x512_S512x256_S128x256_1_0_0_1_n_n 512 rfl rfl
  refine mm_apply _ 512 rfl rfl x y _ _ _ (fun k => ?_) fun k => ?_
  · funext a
    match a with
    | ⟨0, _⟩ =>
      unfold DotDims.lhsIdx
      rw [dif_neg (by decide +revert), dif_pos (by decide +revert)]
      rfl
    | ⟨1, _⟩ => exact Fin.ext ((DotDims.lhsIdx_val_of_single _ rfl _ _).trans (hk k))
  · funext a
    match a with
    | ⟨0, _⟩ => exact Fin.ext ((DotDims.rhsIdx_val_of_single _ rfl _ _).trans (hk k))
    | ⟨1, _⟩ =>
      unfold DotDims.rhsIdx
      rw [dif_neg (by decide +revert), dif_pos (by decide +revert)]
      rfl

/-- Queries against keys. -/
theorem mm_score (x y : FVec Ideal S128x64 .bf16) (i j : Fin 128) :
    (matmul dot_S128x64_S128x64_S128x128_1_1_0_0_n_n none x y (constant (F := Ideal) S128x128 .f32 0x00000000#32) (ix2 i j) : EReal)
      = ∑ d : Fin 64, (x (ix2 i d) : EReal) * y (ix2 j d) := by
  have hk := ValueIdx.contrEquiv1_symm_val dot_S128x64_S128x64_S128x128_1_1_0_0_n_n 64 rfl rfl
  refine mm_apply _ 64 rfl rfl x y _ _ _ (fun k => ?_) fun k => ?_
  · funext a
    match a with
    | ⟨0, _⟩ =>
      unfold DotDims.lhsIdx
      rw [dif_neg (by decide +revert), dif_pos (by decide +revert)]
      rfl
    | ⟨1, _⟩ => exact Fin.ext ((DotDims.lhsIdx_val_of_single _ rfl _ _).trans (hk k))
  · funext a
    match a with
    | ⟨0, _⟩ =>
      unfold DotDims.rhsIdx
      rw [dif_neg (by decide +revert), dif_pos (by decide +revert)]
      rfl
    | ⟨1, _⟩ => exact Fin.ext ((DotDims.rhsIdx_val_of_single _ rfl _ _).trans (hk k))

/-- Weights through values. -/
theorem mm_ctx (x : FVec Ideal S128x128 .bf16) (y : FVec Ideal S128x64 .bf16) (i : Fin 128) (o : Fin 64) :
    (matmul dot_S128x128_S128x64_S128x64_1_0_0_1_n_n none x y (constant (F := Ideal) S128x64 .f32 0x00000000#32) (ix2 i o) : EReal)
      = ∑ n : Fin 128, (x (ix2 i n) : EReal) * y (ix2 n o) := by
  have hk := ValueIdx.contrEquiv1_symm_val dot_S128x128_S128x64_S128x64_1_0_0_1_n_n 128 rfl rfl
  refine mm_apply _ 128 rfl rfl x y _ _ _ (fun k => ?_) fun k => ?_
  · funext a
    match a with
    | ⟨0, _⟩ =>
      unfold DotDims.lhsIdx
      rw [dif_neg (by decide +revert), dif_pos (by decide +revert)]
      rfl
    | ⟨1, _⟩ => exact Fin.ext ((DotDims.lhsIdx_val_of_single _ rfl _ _).trans (hk k))
  · funext a
    match a with
    | ⟨0, _⟩ => exact Fin.ext ((DotDims.rhsIdx_val_of_single _ rfl _ _).trans (hk k))
    | ⟨1, _⟩ =>
      unfold DotDims.rhsIdx
      rw [dif_neg (by decide +revert), dif_pos (by decide +revert)]
      rfl

/-- Contexts through output weights. -/
theorem mm_out (x : FVec Ideal S128x256 .bf16) (y : FVec Ideal S256x512 .bf16) (i : Fin 128) (o : Fin 512) :
    (matmul dot_S128x256_S256x512_S128x512_1_0_0_1_n_n none x y (constant (F := Ideal) S128x512 .f32 0x00000000#32) (ix2 i o) : EReal)
      = ∑ n : Fin 256, (x (ix2 i n) : EReal) * y (ix2 n o) := by
  have hk := ValueIdx.contrEquiv1_symm_val dot_S128x256_S256x512_S128x512_1_0_0_1_n_n 256 rfl rfl
  refine mm_apply _ 256 rfl rfl x y _ _ _ (fun k => ?_) fun k => ?_
  · funext a
    match a with
    | ⟨0, _⟩ =>
      unfold DotDims.lhsIdx
      rw [dif_neg (by decide +revert), dif_pos (by decide +revert)]
      rfl
    | ⟨1, _⟩ => exact Fin.ext ((DotDims.lhsIdx_val_of_single _ rfl _ _).trans (hk k))
  · funext a
    match a with
    | ⟨0, _⟩ => exact Fin.ext ((DotDims.rhsIdx_val_of_single _ rfl _ _).trans (hk k))
    | ⟨1, _⟩ =>
      unfold DotDims.rhsIdx
      rw [dif_neg (by decide +revert), dif_pos (by decide +revert)]
      rfl

/-- A row sum of weights. -/
theorem rsum_apply (e : FVec Ideal S128x128 .f32) (i : Fin 128) : (rsum e (ix2 i 0) : EReal) = ∑ j : Fin 128, (e (ix2 i j) : EReal) := by
  unfold rsum
  refine (shapeCast_apply _ shapeCasts_S128_S128x1 (ix2 i 0) (ix1 i) ?_).trans ?_
  · refine (rowMajor_val1 (d := ![128]) (ix1 i)).trans ((rowMajor_val2 (d := ![128, 1]) (ix2 i 0) 1 rfl).trans ?_).symm
    show i.val * 1 + 0 = i.val
    omega
  · refine (Ideal.multiReduction_add_single e _ reduces_S128x128_S128 _ _ (ix1 i)).trans ?_
    refine Finset.sum_congr rfl fun j _ => congrArg e ?_
    funext a
    match a with
    | ⟨0, _⟩ => rfl
    | ⟨1, _⟩ => rfl

/-! ## The inputs -/

/-- The four devices' region inputs are the blocks of `A`: plain arrays, codes of own keys and values, and their scales. -/
structure Holds (I : Dev nD → Inp Ideal) (A : Args) : Prop where
  x : ∀ c, (I c).x = A.x
  wq : ∀ c, (I c).wq = A.wq c
  wo : ∀ c, (I c).wo = A.wo c
  k : ∀ c b s g d, (I c).kv (ix5 0 g b s d) = code (A.k c) (ix4 b s g d)
  v : ∀ c b s g d, (I c).kv (ix5 1 g b s d) = code (A.v c) (ix4 b s g d)
  sk : ∀ c l, (I c).sc (ix2 0 l) = scale (A.k c)
  sv : ∀ c l, (I c).sc (ix2 1 l) = scale (A.v c)

variable {I : Dev nD → Inp Ideal} {A : Args} (H : Holds I A)

include H

/-- The queries of one head. -/
theorem qh_apply (c : Dev nD) (b : Fin 2) (h : Fin 4) (i : Fin 128) (d : Fin 64) : (qh I c b h (ix2 i d) : EReal) = qry A c b h i d := by
  unfold qh
  refine (extractStridedSlice_apply _ _ (slices_h h) (ix2 i d) (ix2 i (ch h d) : S128x256.Idx) fun a => ?_).trans ?_
  · match a with
    | ⟨0, _⟩ => exact (Nat.zero_add _).symm
    | ⟨1, _⟩ => rfl
  · refine (mm_qry _ _ i (ch h d)).trans ?_
    refine Finset.sum_congr rfl fun n _ => congrArg₂ (fun u w : EReal => u * w) ?_ ?_
    · refine (shapeCast_apply _ shapeCasts_S1x128x512_S128x512 (ix2 i n) (ix3 0 i n : S1x128x512.Idx) ?_).trans (congrFun (H.x c) _)
      refine (rowMajor_val3 (d := ![1, 128, 512]) _ 65536 512 rfl rfl).trans ((rowMajor_val2 (d := ![128, 512]) (ix2 i n) 512 rfl).trans ?_).symm
      show i.val * 512 + n.val = 0 * 65536 + i.val * 512 + n.val
      omega
    · exact (shapeCast_apply _ shapeCasts_S512x256_S512x256 (ix2 n (ch h d)) (ix2 n (ch h d)) rfl).trans (congrFun (H.wq c) _)

/-- One head's key codes of a slot, as numbers. -/
theorem keys_apply (c : Dev nD) (t : Fin 4) (b : Fin 2) (h : Fin 4) (j : Fin 128) (d : Fin 64) :
    (sitofp (F := Ideal) .bf16 (shapeCast S128x64 (ldK I c t h b) shapeCasts_S1x1x1x128x64_S128x64) (ix2 j d) : EReal)
      = kc A b (hd c h) (pe c (4 - t.val), j) d := by
  refine congrArg num ((shapeCast_apply _ shapeCasts_S1x1x1x128x64_S128x64 (ix2 j d) (ix5 0 0 0 j d : S1x1x1x128x64.Idx) ?_).trans (H.k _ b j (hd c h) d))
  refine (rowMajor_val5 (d := ![1, 1, 1, 128, 64]) _ 8192 8192 8192 64 rfl rfl rfl rfl).trans
    ((rowMajor_val2 (d := ![128, 64]) (ix2 j d) 64 rfl).trans ?_).symm
  show j.val * 64 + d.val = 0 * 8192 + 0 * 8192 + 0 * 8192 + j.val * 64 + d.val
  omega

/-- One head's value codes of a slot, as numbers. -/
theorem values_apply (c : Dev nD) (t : Fin 4) (b : Fin 2) (h : Fin 4) (j : Fin 128) (d : Fin 64) :
    (sitofp (F := Ideal) .bf16 (shapeCast S128x64 (ldV I c t h b) shapeCasts_S1x1x1x128x64_S128x64) (ix2 j d) : EReal)
      = vc A b (hd c h) (pe c (4 - t.val), j) d := by
  refine congrArg num ((shapeCast_apply _ shapeCasts_S1x1x1x128x64_S128x64 (ix2 j d) (ix5 0 0 0 j d : S1x1x1x128x64.Idx) ?_).trans (H.v _ b j (hd c h) d))
  refine (rowMajor_val5 (d := ![1, 1, 1, 128, 64]) _ 8192 8192 8192 64 rfl rfl rfl rfl).trans
    ((rowMajor_val2 (d := ![128, 64]) (ix2 j d) 64 rfl).trans ?_).symm
  show j.val * 64 + d.val = 0 * 8192 + 0 * 8192 + 0 * 8192 + j.val * 64 + d.val
  omega

omit H in
/-- Slot zero holds the device's own codes and scales. -/
theorem own_slot (c : Dev nD) : pe c (4 - 0) = c := by
  revert c
  decide

/-- The key scale of a slot, with the score factor. -/
theorem sk_apply (c : Dev nD) (t : Fin 4) : (sk I c t : EReal) = scale (A.k (pe c (4 - t.val))) * eighth := by
  match t with
  | ⟨0, _⟩ =>
    refine congrArg (fun u : EReal => u * eighth) ((H.sk c 0).trans ?_)
    rw [own_slot]
  | ⟨n + 1, h⟩ => exact congrArg (fun u : EReal => u * eighth) (H.sk _ _)

/-- The value scale of a slot. -/
theorem sv_apply (c : Dev nD) (t : Fin 4) : (sv I c t : EReal) = scale (A.v (pe c (4 - t.val))) := by
  match t with
  | ⟨0, _⟩ =>
    refine (H.sv c 0).trans ?_
    rw [own_slot]
  | ⟨n + 1, h⟩ => exact H.sv _ _

omit H in
/-- The word a slot's mask is made from is the number of the device the slot came from. -/
theorem sw_eq (c : Dev nD) (t : Fin 4) : sw c t = BitVec.ofNat 32 (pe c (4 - t.val)).val := by
  revert c t
  decide +kernel

omit H in
/-- The mask of a slot. -/
theorem mk_eq (c : Dev nD) (t : Fin 4) (i j : Fin 128) : mk c t (ix2 i j) = if seen i (pe c (4 - t.val), j) then 1#1 else 0#1 := by
  unfold mk
  rw [sw_eq]
  have hp : (pe c (4 - t.val)).val < 4 := (pe c (4 - t.val)).isLt
  generalize pe c (4 - t.val) = p at hp
  have hi := i.isLt
  have hj := j.isLt
  show IntOp.ori (IntOp.cmpi .sle (BitVec.ofNat 32 (0 * 128 + j.val) + BitVec.ofNat 32 p.val * BitVec.ofNat 32 128)
      (BitVec.ofNat 32 (0 * 128 + i.val) + BitVec.ofNat 32 128)) (IntOp.cmpi .slt (BitVec.ofNat 32 (0 * 128 + i.val)) (BitVec.ofNat 32 32)) = _
  rw [Nat.zero_mul, Nat.zero_add, Nat.zero_add, ← BitVec.ofNat_mul, ← BitVec.ofNat_add, ← BitVec.ofNat_add,
    sle_word _ _ (by omega) (by omega), slt_word _ _ (by omega) (by omega)]
  by_cases hs : seen i (p, j)
  · have h1 : 128 * p.val + j.val ≤ i.val + 128 ∨ i.val < 32 := hs
    rw [if_pos hs]
    by_cases h2 : i.val < 32
    · rw [if_pos h2]
      split <;> rfl
    · rw [if_pos (by omega), if_neg h2]
      rfl
  · have h1 : ¬(128 * p.val + j.val ≤ i.val + 128 ∨ i.val < 32) := hs
    rw [if_neg hs, if_neg (by omega), if_neg (by omega)]
    rfl

/-- A slot's weights. -/
theorem ef_apply (c : Dev nD) (t : Fin 4) (b : Fin 2) (h : Fin 4) (i j : Fin 128) :
    (ef I c t b h (ix2 i j) : EReal) = kw A c b h i (pe c (4 - t.val), j) := by
  have hs := mm_score (qh I c b h) (sitofp (F := Ideal) .bf16 (shapeCast S128x64 (ldK I c t h b) shapeCasts_S1x1x1x128x64_S128x64)) i j
  have hv : (∑ d : Fin 64, (qh I c b h (ix2 i d) : EReal)
      * sitofp (F := Ideal) .bf16 (shapeCast S128x64 (ldK I c t h b) shapeCasts_S1x1x1x128x64_S128x64) (ix2 j d))
      = ∑ d, qry A c b h i d * kc A b (hd c h) (pe c (4 - t.val), j) d :=
    Finset.sum_congr rfl fun d _ => congrArg₂ (fun u w : EReal => u * w) (qh_apply H c b h i d) (keys_apply H c t b h j d)
  have he := congrArg₂ (fun u w : EReal => Ideal.exp (u * w)) (hs.trans hv) (sk_apply H c t)
  unfold ef kw
  show Scalar.select (mk c t (ix2 i j)) _ _ = _
  rw [mk_eq]
  by_cases hse : seen i (pe c (4 - t.val), j)
  · rw [if_pos hse, if_pos hse]
    exact he
  · rw [if_neg hse, if_neg hse]
    exact Ideal.ofBits_zero_f32

omit H in
/-- Adding up slot by slot is adding up over the devices. -/
theorem turns_sum (c : Dev nD) (f : Fin 4 → EReal) :
    ((f (pe c (4 - 0)) + f (pe c (4 - 1))) + f (pe c (4 - 2))) + f (pe c (4 - 3)) = ∑ p, f p := by
  have hb : ∀ c : Dev nD, Function.Bijective fun t : Fin 4 => pe c (4 - t.val) := by decide
  rw [← (hb c).sum_comp, Fin.sum_univ_four]
  rfl

/-- The denominators. -/
theorem dn_apply (c : Dev nD) (b : Fin 2) (h : Fin 4) (i : Fin 128) : (dn I c b h 3 (ix2 i 0) : EReal) = kden A c b h i := by
  have hr : ∀ t : Fin 4, (rsum (ef I c t b h) (ix2 i 0) : EReal) = (fun p : Fin 4 => ∑ j, kw A c b h i (p, j)) (pe c (4 - t.val)) := fun t =>
    (rsum_apply _ i).trans (Finset.sum_congr rfl fun j _ => ef_apply H c t b h i j)
  unfold kden
  rw [Fintype.sum_prod_type, ← turns_sum c fun p => ∑ j, kw A c b h i (p, j)]
  exact congrArg₂ (fun u w : EReal => u + w) (congrArg₂ (fun u w : EReal => u + w) (congrArg₂ (fun u w : EReal => u + w) (hr 0) (hr 1)) (hr 2)) (hr 3)

/-- The weighted values. -/
theorem cx_apply (c : Dev nD) (b : Fin 2) (h : Fin 4) (i : Fin 128) (d : Fin 64) :
    (cx I c b h 3 (ix2 i d) : EReal) = ∑ j, (kw A c b h i j * scale (A.v j.1)) * vc A b (hd c h) j d := by
  have hr : ∀ t : Fin 4, (pv I c t b h (ix2 i d) : EReal)
      = (fun p : Fin 4 => ∑ j, (kw A c b h i (p, j) * scale (A.v p)) * vc A b (hd c h) (p, j) d) (pe c (4 - t.val)) := fun t => by
    refine (mm_ctx _ _ i d).trans (Finset.sum_congr rfl fun j _ => ?_)
    exact congrArg₂ (fun u w : EReal => u * w) (congrArg₂ (fun u w : EReal => u * w) (ef_apply H c t b h i j) (sv_apply H c t))
      (values_apply H c t b h j d)
  rw [Fintype.sum_prod_type, ← turns_sum c fun p => ∑ j, (kw A c b h i (p, j) * scale (A.v p)) * vc A b (hd c h) (p, j) d]
  exact congrArg₂ (fun u w : EReal => u + w) (congrArg₂ (fun u w : EReal => u + w) (congrArg₂ (fun u w : EReal => u + w) (hr 0) (hr 1)) (hr 2)) (hr 3)

omit H in
/-- Contexts over denominators, one head. -/
def nh (z : FVec Ideal S128x64 .f32) (w : FVec Ideal S128x1 .f32) : FVec Ideal S128x64 .f32 :=
  mulf z (broadcastTo S128x64 (divf (broadcast S128x1 (Scalar.ofBits (F := Ideal) .f32 0x3F800000#32)) w) broadcasts_S128x1_S128x64)

omit H in
/-- One head's context, divided by its row's denominator, entry by entry. -/
theorem nh_apply (z : FVec Ideal S128x64 .f32) (w : FVec Ideal S128x1 .f32) (i : Fin 128) (d : Fin 64) :
    (nh z w (ix2 i d) : EReal) = (z (ix2 i d) : EReal) * Ideal.div 1 (w (ix2 i 0)) := by
  refine congrArg (fun u : EReal => (z (ix2 i d) : EReal) * u) ((broadcastTo_apply _ broadcasts_S128x1_S128x64 (ix2 i d) (ix2 i 0 : S128x1.Idx) fun a => ?_).trans
    (congrArg (fun u : EReal => Ideal.div u (w (ix2 i 0))) (c1.trans EReal.coe_one)))
  match a with
  | ⟨0, _⟩ => rfl
  | ⟨1, _⟩ => rfl

omit H in
/-- The four heads side by side. -/
def four (z : Fin 4 → FVec Ideal S128x64 .f32) : FVec Ideal S128x256 .f32 :=
  concatenate S128x256 1 [⟨S128x64, z 0⟩, ⟨S128x64, z 1⟩, ⟨S128x64, z 2⟩, ⟨S128x64, z 3⟩] concatenates_S128x64_S128x64_S128x64_S128x64_S128x256_d1

omit H in
/-- Four heads side by side: column `ch h d` is column `d` of head `h`. -/
theorem four_apply (z : Fin 4 → FVec Ideal S128x64 .f32) (i : Fin 128) (h : Fin 4) (d : Fin 64) : four z (ix2 i (ch h d)) = z h (ix2 i d) := by
  unfold four
  refine concatenate_apply_piece (t := S128x256) 1 [⟨S128x64, z 0⟩, ⟨S128x64, z 1⟩, ⟨S128x64, z 2⟩, ⟨S128x64, z 3⟩] _ (ix2 i (ch h d)) h.val h.isLt S128x64 (z h) ?_ rfl (64 * h.val) ?_ (ix2 i d) (fun a ha => ?_) rfl
  · match h with
    | 0 => rfl
    | 1 => rfl
    | 2 => rfl
    | 3 => rfl
  · match h with
    | 0 => rfl
    | 1 => rfl
    | 2 => rfl
    | 3 => rfl
  · match a with
    | ⟨0, _⟩ => rfl
    | ⟨1, _⟩ => exact absurd rfl ha

omit H in
/-- A sum over a device's 256 channels, head by head. -/
theorem sum_ch (f : Fin 256 → EReal) : ∑ n, f n = ∑ h : Fin 4, ∑ d : Fin 64, f (ch h d) := by
  have hb : Function.Bijective fun q : Fin 4 × Fin 64 => ch q.1 q.2 := by
    refine ⟨fun p q e => ?_, fun n => ⟨(⟨n.val / 64, by omega⟩, ⟨n.val % 64, by omega⟩), Fin.ext (by show 64 * (n.val / 64) + n.val % 64 = n.val; omega)⟩⟩
    have e' : 64 * p.1.val + p.2.val = 64 * q.1.val + q.2.val := congrArg Fin.val e
    have := p.2.isLt
    have := q.2.isLt
    exact Prod.ext (Fin.ext (by omega)) (Fin.ext (by omega))
  rw [← hb.sum_comp, Fintype.sum_prod_type]

/-- A device's partial output. -/
theorem po_apply (c : Dev nD) (b : Fin 2) (i : Fin 128) (o : Fin 512) :
    (po I c b (ix2 i o) : EReal) = ∑ h, ∑ d, kctx A c b h i d * A.wo c (ix2 (ch h d) o) := by
  refine (mm_out (truncf .bf16 (four fun h => nh (cx I c b h 3) (dn I c b h 3)) bitsLt_bf16_f32) (k0_pay138 (ldO I c)) i o).trans ?_
  refine (sum_ch _).trans (Finset.sum_congr rfl fun h _ => Finset.sum_congr rfl fun d _ => congrArg₂ (fun u w : EReal => u * w) ?_ ?_)
  · refine (four_apply (fun h => nh (cx I c b h 3) (dn I c b h 3)) i h d).trans ((nh_apply _ _ i d).trans ?_)
    exact congrArg₂ (fun u w : EReal => u * Ideal.div 1 w) (cx_apply H c b h i d) (dn_apply H c b h i)
  · exact (shapeCast_apply _ shapeCasts_S256x512_S256x512 (ix2 (ch h d) o) (ix2 (ch h d) o) rfl).trans (congrFun (H.wo c) _)

/-- A device's column block of the result. -/
theorem ro_apply (c : Dev nD) (b : Fin 2) (i j : Fin 128) : (ro I c b (ix2 i j) : EReal) = out A (kctx A) b i (colE (c, j)) := by
  let f : Fin 4 → EReal := fun p => ∑ h, ∑ d, kctx A p b h i d * A.wo p (ix2 (ch h d) (colE (c, j)))
  have h0 : (shapeCast S128x128 (ldD I c b) shapeCasts_S1x128x128_S128x128 (ix2 i j) : EReal) = f c := by
    refine (shapeCast_apply _ shapeCasts_S1x128x128_S128x128 (ix2 i j) (ix3 0 i j : S1x128x128.Idx) ?_).trans (po_apply H c b i (colE (c, j)))
    refine (rowMajor_val3 (d := ![1, 128, 128]) _ 16384 128 rfl rfl).trans ((rowMajor_val2 (d := ![128, 128]) (ix2 i j) 128 rfl).trans ?_).symm
    show i.val * 128 + j.val = 0 * 16384 + i.val * 128 + j.val
    omega
  have hr : ∀ o : Fin 4, (shapeCast S128x128 (ldR I c o b) shapeCasts_S1x1x128x128_S128x128 (ix2 i j) : EReal) = f o := fun o => by
    refine (shapeCast_apply _ shapeCasts_S1x1x128x128_S128x128 (ix2 i j) (ix4 0 0 i j : S1x1x128x128.Idx) ?_).trans (po_apply H o b i (colE (c, j)))
    refine (rowMajor_val4 (d := ![1, 1, 128, 128]) _ 16384 16384 128 rfl rfl rfl).trans ((rowMajor_val2 (d := ![128, 128]) (ix2 i j) 128 rfl).trans ?_).symm
    show i.val * 128 + j.val = 0 * 16384 + 0 * 16384 + i.val * 128 + j.val
    omega
  have hs : ((f c + f (pe c 1)) + f (pe c 2)) + f (pe c 3) = ∑ p, f p := by
    rw [← turns_sum c f, own_slot]
    show _ = ((f c + f (pe c 3)) + f (pe c 2)) + f (pe c 1)
    rw [add_assoc, add_assoc, add_assoc, add_assoc, add_comm (f (pe c 1)), add_assoc, add_left_comm (f (pe c 2))]
  refine Eq.trans ?_ hs
  exact congrArg₂ (fun u w : EReal => u + w) (congrArg₂ (fun u w : EReal => u + w) (congrArg₂ (fun u w : EReal => u + w) h0 (hr _)) (hr _)) (hr _)

/-- The whole result, the same on every device. -/
theorem OUT_apply (c : Dev nD) (b : Fin 2) (i : Fin 128) (o : Fin 512) : (OUT I c (ix3 b i o) : EReal) = out A (kctx A) b i o := by
  have ho : colE (cblk o, cofs o) = o := colE.apply_symm_apply o
  unfold OUT
  show (if cblk o = c then ro I c b (ix2 i (cofs o)) else k0_pay165 (ldA I c (cblk o)) (ix3 b i (cofs o))) = _
  by_cases hc : cblk o = c
  · rw [if_pos hc]
    exact (ro_apply H c b i (cofs o)).trans (by rw [← hc, ho])
  · rw [if_neg hc]
    have hro := ro_apply H (cblk o) b i (cofs o)
    rw [ho] at hro
    have hA : (ldA I c (cblk o) (ix4 0 b i (cofs o)) : EReal) = ro I (cblk o) b (ix2 i (cofs o)) := rfl
    have hS : (k0_pay165 (ldA I c (cblk o)) (ix3 b i (cofs o)) : EReal)
        = shapeCast S2x128x128 (ldA I c (cblk o)) shapeCasts_S1x2x128x128_S2x128x128 (ix3 b i (cofs o)) := rfl
    refine hS.trans ((shapeCast_apply (ldA I c (cblk o)) shapeCasts_S1x2x128x128_S2x128x128 (ix3 b i (cofs o)) (ix4 0 b i (cofs o)) ?_).trans (hA.trans hro))
    refine (rowMajor_val4 (d := ![1, 2, 128, 128]) _ 32768 16384 128 rfl rfl rfl).trans
      ((rowMajor_val3 (d := ![2, 128, 128]) (ix3 b i (cofs o)) 16384 128 rfl rfl).trans ?_).symm
    show b.val * 16384 + i.val * 128 + (cofs o).val = 0 * 32768 + b.val * 16384 + i.val * 128 + (cofs o).val
    omega

end Cert.Attn
-- ==== Proof.Value.lean ====
/- The value claim: on real activations and query weights, kernel and reference end with one array. -/
module

public import proofs.«01_k».proof.Defs
public import proofs.«01_k».proof.Proof.Main
public import proofs.«01_k».proof.Proof.KerHost
public import proofs.«01_k».proof.Proof.KerVal
public import proofs.«01_k».proof.Proof.Gen.ReferenceIdeal.Read
public import proofs.«01_k».proof.Proof.Gen.Pre_finite_KernelIdeal

@[expose] public section

noncomputable section

namespace Cert.Attn

open Idealize.ShloMosaic Idealize.ShloMosaic.TcCoe Idealize.SL.Sem

/-! ## What the precondition says -/

/-- The format's infinity is the greatest extended real. -/
theorem ctop : Ideal.ofBits .bf16 0x7F80#16 = ⊤ := by
  simp [Ideal.ofBits, Ideal.ieee, -EReal.coe_mul]

/-- An element whose magnitude is below infinity is real. -/
theorem isReal_of_lt {x : EReal} (h : max x (-x) < ⊤) : IsReal x := by
  have h1 : x ≠ ⊤ := fun e => by simp [e] at h
  have h2 : x ≠ ⊥ := fun e => by simp [e] at h
  exact ⟨x.toReal, (EReal.coe_toReal h1 h2).symm⟩

/-- A conjunction over a whole array of comparisons with infinity: every element is real. -/
theorem isReal_of_all {s u : Shape} {axes : List (Fin s.rank)} (x : s.Idx → EReal) (init : u.Idx → BitVec 1)
    (h : s.ReducesTo axes Cert.Pre_finite_KernelIdeal.S_) (hu : 0 < u.numel)
    (hb : Cert.Pre_finite_KernelIdeal.S_.BroadcastsInDim s (![] : Fin 0 → Fin s.rank)) (j : Cert.Pre_finite_KernelIdeal.S_.Idx)
    (hr : Host.reduce IntOp.andi (cmpf (F := Ideal) (φ := .bf16) .olt (Host.absf (F := Ideal) (φ := .bf16) x)
      (broadcastInDim s ![] hb (constant (F := Ideal) Cert.Pre_finite_KernelIdeal.S_ .bf16 0x7F80#16))) init h hu j = 1#1) (i : s.Idx) :
    IsReal (x i) := by
  have hi := hostAnd_eq _ _ h hu j hr i (funext fun a => a.elim0)
  have hc : BitVec.ofBool (decide (max (x i) (-(x i)) < Ideal.ofBits .bf16 0x7F80#16)) = 1#1 := hi
  rw [ctop] at hc
  refine isReal_of_lt ?_
  by_contra hn
  rw [decide_eq_false hn] at hc
  exact absurd hc (by decide)

/-- The two halves of a conjunction of bits that holds. -/
theorem and_bits : ∀ x y : BitVec 1, IntOp.andi x y = 1#1 → x = 1#1 ∧ y = 1#1 := by decide

/-! ## The blocks of the whole arrays -/

open Cert.KernelIdeal Cert.KernelIdeal.Gen Cert.KernelIdeal.Mesh

/-- A device's keys or values are its block of the whole array. -/
theorem block_seq (c : Fin 4) (T : (⟨4, ![2, 512, 16, 64]⟩ : Shape).Idx → EReal) :
    Layout.block ⟨4, ![2, 128, 16, 64]⟩ ⟨4, ![2, 512, 16, 64]⟩ 1 4 c T = blkOf T c := by
  funext i
  rw [Layout.block_apply]
  unfold blkOf
  refine congrArg T (funext fun a => Fin.ext ?_)
  rw [Layout.Tiles.idx_val]
  match a with
  | ⟨0, _⟩ => rfl
  | ⟨1, _⟩ =>
    show c.val * 128 + (i 1).val = 128 * c.val + (i 1).val
    omega
  | ⟨2, _⟩ => rfl
  | ⟨3, _⟩ => rfl

/-- A device's query weights are its columns of the whole array. -/
theorem block_cols (c : Fin 4) (T : (⟨2, ![512, 1024]⟩ : Shape).Idx → EReal) (x0 : (⟨3, ![2, 128, 512]⟩ : Shape).Idx → EReal)
    (x2 x3 : (⟨4, ![2, 512, 16, 64]⟩ : Shape).Idx → EReal) (x4 : (⟨2, ![1024, 512]⟩ : Shape).Idx → EReal) :
    Layout.block ⟨2, ![512, 256]⟩ ⟨2, ![512, 1024]⟩ 1 4 c T = (argsOf x0 T x2 x3 x4).wq c := by
  funext i
  rw [Layout.block_apply]
  refine congrArg T (funext fun a => Fin.ext ?_)
  rw [Layout.Tiles.idx_val]
  match a with
  | ⟨0, _⟩ => rfl
  | ⟨1, _⟩ =>
    show c.val * 256 + (i 1).val = 256 * c.val + (i 1).val
    omega

/-- A device's output weights are its rows of the whole array. -/
theorem block_rows (c : Fin 4) (T : (⟨2, ![1024, 512]⟩ : Shape).Idx → EReal) (x0 : (⟨3, ![2, 128, 512]⟩ : Shape).Idx → EReal)
    (x1 : (⟨2, ![512, 1024]⟩ : Shape).Idx → EReal) (x2 x3 : (⟨4, ![2, 512, 16, 64]⟩ : Shape).Idx → EReal) :
    Layout.block ⟨2, ![256, 512]⟩ ⟨2, ![1024, 512]⟩ 0 4 c T = (argsOf x0 x1 x2 x3 T).wo c := by
  funext i
  rw [Layout.block_apply]
  refine congrArg T (funext fun a => Fin.ext ?_)
  rw [Layout.Tiles.idx_val]
  match a with
  | ⟨0, _⟩ =>
    show c.val * 256 + (i 0).val = 256 * c.val + (i 0).val
    omega
  | ⟨1, _⟩ => rfl

/-! ## The claim -/

/-- Kernel and reference, started on the blocks of one set of arrays whose activations and query weights are real, end with
    one result: the kernel's on every device is the reference's. -/
theorem algebraic : Cert.algebraic_KernelIdeal_ReferenceIdeal_pre_finite_KernelIdeal := by
  intro m g m' g' hpre hargs
  let x0 : (⟨3, ![2, 128, 512]⟩ : Shape).Idx → EReal := m' (((0 : Dev Cert.ReferenceIdeal.nD).tc : Thread Cert.ReferenceIdeal.nD Cert.ReferenceIdeal.τ).loc Cert.ReferenceIdeal.main_arg0)
  let x1 : (⟨2, ![512, 1024]⟩ : Shape).Idx → EReal := m' (((0 : Dev Cert.ReferenceIdeal.nD).tc : Thread Cert.ReferenceIdeal.nD Cert.ReferenceIdeal.τ).loc Cert.ReferenceIdeal.main_arg1)
  let x2 : (⟨4, ![2, 512, 16, 64]⟩ : Shape).Idx → EReal := m' (((0 : Dev Cert.ReferenceIdeal.nD).tc : Thread Cert.ReferenceIdeal.nD Cert.ReferenceIdeal.τ).loc Cert.ReferenceIdeal.main_arg2)
  let x3 : (⟨4, ![2, 512, 16, 64]⟩ : Shape).Idx → EReal := m' (((0 : Dev Cert.ReferenceIdeal.nD).tc : Thread Cert.ReferenceIdeal.nD Cert.ReferenceIdeal.τ).loc Cert.ReferenceIdeal.main_arg3)
  let x4 : (⟨2, ![1024, 512]⟩ : Shape).Idx → EReal := m' (((0 : Dev Cert.ReferenceIdeal.nD).tc : Thread Cert.ReferenceIdeal.nD Cert.ReferenceIdeal.τ).loc Cert.ReferenceIdeal.main_arg4)
  let A : Args := argsOf x0 x1 x2 x3 x4
  have h0 : ∀ c : Dev nD, m (c.tc.loc main_arg0) = A.x := fun c => (hargs c).1
  have h1 : ∀ c : Dev nD, m (c.tc.loc main_arg1) = A.wq c := fun c => (hargs c).2.1.trans (block_cols c x1 x0 x2 x3 x4)
  have h2 : ∀ c : Dev nD, m (c.tc.loc main_arg2) = A.k c := fun c => (hargs c).2.2.1.trans (block_seq c x2)
  have h3 : ∀ c : Dev nD, m (c.tc.loc main_arg3) = A.v c := fun c => (hargs c).2.2.2.1.trans (block_seq c x3)
  have h4 : ∀ c : Dev nD, m (c.tc.loc main_arg4) = A.wo c := fun c => (hargs c).2.2.2.2.trans (block_rows c x4 x0 x1 x2 x3)
  have ho0 : ∀ c : Dev nD, own m c 0 = A.k c := h2
  have ho1 : ∀ c : Dev nD, own m c 1 = A.v c := h3
  have H : Holds (inp m) A :=
    { x := fun c => (inp_x m c).trans (h0 c)
      wq := fun c => (inp_wq m c).trans (h1 c)
      wo := fun c => (inp_wo m c).trans (h4 c)
      k := fun c b s g d => (inp_kv m c 0 b s g d).trans (by rw [ho0])
      v := fun c b s g d => (inp_kv m c 1 b s g d).trans (by rw [ho1])
      sk := fun c l => (inp_sc m c 0 l).trans (by rw [ho0])
      sv := fun c l => (inp_sc m c 1 l).trans (by rw [ho1]) }
  have hreal : ∀ c : Dev nD, (∀ i, IsReal (A.x i)) ∧ ∀ i, IsReal (A.wq c i) := fun c => by
    obtain ⟨hx, hw⟩ := and_bits _ _ (congrFun (hpre c) (fun a => a.elim0))
    rw [← h0 c, ← h1 c]
    exact ⟨isReal_of_all _ _ _ _ _ _ hx, isReal_of_all _ _ _ _ _ _ hw⟩
  have hctx : kctx A = rctx A := kctx_eq_rctx A (hreal 0).1 fun c => (hreal c).2
  refine ⟨fun i : (⟨3, ![2, 128, 512]⟩ : Shape).Idx => out A (kctx A) (i 0) (i 1) (i 2), ?_, ?_⟩
  · refine (θ_run Cert.KernelIdeal.defs _ _).mono (fun r h c => ⟨((h.1 c).1).trans (funext fun i => ?_), (h.1 c).2⟩)
      (Cert.KernelIdeal.Mesh.run_kernel (F := Ideal) m g)
    exact (congrArg (OUT (inp m) c) (ix3_eta (n0 := 2) (n1 := 128) (n2 := 512) i).symm).trans (OUT_apply H c (i 0) (i 1) (i 2))
  · refine (θ_run Cert.ReferenceIdeal.defs _ _).mono (fun r h => ⟨((h 0).1).trans ((Cert.ReferenceIdeal.Read.val_main_v83_eq m' 0).trans (funext fun i => ?_)), (h 0).2⟩)
      (Cert.ReferenceIdeal.Value.run (F := Ideal) m' g')
    rw [hctx]
    exact (congrArg (Cert.ReferenceIdeal.Read.val_main_v83 (F := Ideal) x0 x1 x2 x3 x4) (ix3_eta (n0 := 2) (n1 := 128) (n2 := 512) i).symm).trans
      (ref_apply x0 x1 x2 x3 x4 (i 0) (i 1) (i 2))

end Cert.Attn
-- ==== Proof.lean ====
/- The certificate of one attention kernel on a ring of four devices: its frames, that the ideal program is the
   kernel's own, and that over the extended reals it computes the reference's attention. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Read
public import proofs.«01_k».proof.Proof.Gen.Pre_finite_KernelIdeal
public import proofs.«01_k».proof.Proof.Gen.Pre_finite_ReferenceIdeal
public import proofs.«01_k».proof.Proof.Frames
public import proofs.«01_k».proof.Proof.Value

@[expose] public section

noncomputable section

namespace Cert.Proof

/-- Every claim of the certificate. -/
theorem claim : Cert.Claim := ⟨Cert.Kernel.Gen.facts, Cert.KernelIdeal.Gen.facts, Cert.ReferenceIdeal.Gen.facts,
  Cert.Pre_finite_KernelIdeal.Gen.facts, Cert.Pre_finite_ReferenceIdeal.Gen.facts,
  frame_kernel, frame_ideal, frame_ideal_pre, frame_reference, frame_reference_pre, trivial, Cert.Attn.algebraic⟩

end Cert.Proof

end
